-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3)
      ∧ r.2.mem ((c.tc : Thread Cert.Fin.nD Cert.Fin.τ).loc Cert.Fin.main_arg4) = m ((c.tc : Thread Cert.Fin.nD Cert.Fin.τ).loc Cert.Fin.main_arg4)
      ∧ r.2.mem ((c.tc : Thread Cert.Fin.nD Cert.Fin.τ).loc Cert.Fin.main_arg5) = m ((c.tc : Thread Cert.Fin.nD Cert.Fin.τ).loc Cert.Fin.main_arg5)
      ∧ r.2.mem ((c.tc : Thread Cert.Fin.nD Cert.Fin.τ).loc Cert.Fin.main_arg6) = m ((c.tc : Thread Cert.Fin.nD Cert.Fin.τ).loc Cert.Fin.main_arg6)
      ∧ r.2.mem ((c.tc : Thread Cert.Fin.nD Cert.Fin.τ).loc Cert.Fin.main_arg7) = m ((c.tc : Thread Cert.Fin.nD Cert.Fin.τ).loc Cert.Fin.main_arg7)
      ∧ r.2.mem ((c.tc : Thread Cert.Fin.nD Cert.Fin.τ).loc Cert.Fin.main_arg8) = m ((c.tc : Thread Cert.Fin.nD Cert.Fin.τ).loc Cert.Fin.main_arg8))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
      ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
      ∧ r.2.mem ((c.tc : Thread Cert.FinIdeal.nD Cert.FinIdeal.τ).loc Cert.FinIdeal.main_arg5) = m ((c.tc : Thread Cert.FinIdeal.nD Cert.FinIdeal.τ).loc Cert.FinIdeal.main_arg5)
      ∧ r.2.mem ((c.tc : Thread Cert.FinIdeal.nD Cert.FinIdeal.τ).loc Cert.FinIdeal.main_arg6) = m ((c.tc : Thread Cert.FinIdeal.nD Cert.FinIdeal.τ).loc Cert.FinIdeal.main_arg6)
      ∧ r.2.mem ((c.tc : Thread Cert.FinIdeal.nD Cert.FinIdeal.τ).loc Cert.FinIdeal.main_arg7) = m ((c.tc : Thread Cert.FinIdeal.nD Cert.FinIdeal.τ).loc Cert.FinIdeal.main_arg7)
      ∧ r.2.mem ((c.tc : Thread Cert.FinIdeal.nD Cert.FinIdeal.τ).loc Cert.FinIdeal.main_arg8) = m ((c.tc : Thread Cert.FinIdeal.nD Cert.FinIdeal.τ).loc Cert.FinIdeal.main_arg8))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3)
      ∧ r.2.mem ((c.tc : Thread Cert.FinRefIdeal.nD Cert.FinRefIdeal.τ).loc Cert.FinRefIdeal.main_arg4) = m ((c.tc : Thread Cert.FinRefIdeal.nD Cert.FinRefIdeal.τ).loc Cert.FinRefIdeal.main_arg4)
      ∧ r.2.mem ((c.tc : Thread Cert.FinRefIdeal.nD Cert.FinRefIdeal.τ).loc Cert.FinRefIdeal.main_arg5) = m ((c.tc : Thread Cert.FinRefIdeal.nD Cert.FinRefIdeal.τ).loc Cert.FinRefIdeal.main_arg5)
      ∧ r.2.mem ((c.tc : Thread Cert.FinRefIdeal.nD Cert.FinRefIdeal.τ).loc Cert.FinRefIdeal.main_arg6) = m ((c.tc : Thread Cert.FinRefIdeal.nD Cert.FinRefIdeal.τ).loc Cert.FinRefIdeal.main_arg6)
      ∧ r.2.mem ((c.tc : Thread Cert.FinRefIdeal.nD Cert.FinRefIdeal.τ).loc Cert.FinRefIdeal.main_arg7) = m ((c.tc : Thread Cert.FinRefIdeal.nD Cert.FinRefIdeal.τ).loc Cert.FinRefIdeal.main_arg7)
      ∧ r.2.mem ((c.tc : Thread Cert.FinRefIdeal.nD Cert.FinRefIdeal.τ).loc Cert.FinRefIdeal.main_arg8) = m ((c.tc : Thread Cert.FinRefIdeal.nD Cert.FinRefIdeal.τ).loc Cert.FinRefIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v1) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v38) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v59) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)
      ∧ m' ((c.tc : Thread Cert.FinRefIdeal.nD Cert.FinRefIdeal.τ).loc Cert.FinRefIdeal.main_arg4) = m ((c.tc : Thread Cert.FinIdeal.nD Cert.FinIdeal.τ).loc Cert.FinIdeal.main_arg4)
      ∧ m' ((c.tc : Thread Cert.FinRefIdeal.nD Cert.FinRefIdeal.τ).loc Cert.FinRefIdeal.main_arg5) = m ((c.tc : Thread Cert.FinIdeal.nD Cert.FinIdeal.τ).loc Cert.FinIdeal.main_arg5)
      ∧ m' ((c.tc : Thread Cert.FinRefIdeal.nD Cert.FinRefIdeal.τ).loc Cert.FinRefIdeal.main_arg6) = m ((c.tc : Thread Cert.FinIdeal.nD Cert.FinIdeal.τ).loc Cert.FinIdeal.main_arg6)
      ∧ m' ((c.tc : Thread Cert.FinRefIdeal.nD Cert.FinRefIdeal.τ).loc Cert.FinRefIdeal.main_arg7) = m ((c.tc : Thread Cert.FinIdeal.nD Cert.FinIdeal.τ).loc Cert.FinIdeal.main_arg7)
      ∧ m' ((c.tc : Thread Cert.FinRefIdeal.nD Cert.FinRefIdeal.τ).loc Cert.FinRefIdeal.main_arg8) = m ((c.tc : Thread Cert.FinIdeal.nD Cert.FinIdeal.τ).loc Cert.FinIdeal.main_arg8)) →
    ∃ (v0 : (c : Dev Cert.FinIdeal.nD) → Buf (Elt Ideal) ((c.tc : Thread Cert.FinIdeal.nD Cert.FinIdeal.τ).loc Cert.FinIdeal.main_v8)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v8) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
          ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
          ∧ r.2.mem ((c.tc : Thread Cert.FinIdeal.nD Cert.FinIdeal.τ).loc Cert.FinIdeal.main_arg5) = m ((c.tc : Thread Cert.FinIdeal.nD Cert.FinIdeal.τ).loc Cert.FinIdeal.main_arg5)
          ∧ r.2.mem ((c.tc : Thread Cert.FinIdeal.nD Cert.FinIdeal.τ).loc Cert.FinIdeal.main_arg6) = m ((c.tc : Thread Cert.FinIdeal.nD Cert.FinIdeal.τ).loc Cert.FinIdeal.main_arg6)
          ∧ r.2.mem ((c.tc : Thread Cert.FinIdeal.nD Cert.FinIdeal.τ).loc Cert.FinIdeal.main_arg7) = m ((c.tc : Thread Cert.FinIdeal.nD Cert.FinIdeal.τ).loc Cert.FinIdeal.main_arg7)
          ∧ r.2.mem ((c.tc : Thread Cert.FinIdeal.nD Cert.FinIdeal.τ).loc Cert.FinIdeal.main_arg8) = m ((c.tc : Thread Cert.FinIdeal.nD Cert.FinIdeal.τ).loc Cert.FinIdeal.main_arg8))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v72) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3)
          ∧ r.2.mem ((c.tc : Thread Cert.FinRefIdeal.nD Cert.FinRefIdeal.τ).loc Cert.FinRefIdeal.main_arg4) = m' ((c.tc : Thread Cert.FinRefIdeal.nD Cert.FinRefIdeal.τ).loc Cert.FinRefIdeal.main_arg4)
          ∧ r.2.mem ((c.tc : Thread Cert.FinRefIdeal.nD Cert.FinRefIdeal.τ).loc Cert.FinRefIdeal.main_arg5) = m' ((c.tc : Thread Cert.FinRefIdeal.nD Cert.FinRefIdeal.τ).loc Cert.FinRefIdeal.main_arg5)
          ∧ r.2.mem ((c.tc : Thread Cert.FinRefIdeal.nD Cert.FinRefIdeal.τ).loc Cert.FinRefIdeal.main_arg6) = m' ((c.tc : Thread Cert.FinRefIdeal.nD Cert.FinRefIdeal.τ).loc Cert.FinRefIdeal.main_arg6)
          ∧ r.2.mem ((c.tc : Thread Cert.FinRefIdeal.nD Cert.FinRefIdeal.τ).loc Cert.FinRefIdeal.main_arg7) = m' ((c.tc : Thread Cert.FinRefIdeal.nD Cert.FinRefIdeal.τ).loc Cert.FinRefIdeal.main_arg7)
          ∧ r.2.mem ((c.tc : Thread Cert.FinRefIdeal.nD Cert.FinRefIdeal.τ).loc Cert.FinRefIdeal.main_arg8) = m' ((c.tc : Thread Cert.FinRefIdeal.nD Cert.FinRefIdeal.τ).loc Cert.FinRefIdeal.main_arg8))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v40_0)) (v1 : (c : Dev Cert.InpIdeal.nD) → Buf (Elt Ideal) ((c.tc : Thread Cert.InpIdeal.nD Cert.InpIdeal.τ).loc Cert.InpIdeal.main_v40_1)) (v2 : (c : Dev Cert.InpIdeal.nD) → Buf (Elt Ideal) ((c.tc : Thread Cert.InpIdeal.nD Cert.InpIdeal.τ).loc Cert.InpIdeal.main_v40_2)) (v3 : (c : Dev Cert.InpIdeal.nD) → Buf (Elt Ideal) ((c.tc : Thread Cert.InpIdeal.nD Cert.InpIdeal.τ).loc Cert.InpIdeal.main_v40_3)) (v4 : (c : Dev Cert.InpIdeal.nD) → Buf (Elt Ideal) ((c.tc : Thread Cert.InpIdeal.nD Cert.InpIdeal.τ).loc Cert.InpIdeal.main_v40_4)) (v5 : (c : Dev Cert.InpIdeal.nD) → Buf (Elt Ideal) ((c.tc : Thread Cert.InpIdeal.nD Cert.InpIdeal.τ).loc Cert.InpIdeal.main_v40_5)) (v6 : (c : Dev Cert.InpIdeal.nD) → Buf (Elt Ideal) ((c.tc : Thread Cert.InpIdeal.nD Cert.InpIdeal.τ).loc Cert.InpIdeal.main_v40_6)) (v7 : (c : Dev Cert.InpIdeal.nD) → Buf (Elt Ideal) ((c.tc : Thread Cert.InpIdeal.nD Cert.InpIdeal.τ).loc Cert.InpIdeal.main_v40_7)) (v8 : (c : Dev Cert.InpIdeal.nD) → Buf (Elt Ideal) ((c.tc : Thread Cert.InpIdeal.nD Cert.InpIdeal.τ).loc Cert.InpIdeal.main_v40_8)) (v9 : (c : Dev Cert.InpIdeal.nD) → Buf (Elt Ideal) ((c.tc : Thread Cert.InpIdeal.nD Cert.InpIdeal.τ).loc Cert.InpIdeal.main_v40_9)) (v10 : (c : Dev Cert.InpIdeal.nD) → Buf (Elt Ideal) ((c.tc : Thread Cert.InpIdeal.nD Cert.InpIdeal.τ).loc Cert.InpIdeal.main_v40_10)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v40_0) = v0 c
          ∧ r.2.mem ((c.tc : Thread Cert.InpIdeal.nD Cert.InpIdeal.τ).loc Cert.InpIdeal.main_v40_1) = v1 c
          ∧ r.2.mem ((c.tc : Thread Cert.InpIdeal.nD Cert.InpIdeal.τ).loc Cert.InpIdeal.main_v40_2) = v2 c
          ∧ r.2.mem ((c.tc : Thread Cert.InpIdeal.nD Cert.InpIdeal.τ).loc Cert.InpIdeal.main_v40_3) = v3 c
          ∧ r.2.mem ((c.tc : Thread Cert.InpIdeal.nD Cert.InpIdeal.τ).loc Cert.InpIdeal.main_v40_4) = v4 c
          ∧ r.2.mem ((c.tc : Thread Cert.InpIdeal.nD Cert.InpIdeal.τ).loc Cert.InpIdeal.main_v40_5) = v5 c
          ∧ r.2.mem ((c.tc : Thread Cert.InpIdeal.nD Cert.InpIdeal.τ).loc Cert.InpIdeal.main_v40_6) = v6 c
          ∧ r.2.mem ((c.tc : Thread Cert.InpIdeal.nD Cert.InpIdeal.τ).loc Cert.InpIdeal.main_v40_7) = v7 c
          ∧ r.2.mem ((c.tc : Thread Cert.InpIdeal.nD Cert.InpIdeal.τ).loc Cert.InpIdeal.main_v40_8) = v8 c
          ∧ r.2.mem ((c.tc : Thread Cert.InpIdeal.nD Cert.InpIdeal.τ).loc Cert.InpIdeal.main_v40_9) = v9 c
          ∧ r.2.mem ((c.tc : Thread Cert.InpIdeal.nD Cert.InpIdeal.τ).loc Cert.InpIdeal.main_v40_10) = v10 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v49) = v0 c
          ∧ r.2.mem ((c.tc : Thread Cert.InpRefIdeal.nD Cert.InpRefIdeal.τ).loc Cert.InpRefIdeal.main_v50) = v1 c
          ∧ r.2.mem ((c.tc : Thread Cert.InpRefIdeal.nD Cert.InpRefIdeal.τ).loc Cert.InpRefIdeal.main_v64) = v2 c
          ∧ r.2.mem ((c.tc : Thread Cert.InpRefIdeal.nD Cert.InpRefIdeal.τ).loc Cert.InpRefIdeal.main_v131) = v3 c
          ∧ r.2.mem ((c.tc : Thread Cert.InpRefIdeal.nD Cert.InpRefIdeal.τ).loc Cert.InpRefIdeal.main_v132) = v4 c
          ∧ r.2.mem ((c.tc : Thread Cert.InpRefIdeal.nD Cert.InpRefIdeal.τ).loc Cert.InpRefIdeal.main_v150) = v5 c
          ∧ r.2.mem ((c.tc : Thread Cert.InpRefIdeal.nD Cert.InpRefIdeal.τ).loc Cert.InpRefIdeal.main_v55) = v6 c
          ∧ r.2.mem ((c.tc : Thread Cert.InpRefIdeal.nD Cert.InpRefIdeal.τ).loc Cert.InpRefIdeal.main_v151) = v7 c
          ∧ r.2.mem ((c.tc : Thread Cert.InpRefIdeal.nD Cert.InpRefIdeal.τ).loc Cert.InpRefIdeal.main_v152) = v8 c
          ∧ r.2.mem ((c.tc : Thread Cert.InpRefIdeal.nD Cert.InpRefIdeal.τ).loc Cert.InpRefIdeal.main_v171) = v9 c
          ∧ r.2.mem ((c.tc : Thread Cert.InpRefIdeal.nD Cert.InpRefIdeal.τ).loc Cert.InpRefIdeal.main_v172) = v10 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v44)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v44) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v35) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def Claim : Prop :=
  ∃ (hScan : Cert.Scan.Facts) (hScanIdeal : Cert.ScanIdeal.Facts) (hScanRefIdeal : Cert.ScanRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFin : Cert.Fin.Facts) (hFinIdeal : Cert.FinIdeal.Facts) (hFinRefIdeal : Cert.FinRefIdeal.Facts) (hInp : Cert.Inp.Facts) (hInpIdeal : Cert.InpIdeal.Facts) (hInpRefIdeal : Cert.InpRefIdeal.Facts) (hCmp : Cert.Cmp.Facts) (hCmpIdeal : Cert.CmpIdeal.Facts) (hCmpRefIdeal : Cert.CmpRefIdeal.Facts),
    quiescent_Scan (hScan := hScan)
    ∧ quiescent_ScanIdeal (hScanIdeal := hScanIdeal)
    ∧ quiescent_ScanRefIdeal (hScanRefIdeal := hScanRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Fin (hFin := hFin)
    ∧ quiescent_FinIdeal (hFinIdeal := hFinIdeal)
    ∧ quiescent_FinRefIdeal (hFinRefIdeal := hFinRefIdeal)
    ∧ quiescent_Inp (hInp := hInp)
    ∧ quiescent_InpIdeal (hInpIdeal := hInpIdeal)
    ∧ quiescent_InpRefIdeal (hInpRefIdeal := hInpRefIdeal)
    ∧ quiescent_Cmp (hCmp := hCmp)
    ∧ quiescent_CmpIdeal (hCmpIdeal := hCmpIdeal)
    ∧ quiescent_CmpRefIdeal (hCmpRefIdeal := hCmpRefIdeal)
    ∧ preserves_Scan_ScanIdeal
    ∧ algebraic_ScanIdeal_ScanRefIdeal (hScanIdeal := hScanIdeal) (hScanRefIdeal := hScanRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Fin_FinIdeal
    ∧ algebraic_FinIdeal_FinRefIdeal (hFinIdeal := hFinIdeal) (hFinRefIdeal := hFinRefIdeal)
    ∧ preserves_Inp_InpIdeal
    ∧ algebraic_InpIdeal_InpRefIdeal (hInpIdeal := hInpIdeal) (hInpRefIdeal := hInpRefIdeal)
    ∧ preserves_Cmp_CmpIdeal
    ∧ algebraic_CmpIdeal_CmpRefIdeal (hCmpIdeal := hCmpIdeal) (hCmpRefIdeal := hCmpRefIdeal)
-- ==== Scan.lean ====
abbrev S4x4x4096x128 : Shape := ⟨4, ![4, 4, 4096, 128]⟩
abbrev S4x4x64x128x128 : Shape := ⟨5, ![4, 4, 64, 128, 128]⟩
abbrev S4x4x64x192x64 : Shape := ⟨5, ![4, 4, 64, 192, 64]⟩
abbrev S4x64x8x128 : Shape := ⟨4, ![4, 64, 8, 128]⟩
abbrev S4x4096x512 : Shape := ⟨3, ![4, 4096, 512]⟩
abbrev S128 : Shape := ⟨1, ![128]⟩
abbrev S1x128 : Shape := ⟨2, ![1, 128]⟩
abbrev S4x4x256x128 : Shape := ⟨4, ![4, 4, 256, 128]⟩
abbrev S4x4x4x128x128 : Shape := ⟨5, ![4, 4, 4, 128, 128]⟩
abbrev S4x4x4x192x64 : Shape := ⟨5, ![4, 4, 4, 192, 64]⟩
abbrev S4x4x8x128 : Shape := ⟨4, ![4, 4, 8, 128]⟩
abbrev S4x256x512 : Shape := ⟨3, ![4, 256, 512]⟩
abbrev S4x4x128x128 : Shape := ⟨4, ![4, 4, 128, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x1x64x128 : Shape := ⟨4, ![1, 1, 64, 128]⟩
abbrev S64x128 : Shape := ⟨2, ![64, 128]⟩
abbrev S1x1x1x192x64 : Shape := ⟨5, ![1, 1, 1, 192, 64]⟩
abbrev S192x64 : Shape := ⟨2, ![192, 64]⟩
abbrev S192x128 : Shape := ⟨2, ![192, 128]⟩
abbrev S1x1x1x128 : Shape := ⟨4, ![1, 1, 1, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 8
  | .vmem => 14
  | .smem => 0
  | _ => 0

abbrev bufTy : (tb : Table) → Fin (tcTables nBuf tb) → BufTy
  | .hbm, ⟨0, _⟩ => ⟨S4x4x4096x128, .f32⟩
  | .hbm, ⟨1, _⟩ => ⟨S4x4x64x128x128, .bf16⟩
  | .hbm, ⟨2, _⟩ => ⟨S4x4x64x192x64, .bf16⟩
  | .hbm, ⟨3, _⟩ => ⟨S4x64x8x128, .f32⟩
  | .hbm, ⟨4, _⟩ => ⟨S4x4096x512, .f32⟩
  | .hbm, ⟨5, _⟩ => ⟨S128, .f32⟩
  | .hbm, ⟨6, _⟩ => ⟨S1x128, .f32⟩
  | .hbm, ⟨7, _⟩ => ⟨S4x4096x512, .bf16⟩
  | .local _ .vmem, ⟨0, _⟩ => ⟨S4x4x256x128, .f32⟩
  | .local _ .vmem, ⟨1, _⟩ => ⟨S4x4x256x128, .f32⟩
  | .local _ .vmem, ⟨2, _⟩ => ⟨S4x4x4x128x128, .bf16⟩
  | .local _ .vmem, ⟨3, _⟩ => ⟨S4x4x4x128x128, .bf16⟩
  | .local _ .vmem, ⟨4, _⟩ => ⟨S4x4x4x192x64, .bf16⟩
  | .local _ .vmem, ⟨5, _⟩ => ⟨S4x4x4x192x64, .bf16⟩
  | .local _ .vmem, ⟨6, _⟩ => ⟨S4x4x8x128, .f32⟩
  | .local _ .vmem, ⟨7, _⟩ => ⟨S4x4x8x128, .f32⟩
  | .local _ .vmem, ⟨8, _⟩ => ⟨S4x256x512, .f32⟩
  | .local _ .vmem, ⟨9, _⟩ => ⟨S4x256x512, .f32⟩
  | .local _ .vmem, ⟨10, _⟩ => ⟨S1x128, .f32⟩
  | .local _ .vmem, ⟨11, _⟩ => ⟨S4x256x512, .bf16⟩
  | .local _ .vmem, ⟨12, _⟩ => ⟨S4x256x512, .bf16⟩
  | .local _ .vmem, ⟨13, _⟩ => ⟨S4x4x128x128, .f32⟩
  | _, _ => ⟨S4x4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x4x192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScanRefIdeal.lean ====
abbrev S4x4x4096x128 : Shape := ⟨4, ![4, 4, 4096, 128]⟩
abbrev S4x4x64x128x128 : Shape := ⟨5, ![4, 4, 64, 128, 128]⟩
abbrev S4x4x64x192x64 : Shape := ⟨5, ![4, 4, 64, 192, 64]⟩
abbrev S4x64x8x128 : Shape := ⟨4, ![4, 64, 8, 128]⟩
abbrev S4x4096x512 : Shape := ⟨3, ![4, 4096, 512]⟩
abbrev S128 : Shape := ⟨1, ![128]⟩
abbrev S4x4x64x64x128 : Shape := ⟨5, ![4, 4, 64, 64, 128]⟩
abbrev S64x4x4x64x128 : Shape := ⟨5, ![64, 4, 4, 64, 128]⟩
abbrev S4x4x64x64x64 : Shape := ⟨5, ![4, 4, 64, 64, 64]⟩
abbrev S64x4x4x64x64 : Shape := ⟨5, ![64, 4, 4, 64, 64]⟩
abbrev S4x4x64x128x64 : Shape := ⟨5, ![4, 4, 64, 128, 64]⟩
abbrev S64x4x4x128x64 : Shape := ⟨5, ![64, 4, 4, 128, 64]⟩
abbrev S4x64x4x128 : Shape := ⟨4, ![4, 64, 4, 128]⟩
abbrev S64x4x4x128 : Shape := ⟨4, ![64, 4, 4, 128]⟩
abbrev S_ : Shape := ⟨0, ![]⟩
abbrev S4x4x128x128 : Shape := ⟨4, ![4, 4, 128, 128]⟩
abbrev S1x4x4x64x128 : Shape := ⟨5, ![1, 4, 4, 64, 128]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x128x64 : Shape := ⟨5, ![1, 4, 4, 128, 64]⟩
abbrev S4x4x128x64 : Shape := ⟨4, ![4, 4, 128, 64]⟩
abbrev S1x4x4x128 : Shape := ⟨4, ![1, 4, 4, 128]⟩
abbrev S4x4x128 : Shape := ⟨3, ![4, 4, 128]⟩
abbrev S4x4x1x128 : Shape := ⟨4, ![4, 4, 1, 128]⟩
abbrev S4x64x64x4x128 : Shape := ⟨5, ![4, 64, 64, 4, 128]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S4x4x4096x128, .f32⟩
  | .hbm, ⟨1, _⟩ => ⟨S4x4x64x128x128, .bf16⟩
  | .hbm, ⟨2, _⟩ => ⟨S4x4x64x192x64, .bf16⟩
  | .hbm, ⟨3, _⟩ => ⟨S4x64x8x128, .f32⟩
  | .hbm, ⟨4, _⟩ => ⟨S4x4096x512, .f32⟩
  | .hbm, ⟨5, _⟩ => ⟨S128, .f32⟩
  | .hbm, ⟨6, _⟩ => ⟨S4x4x64x64x128, .f32⟩
  | .hbm, ⟨7, _⟩ => ⟨S64x4x4x64x128, .f32⟩
  | .hbm, ⟨8, _⟩ => ⟨S4x4x64x64x128, .bf16⟩
  | .hbm, ⟨9, _⟩ => ⟨S4x4x64x64x128, .f32⟩
  | .hbm, ⟨10, _⟩ => ⟨S64x4x4x64x128, .f32⟩
  | .hbm, ⟨11, _⟩ => ⟨S4x4x64x64x128, .bf16⟩
  | .hbm, ⟨12, _⟩ => ⟨S4x4x64x64x128, .f32⟩
  | .hbm, ⟨13, _⟩ => ⟨S64x4x4x64x128, .f32⟩
  | .hbm, ⟨14, _⟩ => ⟨S4x4x64x64x64, .bf16⟩
  | .hbm, ⟨15, _⟩ => ⟨S4x4x64x64x64, .f32⟩
  | .hbm, ⟨16, _⟩ => ⟨S64x4x4x64x64, .f32⟩
  | .hbm, ⟨17, _⟩ => ⟨S4x4x64x128x64, .bf16⟩
  | .hbm, ⟨18, _⟩ => ⟨S4x4x64x128x64, .f32⟩
  | .hbm, ⟨19, _⟩ => ⟨S64x4x4x128x64, .f32⟩
  | .hbm, ⟨20, _⟩ => ⟨S4x64x4x128, .f32⟩
  | .hbm, ⟨21, _⟩ => ⟨S64x4x4x128, .f32⟩
  | .hbm, ⟨22, _⟩ => ⟨S_, .f32⟩
  | .hbm, ⟨23, _⟩ => ⟨S4x4x128x128, .f32⟩
  | .hbm, ⟨24, _⟩ => ⟨S_, .f32⟩
  | .hbm, ⟨25, _⟩ => ⟨S64x4x4x64x128, .f32⟩
  | .hbm, ⟨26, _⟩ => ⟨S_, .i32⟩
  | .hbm, ⟨27, _⟩ => ⟨S64x4x4x64x128, .f32⟩
  | .hbm, ⟨28, _⟩ => ⟨S64x4x4x64x128, .f32⟩
  | .hbm, ⟨29, _⟩ => ⟨S64x4x4x64x128, .f32⟩
  | .hbm, ⟨30, _⟩ => ⟨S64x4x4x64x64, .f32⟩
  | .hbm, ⟨31, _⟩ => ⟨S64x4x4x128x64, .f32⟩
  | .hbm, ⟨32, _⟩ => ⟨S64x4x4x128, .f32⟩
  | .hbm, ⟨33, _⟩ => ⟨S_, .i32⟩
  | .hbm, ⟨34, _⟩ => ⟨S4x4x128x128, .f32⟩
  | .hbm, ⟨35, _⟩ => ⟨S64x4x4x64x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x4x4x64x128, .f32⟩
  | .hbm, ⟨43, _⟩ => ⟨S4x4x64x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x4x4x64x128, .f32⟩
  | .hbm, ⟨49, _⟩ => ⟨S4x4x64x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x4x4x64x128, .f32⟩
  | .hbm, ⟨55, _⟩ => ⟨S4x4x64x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x4x4x64x64, .f32⟩
  | .hbm, ⟨61, _⟩ => ⟨S4x4x64x64, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x4x4x128x64, .f32⟩
  | .hbm, ⟨67, _⟩ => ⟨S4x4x128x64, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x4x128, .f32⟩
  | .hbm, ⟨72, _⟩ => ⟨S4x4x128, .f32⟩
  | .hbm, ⟨73, _⟩ => ⟨S4x4x64x128, .f32⟩
  | .hbm, ⟨74, _⟩ => ⟨S4x4x64x128, .f32⟩
  | .hbm, ⟨75, _⟩ => ⟨S4x4x64x128, .f32⟩
  | .hbm, ⟨76, _⟩ => ⟨S4x4x64x128, .f32⟩
  | .hbm, ⟨77, _⟩ => ⟨S4x4x64x128, .f32⟩
  | .hbm, ⟨78, _⟩ => ⟨S4x4x1x128, .f32⟩
  | .hbm, ⟨79, _⟩ => ⟨S4x4x128x128, .f32⟩
  | .hbm, ⟨80, _⟩ => ⟨S4x4x128x128, .f32⟩
  | .hbm, ⟨81, _⟩ => ⟨S4x4x128x128, .f32⟩
  | .hbm, ⟨82, _⟩ => ⟨S4x4x128x128, .f32⟩
  | .hbm, ⟨83, _⟩ => ⟨S1x4x4x64x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S64x4x4x64x128, .f32⟩
  | .hbm, ⟨89, _⟩ => ⟨S_, .i32⟩
  | .hbm, ⟨90, _⟩ => ⟨S_, .i32⟩
  | .hbm, ⟨91, _⟩ => ⟨S4x64x64x4x128, .f32⟩
  | .hbm, ⟨92, _⟩ => ⟨S4x4096x4x128, .f32⟩
  | .hbm, ⟨93, _⟩ => ⟨S4x4096x4x128, .f32⟩
  | .hbm, ⟨94, _⟩ => ⟨S_, .f32⟩
  | .hbm, ⟨95, _⟩ => ⟨S4x4096x4, .f32⟩
  | .hbm, ⟨96, _⟩ => ⟨S4x4096x4x1, .f32⟩
  | .hbm, ⟨97, _⟩ => ⟨S_, .f32⟩
  | .hbm, ⟨98, _⟩ => ⟨S4x4096x4x1, .f32⟩
  | .hbm, ⟨99, _⟩ => ⟨S4x4096x4x1, .f32⟩
  | .hbm, ⟨100, _⟩ => ⟨S_, .f32⟩
  | .hbm, ⟨101, _⟩ => ⟨S4x4096x4x1, .f32⟩
  | .hbm, ⟨102, _⟩ => ⟨S4x4096x4x1, .f32⟩
  | .hbm, ⟨103, _⟩ => ⟨S4x4096x4x1, .f32⟩
  | .hbm, ⟨104, _⟩ => ⟨S4x4096x4x128, .f32⟩
  | .hbm, ⟨105, _⟩ => ⟨S4x4096x4x128, .f32⟩
  | .hbm, ⟨106, _⟩ => ⟨S1x1x1x128, .f32⟩
  | .hbm, ⟨107, _⟩ => ⟨S4x4096x4x128, .f32⟩
  | .hbm, ⟨108, _⟩ => ⟨S4x4096x4x128, .f32⟩
  | .hbm, ⟨109, _⟩ => ⟨S4x4096x4x128, .f32⟩
  | .hbm, ⟨110, _⟩ => ⟨S4x4096x4x128, .f32⟩
  | .hbm, ⟨111, _⟩ => ⟨S4x4096x4x128, .f32⟩
  | .hbm, ⟨112, _⟩ => ⟨S_, .f32⟩
  | .hbm, ⟨113, _⟩ => ⟨S4x4096x4x128, .f32⟩
  | .hbm, ⟨114, _⟩ => ⟨S4x4096x4x128, .f32⟩
  | .hbm, ⟨115, _⟩ => ⟨S_, .f32⟩
  | .hbm, ⟨116, _⟩ => ⟨S4x4096x4x128, .f32⟩
  | .hbm, ⟨117, _⟩ => ⟨S4x4096x4x128, .f32⟩
  | .hbm, ⟨118, _⟩ => ⟨S4x4096x4x128, .f32⟩
  | .hbm, ⟨119, _⟩ => ⟨S4x4096x4x128, .f32⟩
  | .hbm, ⟨120, _⟩ => ⟨S4x4096x512, .f32⟩
  | .hbm, ⟨121, _⟩ => ⟨S4x4096x512, .bf16⟩
  | _, _ => ⟨S4x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_c : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev main_while0c_c_12 : Ref sig .tc := ⟨.hbm, 36, rfl⟩
abbrev main_while0c_v39 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v0 : Ref sig .tc := ⟨.hbm, 42, rfl⟩
abbrev main_while0b_v39 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v40 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v41 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v42 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v43 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_call5_v0 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_c_2 : Ref sig .tc := ⟨.hbm, 87, rfl⟩
abbrev main_while0b_v55 : Ref sig .tc := ⟨.hbm, 88, rfl⟩
abbrev main_while0b_c_12 : Ref sig .tc := ⟨.hbm, 89, rfl⟩
abbrev main_while0b_v56 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_cst_1 : Ref sig .tc := ⟨.hbm, 94, rfl⟩
abbrev main_v22 : Ref sig .tc := ⟨.hbm, 95, rfl⟩
abbrev main_v23 : Ref sig .tc := ⟨.hbm, 96, rfl⟩
abbrev main_cst_2 : Ref sig .tc := ⟨.hbm, 97, rfl⟩
abbrev main_v24 : Ref sig .tc := ⟨.hbm, 98, rfl⟩
abbrev main_v25 : Ref sig .tc := ⟨.hbm, 99, rfl⟩
abbrev main_cst_3 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_call7_v0 : Ref sig .tc := ⟨.hbm, 110, rfl⟩
abbrev main_call7_v1 : Ref sig .tc := ⟨.hbm, 111, rfl⟩
abbrev main_call7_cst : Ref sig .tc := ⟨.hbm, 112, rfl⟩
abbrev main_call7_v2 : Ref sig .tc := ⟨.hbm, 113, rfl⟩
abbrev main_call7_v3 : Ref sig .tc := ⟨.hbm, 114, rfl⟩
abbrev main_call7_cst_0 : Ref sig .tc := ⟨.hbm, 115, rfl⟩
abbrev main_call7_v4 : Ref sig .tc := ⟨.hbm, 116, rfl⟩
abbrev main_call7_v5 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S1x1024 : Shape := ⟨2, ![1, 1024]⟩
abbrev S6x1x1024 : Shape := ⟨3, ![6, 1, 1024]⟩
abbrev S2x4x3x3x1024 : Shape := ⟨5, ![2, 4, 3, 3, 1024]⟩
abbrev S_ : Shape := ⟨0, ![]⟩
abbrev S2x4x3x5x1024 : Shape := ⟨5, ![2, 4, 3, 5, 1024]⟩
abbrev S2x4x3x8x1024 : Shape := ⟨5, ![2, 4, 3, 8, 1024]⟩
abbrev S1x1024x1024 : Shape := ⟨3, ![1, 1024, 1024]⟩
abbrev S1x1x1x8x1024 : Shape := ⟨5, ![1, 1, 1, 8, 1024]⟩
abbrev S1x1x1024 : Shape := ⟨3, ![1, 1, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1024 : Shape := ⟨2, ![1024, 1024]⟩
abbrev S1024x1 : Shape := ⟨2, ![1024, 1]⟩
abbrev S1x1x1x1x1024 : Shape := ⟨5, ![1, 1, 1, 1, 1024]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S1x1024, .f32⟩
  | .hbm, ⟨7, _⟩ => ⟨S2x2x1024x5632, .bf16⟩
  | .hbm, ⟨8, _⟩ => ⟨S2x2x2816x1024, .bf16⟩
  | .hbm, ⟨9, _⟩ => ⟨S6x1x1024, .f32⟩
  | .hbm, ⟨10, _⟩ => ⟨S2x4x3x3x1024, .f32⟩
  | .hbm, ⟨11, _⟩ => ⟨S_, .f32⟩
  | .hbm, ⟨12, _⟩ => ⟨S2x4x3x5x1024, .f32⟩
  | .hbm, ⟨13, _⟩ => ⟨S2x4x3x8x1024, .f32⟩
  | .hbm, ⟨14, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1x8x1024, .f32⟩
  | .local _ .vmem, ⟨3, _⟩ => ⟨S1x1x1x8x1024, .f32⟩
  | .local _ .vmem, ⟨4, _⟩ => ⟨S1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S1x4x9216 : Shape := ⟨3, ![1, 4, 9216]⟩
abbrev S4x9216 : Shape := ⟨2, ![4, 9216]⟩
abbrev S4x3x3x1024 : Shape := ⟨4, ![4, 3, 3, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S4x1x1x1024 : Shape := ⟨4, ![4, 1, 1, 1024]⟩
abbrev S4x1024 : Shape := ⟨2, ![4, 1024]⟩
abbrev S4x1x1024 : Shape := ⟨3, ![4, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S1x4x9216, .f32⟩
  | .hbm, ⟨7, _⟩ => ⟨S4x9216, .f32⟩
  | .hbm, ⟨8, _⟩ => ⟨S4x3x3x1024, .f32⟩
  | .hbm, ⟨9, _⟩ => ⟨S1x1x1024, .f32⟩
  | .hbm, ⟨10, _⟩ => ⟨S1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x1x1x1024, .f32⟩
  | .hbm, ⟨28, _⟩ => ⟨S4x1024, .f32⟩
  | .hbm, ⟨29, _⟩ => ⟨S4x1x1x1024, .f32⟩
  | .hbm, ⟨30, _⟩ => ⟨S4x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x1x1x1024, .f32⟩
  | .hbm, ⟨41, _⟩ => ⟨S4x1024, .f32⟩
  | .hbm, ⟨42, _⟩ => ⟨S4x1x1024, .f32⟩
  | .hbm, ⟨43, _⟩ => ⟨S_, .f32⟩
  | .hbm, ⟨44, _⟩ => ⟨S4x1x1024, .f32⟩
  | .hbm, ⟨45, _⟩ => ⟨S4x1x1024, .f32⟩
  | .hbm, ⟨46, _⟩ => ⟨S1x1x1024x5632, .f32⟩
  | .hbm, ⟨47, _⟩ => ⟨S1024x5632, .f32⟩
  | .hbm, ⟨48, _⟩ => ⟨S1x1x2816x1024, .f32⟩
  | .hbm, ⟨49, _⟩ => ⟨S2816x1024, .f32⟩
  | .hbm, ⟨50, _⟩ => ⟨S4x4096x5632, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Mix.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S4x4096x512 : Shape := ⟨3, ![4, 4096, 512]⟩
abbrev S2x1024x1024 : Shape := ⟨3, ![2, 1024, 1024]⟩
abbrev S1x1024 : Shape := ⟨2, ![1, 1024]⟩
abbrev S6x1x1024 : Shape := ⟨3, ![6, 1, 1024]⟩
abbrev S2x4x3x3x1024 : Shape := ⟨5, ![2, 4, 3, 3, 1024]⟩
abbrev S_ : Shape := ⟨0, ![]⟩
abbrev S2x4x3x5x1024 : Shape := ⟨5, ![2, 4, 3, 5, 1024]⟩
abbrev S2x4x3x8x1024 : Shape := ⟨5, ![2, 4, 3, 8, 1024]⟩
abbrev S1x1024x1024 : Shape := ⟨3, ![1, 1024, 1024]⟩
abbrev S1x1x1x8x1024 : Shape := ⟨5, ![1, 1, 1, 8, 1024]⟩
abbrev S1x1x1024 : Shape := ⟨3, ![1, 1, 1024]⟩
abbrev S1x1x1024x5632 : Shape := ⟨4, ![1, 1, 1024, 5632]⟩
abbrev S1x1x2816x1024 : Shape := ⟨4, ![1, 1, 2816, 1024]⟩
abbrev S1x1024x512 : Shape := ⟨3, ![1, 1024, 512]⟩
abbrev S1024x2816 : Shape := ⟨2, ![1024, 2816]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1x1x1x1x1024 : Shape := ⟨5, ![1, 1, 1, 1, 1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 19
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x4096x512, .bf16⟩
  | .hbm, ⟨7, _⟩ => ⟨S4x4096x512, .bf16⟩
  | .hbm, ⟨8, _⟩ => ⟨S2x1024x1024, .f32⟩
  | .hbm, ⟨9, _⟩ => ⟨S1x1024, .f32⟩
  | .hbm, ⟨10, _⟩ => ⟨S2x2x1024x5632, .bf16⟩
  | .hbm, ⟨11, _⟩ => ⟨S2x2x2816x1024, .bf16⟩
  | .hbm, ⟨12, _⟩ => ⟨S2x1024x1024, .bf16⟩
  | .hbm, ⟨13, _⟩ => ⟨S6x1x1024, .f32⟩
  | .hbm, ⟨14, _⟩ => ⟨S2x4x3x3x1024, .f32⟩
  | .hbm, ⟨15, _⟩ => ⟨S_, .f32⟩
  | .hbm, ⟨16, _⟩ => ⟨S2x4x3x5x1024, .f32⟩
  | .hbm, ⟨17, _⟩ => ⟨S2x4x3x8x1024, .f32⟩
  | .hbm, ⟨18, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1x8x1024, .f32⟩
  | .local _ .vmem, ⟨3, _⟩ => ⟨S1x1x1x8x1024, .f32⟩
  | .local _ .vmem, ⟨4, _⟩ => ⟨S1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x1x1x8x1024, .f32⟩
  | .local _ .vmem, ⟨9, _⟩ => ⟨S1x1x1x8x1024, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, arg0.toNat, c2_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S4x4096x512 : Shape := ⟨3, ![4, 4096, 512]⟩
abbrev S2x1024x1024 : Shape := ⟨3, ![2, 1024, 1024]⟩
abbrev S1x4x9216 : Shape := ⟨3, ![1, 4, 9216]⟩
abbrev S4x9216 : Shape := ⟨2, ![4, 9216]⟩
abbrev S4x3x3x1024 : Shape := ⟨4, ![4, 3, 3, 1024]⟩
abbrev S1x1024x1024 : Shape := ⟨3, ![1, 1024, 1024]⟩
abbrev S1024x1024 : Shape := ⟨2, ![1024, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x4096x512, .bf16⟩
  | .hbm, ⟨7, _⟩ => ⟨S4x4096x512, .bf16⟩
  | .hbm, ⟨8, _⟩ => ⟨S2x1024x1024, .f32⟩
  | .hbm, ⟨9, _⟩ => ⟨S1x4x9216, .f32⟩
  | .hbm, ⟨10, _⟩ => ⟨S4x9216, .f32⟩
  | .hbm, ⟨11, _⟩ => ⟨S4x3x3x1024, .f32⟩
  | .hbm, ⟨12, _⟩ => ⟨S4x4096x512, .f32⟩
  | .hbm, ⟨13, _⟩ => ⟨S4x4096x512, .f32⟩
  | .hbm, ⟨14, _⟩ => ⟨S4x4096x1024, .f32⟩
  | .hbm, ⟨15, _⟩ => ⟨S1x1024x1024, .f32⟩
  | .hbm, ⟨16, _⟩ => ⟨S1024x1024, .f32⟩
  | .hbm, ⟨17, _⟩ => ⟨S4x4096x1024, .f32⟩
  | .hbm, ⟨18, _⟩ => ⟨S4x1x1x1024, .f32⟩
  | .hbm, ⟨19, _⟩ => ⟨S4x1024, .f32⟩
  | .hbm, ⟨20, _⟩ => ⟨S4x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S1024, .f32⟩
  | .hbm, ⟨26, _⟩ => ⟨S4x4096x1024, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x1x1x1024, .f32⟩
  | .hbm, ⟨43, _⟩ => ⟨S4x1024, .f32⟩
  | .hbm, ⟨44, _⟩ => ⟨S4x1x1x1024, .f32⟩
  | .hbm, ⟨45, _⟩ => ⟨S4x1024, .f32⟩
  | .hbm, ⟨46, _⟩ => ⟨S4x1x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x1x1024, .f32⟩
  | .hbm, ⟨53, _⟩ => ⟨S4x4096x1024, .f32⟩
  | .hbm, ⟨54, _⟩ => ⟨S4x4096x1024, .f32⟩
  | .hbm, ⟨55, _⟩ => ⟨S4x1x1x1024, .f32⟩
  | .hbm, ⟨56, _⟩ => ⟨S4x1024, .f32⟩
  | .hbm, ⟨57, _⟩ => ⟨S4x1x1024, .f32⟩
  | .hbm, ⟨58, _⟩ => ⟨S_, .f32⟩
  | .hbm, ⟨59, _⟩ => ⟨S4x1x1024, .f32⟩
  | .hbm, ⟨60, _⟩ => ⟨S4x1x1024, .f32⟩
  | .hbm, ⟨61, _⟩ => ⟨S1x1x1024x5632, .f32⟩
  | .hbm, ⟨62, _⟩ => ⟨S1024x5632, .f32⟩
  | .hbm, ⟨63, _⟩ => ⟨S1x1x2816x1024, .f32⟩
  | .hbm, ⟨64, _⟩ => ⟨S2816x1024, .f32⟩
  | .hbm, ⟨65, _⟩ => ⟨S4x4096x5632, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S_, .f32⟩
  | .hbm, ⟨71, _⟩ => ⟨S4x4096x2816, .f32⟩
  | .hbm, ⟨72, _⟩ => ⟨S4x4096x2816, .f32⟩
  | .hbm, ⟨73, _⟩ => ⟨S_, .f32⟩
  | .hbm, ⟨74, _⟩ => ⟨S4x4096x2816, .f32⟩
  | .hbm, ⟨75, _⟩ => ⟨S4x4096x2816, .f32⟩
  | .hbm, ⟨76, _⟩ => ⟨S4x4096x2816, .f32⟩
  | .hbm, ⟨77, _⟩ => ⟨S4x4096x2816, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Fin.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S4x4096x512 : Shape := ⟨3, ![4, 4096, 512]⟩
abbrev S2x1024x1024 : Shape := ⟨3, ![2, 1024, 1024]⟩
abbrev S1x1024 : Shape := ⟨2, ![1, 1024]⟩
abbrev S6x1x1024 : Shape := ⟨3, ![6, 1, 1024]⟩
abbrev S2x4x3x3x1024 : Shape := ⟨5, ![2, 4, 3, 3, 1024]⟩
abbrev S_ : Shape := ⟨0, ![]⟩
abbrev S2x4x3x5x1024 : Shape := ⟨5, ![2, 4, 3, 5, 1024]⟩
abbrev S2x4x3x8x1024 : Shape := ⟨5, ![2, 4, 3, 8, 1024]⟩
abbrev S1x1024x1024 : Shape := ⟨3, ![1, 1024, 1024]⟩
abbrev S1x1x1x8x1024 : Shape := ⟨5, ![1, 1, 1, 8, 1024]⟩
abbrev S1x1x1024 : Shape := ⟨3, ![1, 1, 1024]⟩
abbrev S1x1x1024x5632 : Shape := ⟨4, ![1, 1, 1024, 5632]⟩
abbrev S1x1x2816x1024 : Shape := ⟨4, ![1, 1, 2816, 1024]⟩
abbrev S1x1024x512 : Shape := ⟨3, ![1, 1024, 512]⟩
abbrev S1024x2816 : Shape := ⟨2, ![1024, 2816]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1x1x1x1x1024 : Shape := ⟨5, ![1, 1, 1, 1, 1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 19
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x4096x512, .bf16⟩
  | .hbm, ⟨7, _⟩ => ⟨S4x4096x512, .bf16⟩
  | .hbm, ⟨8, _⟩ => ⟨S2x1024x1024, .f32⟩
  | .hbm, ⟨9, _⟩ => ⟨S1x1024, .f32⟩
  | .hbm, ⟨10, _⟩ => ⟨S2x2x1024x5632, .bf16⟩
  | .hbm, ⟨11, _⟩ => ⟨S2x2x2816x1024, .bf16⟩
  | .hbm, ⟨12, _⟩ => ⟨S2x1024x1024, .bf16⟩
  | .hbm, ⟨13, _⟩ => ⟨S6x1x1024, .f32⟩
  | .hbm, ⟨14, _⟩ => ⟨S2x4x3x3x1024, .f32⟩
  | .hbm, ⟨15, _⟩ => ⟨S_, .f32⟩
  | .hbm, ⟨16, _⟩ => ⟨S2x4x3x5x1024, .f32⟩
  | .hbm, ⟨17, _⟩ => ⟨S2x4x3x8x1024, .f32⟩
  | .hbm, ⟨18, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1x8x1024, .f32⟩
  | .local _ .vmem, ⟨3, _⟩ => ⟨S1x1x1x8x1024, .f32⟩
  | .local _ .vmem, ⟨4, _⟩ => ⟨S1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x1x1x8x1024, .f32⟩
  | .local _ .vmem, ⟨9, _⟩ => ⟨S1x1x1x8x1024, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, arg0.toNat, c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg0.toNat, c1_i32_0.toNat, c0_i32.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FinRefIdeal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S4x4096x512 : Shape := ⟨3, ![4, 4096, 512]⟩
abbrev S2x1024x1024 : Shape := ⟨3, ![2, 1024, 1024]⟩
abbrev S1x4x9216 : Shape := ⟨3, ![1, 4, 9216]⟩
abbrev S4x9216 : Shape := ⟨2, ![4, 9216]⟩
abbrev S4x3x3x1024 : Shape := ⟨4, ![4, 3, 3, 1024]⟩
abbrev S1x1024x1024 : Shape := ⟨3, ![1, 1024, 1024]⟩
abbrev S1024x1024 : Shape := ⟨2, ![1024, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x4096x512, .bf16⟩
  | .hbm, ⟨7, _⟩ => ⟨S4x4096x512, .bf16⟩
  | .hbm, ⟨8, _⟩ => ⟨S2x1024x1024, .f32⟩
  | .hbm, ⟨9, _⟩ => ⟨S1x4x9216, .f32⟩
  | .hbm, ⟨10, _⟩ => ⟨S4x9216, .f32⟩
  | .hbm, ⟨11, _⟩ => ⟨S4x3x3x1024, .f32⟩
  | .hbm, ⟨12, _⟩ => ⟨S4x4096x512, .f32⟩
  | .hbm, ⟨13, _⟩ => ⟨S4x4096x512, .f32⟩
  | .hbm, ⟨14, _⟩ => ⟨S4x4096x1024, .f32⟩
  | .hbm, ⟨15, _⟩ => ⟨S1x1024x1024, .f32⟩
  | .hbm, ⟨16, _⟩ => ⟨S1024x1024, .f32⟩
  | .hbm, ⟨17, _⟩ => ⟨S4x4096x1024, .f32⟩
  | .hbm, ⟨18, _⟩ => ⟨S4x1x1x1024, .f32⟩
  | .hbm, ⟨19, _⟩ => ⟨S4x1024, .f32⟩
  | .hbm, ⟨20, _⟩ => ⟨S4x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S1024, .f32⟩
  | .hbm, ⟨26, _⟩ => ⟨S4x4096x1024, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x1x1x1024, .f32⟩
  | .hbm, ⟨43, _⟩ => ⟨S4x1024, .f32⟩
  | .hbm, ⟨44, _⟩ => ⟨S4x1x1x1024, .f32⟩
  | .hbm, ⟨45, _⟩ => ⟨S4x1024, .f32⟩
  | .hbm, ⟨46, _⟩ => ⟨S4x1x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x1x1024, .f32⟩
  | .hbm, ⟨53, _⟩ => ⟨S4x4096x1024, .f32⟩
  | .hbm, ⟨54, _⟩ => ⟨S4x4096x1024, .f32⟩
  | .hbm, ⟨55, _⟩ => ⟨S4x1x1x1024, .f32⟩
  | .hbm, ⟨56, _⟩ => ⟨S4x1024, .f32⟩
  | .hbm, ⟨57, _⟩ => ⟨S4x1x1024, .f32⟩
  | .hbm, ⟨58, _⟩ => ⟨S_, .f32⟩
  | .hbm, ⟨59, _⟩ => ⟨S4x1x1024, .f32⟩
  | .hbm, ⟨60, _⟩ => ⟨S4x1x1024, .f32⟩
  | .hbm, ⟨61, _⟩ => ⟨S1x1x1024x5632, .f32⟩
  | .hbm, ⟨62, _⟩ => ⟨S1024x5632, .f32⟩
  | .hbm, ⟨63, _⟩ => ⟨S1x1x2816x1024, .f32⟩
  | .hbm, ⟨64, _⟩ => ⟨S2816x1024, .f32⟩
  | .hbm, ⟨65, _⟩ => ⟨S4x4096x5632, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S_, .f32⟩
  | .hbm, ⟨71, _⟩ => ⟨S4x4096x2816, .f32⟩
  | .hbm, ⟨72, _⟩ => ⟨S4x4096x2816, .f32⟩
  | .hbm, ⟨73, _⟩ => ⟨S_, .f32⟩
  | .hbm, ⟨74, _⟩ => ⟨S4x4096x2816, .f32⟩
  | .hbm, ⟨75, _⟩ => ⟨S4x4096x2816, .f32⟩
  | .hbm, ⟨76, _⟩ => ⟨S4x4096x2816, .f32⟩
  | .hbm, ⟨77, _⟩ => ⟨S4x4096x2816, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1, .f32⟩
  | .hbm, ⟨93, _⟩ => ⟨S4x4096x1024, .f32⟩
  | .hbm, ⟨94, _⟩ => ⟨S4x4096x1024, .f32⟩
  | .hbm, ⟨95, _⟩ => ⟨S1x1x1024, .f32⟩
  | .hbm, ⟨96, _⟩ => ⟨S4x4096x1024, .f32⟩
  | .hbm, ⟨97, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Inp.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x1024x3360 : Shape := ⟨3, ![2, 1024, 3360]⟩
abbrev S4x4096 : Shape := ⟨2, ![4, 4096]⟩
abbrev S128 : Shape := ⟨1, ![128]⟩
abbrev S8 : Shape := ⟨1, ![8]⟩
abbrev S_ : Shape := ⟨0, ![]⟩
abbrev S128x1 : Shape := ⟨2, ![128, 1]⟩
abbrev S1x128 : Shape := ⟨2, ![1, 128]⟩
abbrev S4x4096x1 : Shape := ⟨3, ![4, 4096, 1]⟩
abbrev S4x4096x128 : Shape := ⟨3, ![4, 4096, 128]⟩
abbrev S1x1024x1 : Shape := ⟨3, ![1, 1024, 1]⟩
abbrev S1x1024x128 : Shape := ⟨3, ![1, 1024, 128]⟩
abbrev S1024x1 : Shape := ⟨2, ![1024, 1]⟩
abbrev S1024x128 : Shape := ⟨2, ![1024, 128]⟩
abbrev S6x1x1024 : Shape := ⟨3, ![6, 1, 1024]⟩
abbrev S2x4x3x3x1024 : Shape := ⟨5, ![2, 4, 3, 3, 1024]⟩
abbrev S2x4x3x5x1024 : Shape := ⟨5, ![2, 4, 3, 5, 1024]⟩
abbrev S2x4x3x8x1024 : Shape := ⟨5, ![2, 4, 3, 8, 1024]⟩
abbrev S1x1024x3360 : Shape := ⟨3, ![1, 1024, 3360]⟩
abbrev S1024x3360 : Shape := ⟨2, ![1024, 3360]⟩
abbrev S1024x4 : Shape := ⟨2, ![1024, 4]⟩
abbrev S1024x24 : Shape := ⟨2, ![1024, 24]⟩
abbrev S1024x32 : Shape := ⟨2, ![1024, 32]⟩
abbrev S1024x1536 : Shape := ⟨2, ![1024, 1536]⟩
abbrev S1024x512 : Shape := ⟨2, ![1024, 512]⟩
abbrev S1024x40 : Shape := ⟨2, ![1024, 40]⟩
abbrev S1024x3456 : Shape := ⟨2, ![1024, 3456]⟩
abbrev S4x4096x1536 : Shape := ⟨3, ![4, 4096, 1536]⟩
abbrev S4x4096x512 : Shape := ⟨3, ![4, 4096, 512]⟩
abbrev S4x32x4096 : Shape := ⟨3, ![4, 32, 4096]⟩
abbrev S4x8x4096x128 : Shape := ⟨4, ![4, 8, 4096, 128]⟩
abbrev S4x2x4096x128 : Shape := ⟨4, ![4, 2, 4096, 128]⟩
abbrev S1x512x1024 : Shape := ⟨3, ![1, 512, 1024]⟩
abbrev S1x1x1x8x1024 : Shape := ⟨5, ![1, 1, 1, 8, 1024]⟩
abbrev S1x1x1024 : Shape := ⟨3, ![1, 1, 1024]⟩
abbrev S1x512x128 : Shape := ⟨3, ![1, 512, 128]⟩
abbrev S1x512x1536 : Shape := ⟨3, ![1, 512, 1536]⟩
abbrev S1x512x512 : Shape := ⟨3, ![1, 512, 512]⟩
abbrev S1x32x512 : Shape := ⟨3, ![1, 32, 512]⟩
abbrev S1x8x512x128 : Shape := ⟨4, ![1, 8, 512, 128]⟩
abbrev S1x2x512x128 : Shape := ⟨4, ![1, 2, 512, 128]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1x1x1024 : Shape := ⟨5, ![1, 1, 1, 1, 1024]⟩
abbrev S512x128 : Shape := ⟨2, ![512, 128]⟩
abbrev S512x512 : Shape := ⟨2, ![512, 512]⟩
abbrev S128x512 : Shape := ⟨2, ![128, 512]⟩
abbrev S32x512 : Shape := ⟨2, ![32, 512]⟩
abbrev S1024x256 : Shape := ⟨2, ![1024, 256]⟩
abbrev S512x256 : Shape := ⟨2, ![512, 256]⟩
abbrev S1x1x512x128 : Shape := ⟨4, ![1, 1, 512, 128]⟩

abbrev nBuf : Space → Nat
  | .hbm => 69
  | .vmem => 39
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x1024x3360, .f32⟩
  | .hbm, ⟨4, _⟩ => ⟨S4x4096, .i32⟩
  | .hbm, ⟨5, _⟩ => ⟨S128, .i1⟩
  | .hbm, ⟨6, _⟩ => ⟨S128, .i32⟩
  | .hbm, ⟨7, _⟩ => ⟨S128, .i1⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S4x4096, .f32⟩
  | .hbm, ⟨28, _⟩ => ⟨S4x4096x1, .f32⟩
  | .hbm, ⟨29, _⟩ => ⟨S4x4096x128, .f32⟩
  | .hbm, ⟨30, _⟩ => ⟨S4x4096x128, .f32⟩
  | .hbm, ⟨31, _⟩ => ⟨S6x1x1024, .f32⟩
  | .hbm, ⟨32, _⟩ => ⟨S2x4x3x3x1024, .f32⟩
  | .hbm, ⟨33, _⟩ => ⟨S_, .f32⟩
  | .hbm, ⟨34, _⟩ => ⟨S2x4x3x5x1024, .f32⟩
  | .hbm, ⟨35, _⟩ => ⟨S2x4x3x8x1024, .f32⟩
  | .hbm, ⟨36, _⟩ => ⟨S1x1024x3360, .f32⟩
  | .hbm, ⟨37, _⟩ => ⟨S1024x3360, .f32⟩
  | .hbm, ⟨38, _⟩ => ⟨S1024x4, .f32⟩
  | .hbm, ⟨39, _⟩ => ⟨S1024x4, .f32⟩
  | .hbm, ⟨40, _⟩ => ⟨S1024x24, .f32⟩
  | .hbm, ⟨41, _⟩ => ⟨S1024x32, .f32⟩
  | .hbm, ⟨42, _⟩ => ⟨S1024x1536, .f32⟩
  | .hbm, ⟨43, _⟩ => ⟨S1024x512, .f32⟩
  | .hbm, ⟨44, _⟩ => ⟨S1024x512, .f32⟩
  | .hbm, ⟨45, _⟩ => ⟨S1024x128, .f32⟩
  | .hbm, ⟨46, _⟩ => ⟨S1024x128, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S1024x128, .f32⟩
  | .hbm, ⟨51, _⟩ => ⟨S_, .f32⟩
  | .hbm, ⟨52, _⟩ => ⟨S1024x40, .f32⟩
  | .hbm, ⟨53, _⟩ => ⟨S1024x24, .f32⟩
  | .hbm, ⟨54, _⟩ => ⟨S_, .f32⟩
  | .hbm, ⟨55, _⟩ => ⟨S1024x32, .f32⟩
  | .hbm, ⟨56, _⟩ => ⟨S1024x3456, .f32⟩
  | .hbm, ⟨57, _⟩ => ⟨S1024x3456, .bf16⟩
  | .hbm, ⟨58, _⟩ => ⟨S4x4096x1536, .f32⟩
  | .hbm, ⟨59, _⟩ => ⟨S4x4096x512, .f32⟩
  | .hbm, ⟨60, _⟩ => ⟨S4x4096x128, .f32⟩
  | .hbm, ⟨61, _⟩ => ⟨S4x32x4096, .f32⟩
  | .hbm, ⟨62, _⟩ => ⟨S4x8x4096x128, .bf16⟩
  | .hbm, ⟨63, _⟩ => ⟨S4x4096x128, .f32⟩
  | .hbm, ⟨64, _⟩ => ⟨S4x4096x128, .f32⟩
  | .hbm, ⟨65, _⟩ => ⟨S4x2x4096x128, .bf16⟩
  | .hbm, ⟨66, _⟩ => ⟨S4x4096x128, .bf16⟩
  | .hbm, ⟨67, _⟩ => ⟨S4x4096x128, .bf16⟩
  | .hbm, ⟨68, _⟩ => ⟨S4x4096x128, .bf16⟩
  | .local _ .vmem, ⟨0, _⟩ => ⟨S1x1024x1, .f32⟩
  | .local _ .vmem, ⟨1, _⟩ => ⟨S1x1024x1, .f32⟩
  | .local _ .vmem, ⟨2, _⟩ => ⟨S1x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x512x1024, .f32⟩
  | .local _ .vmem, ⟨8, _⟩ => ⟨S1x512x1024, .f32⟩
  | .local _ .vmem, ⟨9, _⟩ => ⟨S1x1x1x8x1024, .f32⟩
  | .local _ .vmem, ⟨10, _⟩ => ⟨S1x1x1x8x1024, .f32⟩
  | .local _ .vmem, ⟨11, _⟩ => ⟨S1x1x1024, .f32⟩
  | .local _ .vmem, ⟨12, _⟩ => ⟨S1024x3456, .bf16⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x1536, .f32⟩
  | .local _ .vmem, ⟨18, _⟩ => ⟨S1x512x1536, .f32⟩
  | .local _ .vmem, ⟨19, _⟩ => ⟨S1x512x512, .f32⟩
  | .local _ .vmem, ⟨20, _⟩ => ⟨S1x512x512, .f32⟩
  | .local _ .vmem, ⟨21, _⟩ => ⟨S1x512x128, .f32⟩
  | .local _ .vmem, ⟨22, _⟩ => ⟨S1x512x128, .f32⟩
  | .local _ .vmem, ⟨23, _⟩ => ⟨S1x32x512, .f32⟩
  | .local _ .vmem, ⟨24, _⟩ => ⟨S1x32x512, .f32⟩
  | .local _ .vmem, ⟨25, _⟩ => ⟨S1x8x512x128, .bf16⟩
  | .local _ .vmem, ⟨26, _⟩ => ⟨S1x8x512x128, .bf16⟩
  | .local _ .vmem, ⟨27, _⟩ => ⟨S1x512x128, .f32⟩
  | .local _ .vmem, ⟨28, _⟩ => ⟨S1x512x128, .f32⟩
  | .local _ .vmem, ⟨29, _⟩ => ⟨S1x512x128, .f32⟩
  | .local _ .vmem, ⟨30, _⟩ => ⟨S1x512x128, .f32⟩
  | .local _ .vmem, ⟨31, _⟩ => ⟨S1x2x512x128, .bf16⟩
  | .local _ .vmem, ⟨32, _⟩ => ⟨S1x2x512x128, .bf16⟩
  | .local _ .vmem, ⟨33, _⟩ => ⟨S1x512x128, .bf16⟩
  | .local _ .vmem, ⟨34, _⟩ => ⟨S1x512x128, .bf16⟩
  | .local _ .vmem, ⟨35, _⟩ => ⟨S1x512x128, .bf16⟩
  | .local _ .vmem, ⟨36, _⟩ => ⟨S1x512x128, .bf16⟩
  | .local _ .vmem, ⟨37, _⟩ => ⟨S1x512x128, .bf16⟩
  | .local _ .vmem, ⟨38, _⟩ => ⟨S1x512x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_c_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_v40_2 : Ref sig .tc := ⟨.hbm, 60, rfl⟩
abbrev main_v40_3 : Ref sig .tc := ⟨.hbm, 61, rfl⟩
abbrev main_v40_4 : Ref sig .tc := ⟨.hbm, 62, rfl⟩
abbrev main_v40_5 : Ref sig .tc := ⟨.hbm, 63, rfl⟩
abbrev main_v40_6 : Ref sig .tc := ⟨.hbm, 64, rfl⟩
abbrev main_v40_7 : Ref sig .tc := ⟨.hbm, 65, rfl⟩
abbrev main_v40_8 : Ref sig .tc := ⟨.hbm, 66, rfl⟩
abbrev main_v40_9 : Ref sig .tc := ⟨.hbm, 67, rfl⟩
abbrev main_v40_10 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc1_stg16_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem16_1 : DmaSem sig := 38

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x3456 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x32x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x8x512x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x2x512x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x512x128 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x512x128 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x512x128 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]
-- ==== InpRefIdeal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x1024x3360 : Shape := ⟨3, ![2, 1024, 3360]⟩
abbrev S4x4096 : Shape := ⟨2, ![4, 4096]⟩
abbrev S8 : Shape := ⟨1, ![8]⟩
abbrev S_ : Shape := ⟨0, ![]⟩
abbrev S4x4096x1 : Shape := ⟨3, ![4, 4096, 1]⟩
abbrev S1x1x8 : Shape := ⟨3, ![1, 1, 8]⟩
abbrev S4x4096x8 : Shape := ⟨3, ![4, 4096, 8]⟩
abbrev S4x4096x1x8 : Shape := ⟨4, ![4, 4096, 1, 8]⟩
abbrev S1x4x9216 : Shape := ⟨3, ![1, 4, 9216]⟩
abbrev S4x9216 : Shape := ⟨2, ![4, 9216]⟩
abbrev S4x3x3x1024 : Shape := ⟨4, ![4, 3, 3, 1024]⟩
abbrev S1x1x1024 : Shape := ⟨3, ![1, 1, 1024]⟩
abbrev S1024 : Shape := ⟨1, ![1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S1x1024x3360 : Shape := ⟨3, ![1, 1024, 3360]⟩
abbrev S1024x3360 : Shape := ⟨2, ![1024, 3360]⟩
abbrev S4x4096x3360 : Shape := ⟨3, ![4, 4096, 3360]⟩
abbrev S4x4096x1536 : Shape := ⟨3, ![4, 4096, 1536]⟩
abbrev S4x4096x512 : Shape := ⟨3, ![4, 4096, 512]⟩
abbrev S4x4096x4 : Shape := ⟨3, ![4, 4096, 4]⟩
abbrev S4x4096x128 : Shape := ⟨3, ![4, 4096, 128]⟩
abbrev S4x4096x24 : Shape := ⟨3, ![4, 4096, 24]⟩
abbrev S4x4096x32 : Shape := ⟨3, ![4, 4096, 32]⟩
abbrev S4x4096x40 : Shape := ⟨3, ![4, 4096, 40]⟩
abbrev S4x4096x8x64 : Shape := ⟨4, ![4, 4096, 8, 64]⟩
abbrev S4x4096x8x16 : Shape := ⟨4, ![4, 4096, 8, 16]⟩
abbrev S4x4096x8x8 : Shape := ⟨4, ![4, 4096, 8, 8]⟩
abbrev S4x4096x8x48 : Shape := ⟨4, ![4, 4096, 8, 48]⟩
abbrev S4x8x4096x64 : Shape := ⟨4, ![4, 8, 4096, 64]⟩
abbrev S4x4x4096x64 : Shape := ⟨4, ![4, 4, 4096, 64]⟩
abbrev S4x4x4096x128 : Shape := ⟨4, ![4, 4, 4096, 128]⟩
abbrev S4x8x4096x128 : Shape := ⟨4, ![4, 8, 4096, 128]⟩
abbrev S4x4096x2x64 : Shape := ⟨4, ![4, 4096, 2, 64]⟩
abbrev S4x4096x2x16 : Shape := ⟨4, ![4, 4096, 2, 16]⟩
abbrev S4x4096x2x8 : Shape := ⟨4, ![4, 4096, 2, 8]⟩
abbrev S4x4096x2x48 : Shape := ⟨4, ![4, 4096, 2, 48]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S1x4096x64 : Shape := ⟨3, ![1, 4096, 64]⟩
abbrev S4x4096x64 : Shape := ⟨3, ![4, 4096, 64]⟩
abbrev S4x4096x1x64 : Shape := ⟨4, ![4, 4096, 1, 64]⟩
abbrev S4x1x4096x128 : Shape := ⟨4, ![4, 1, 4096, 128]⟩
abbrev S4x2x4096x128 : Shape := ⟨4, ![4, 2, 4096, 128]⟩
abbrev S4x32x4096 : Shape := ⟨3, ![4, 32, 4096]⟩

abbrev nBuf : Space → Nat
  | .hbm => 190
  | .vmem => 0
  | .smem => 0
  | _ => 0

abbrev hbmTy0_0 (i : Nat) : BufTy := match i % 128 with
  | 0 => ⟨S4x4096x1024, .f32⟩
  | 1 => ⟨S2x4x9216, .f32⟩
  | 2 => ⟨S2x3x1024, .f32⟩
  | 3 => ⟨S2x1024x3360, .f32⟩
  | 4 => ⟨S4x4096, .i32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S4x4096, .f32⟩
  | 14 => ⟨S4x4096x1, .f32⟩
  | 15 => ⟨S1x1x8, .f32⟩
  | 16 => ⟨S4x4096x8, .f32⟩
  | 17 => ⟨S4x4096x8, .f32⟩
  | 18 => ⟨S4x4096x8, .f32⟩
  | 19 => ⟨S4x4096x8, .f32⟩
  | 20 => ⟨S4x4096x1x8, .f32⟩
  | 21 => ⟨S4x4096x8, .f32⟩
  | 22 => ⟨S4x4096x1x8, .f32⟩
  | 23 => ⟨S1x4x9216, .f32⟩
  | 24 => ⟨S4x9216, .f32⟩
  | 25 => ⟨S4x3x3x1024, .f32⟩
  | 26 => ⟨S1x1x1024, .f32⟩
  | 27 => ⟨S1024, .f32⟩
  | 28 => ⟨S4x4096x1024, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x1024, .f32⟩
  | 40 => ⟨S4x4096x1024, .f32⟩
  | 41 => ⟨S1x1x1024, .f32⟩
  | 42 => ⟨S4x4096x1024, .f32⟩
  | 43 => ⟨S4x4096x1024, .f32⟩
  | 44 => ⟨S4x1x1x1024, .f32⟩
  | 45 => ⟨S4x1024, .f32⟩
  | 46 => ⟨S4x1x1x1024, .f32⟩
  | 47 => ⟨S4x1024, .f32⟩
  | 48 => ⟨S4x1x1024, .f32⟩
  | 49 => ⟨S_, .f32⟩
  | 50 => ⟨S4x1x1024, .f32⟩
  | 51 => ⟨S4x1x1024, .f32⟩
  | 52 => ⟨S4x4096x1024, .f32⟩
  | 53 => ⟨S4x4096x1024, .f32⟩
  | 54 => ⟨S4x1x1024, .f32⟩
  | 55 => ⟨S4x4096x1024, .f32⟩
  | 56 => ⟨S4x4096x1024, .f32⟩
  | 57 => ⟨S1x1024x3360, .f32⟩
  | 58 => ⟨S1024x3360, .f32⟩
  | 59 => ⟨S4x4096x3360, .f32⟩
  | 60 => ⟨S4x4096x1536, .f32⟩
  | 61 => ⟨S4x4096x512, .f32⟩
  | 62 => ⟨S4x4096x4, .f32⟩
  | 63 => ⟨S4x4096x4, .f32⟩
  | 64 => ⟨S4x4096x512, .f32⟩
  | 65 => ⟨S4x4096x128, .f32⟩
  | 66 => ⟨S4x4096x128, .f32⟩
  | 67 => ⟨S4x4096x128, .f32⟩
  | 68 => ⟨S4x4096x128, .f32⟩
  | 69 => ⟨S4x4096x128, .f32⟩
  | 70 => ⟨S4x4096x128, .f32⟩
  | 71 => ⟨S4x4096x24, .f32⟩
  | 72 => ⟨S4x4096x32, .f32⟩
  | 73 => ⟨S_, .f32⟩
  | 74 => ⟨S4x4096x40, .f32⟩
  | 75 => ⟨S_, .f32⟩
  | 76 => ⟨S4x4096x32, .f32⟩
  | 77 => ⟨S4x4096x128, .f32⟩
  | 78 => ⟨S4x4096x8x64, .f32⟩
  | 79 => ⟨S4x4096x8x16, .f32⟩
  | 80 => ⟨S4x4096x8x8, .f32⟩
  | 81 => ⟨S4x4096x8x8, .f32⟩
  | 82 => ⟨S4x4096x8x8, .f32⟩
  | 83 => ⟨S4x4096x8x8, .f32⟩
  | 84 => ⟨S4x4096x8x8, .f32⟩
  | 85 => ⟨S4x4096x8x8, .f32⟩
  | 86 => ⟨S4x4096x8x8, .f32⟩
  | 87 => ⟨S4x4096x8x8, .f32⟩
  | 88 => ⟨S4x4096x8x8, .f32⟩
  | 89 => ⟨S4x4096x8x8, .f32⟩
  | 90 => ⟨S4x4096x8x8, .f32⟩
  | 91 => ⟨S4x4096x8x8, .f32⟩
  | 92 => ⟨S4x4096x8x16, .f32⟩
  | 93 => ⟨S4x4096x8x48, .f32⟩
  | 94 => ⟨S4x4096x8x64, .f32⟩
  | 95 => ⟨S_, .f32⟩
  | 96 => ⟨S4x4096x8x64, .f32⟩
  | 97 => ⟨S4x4096x8x64, .f32⟩
  | 98 => ⟨S4x8x4096x64, .f32⟩
  | 99 => ⟨S_, .f32⟩
  | 100 => ⟨S4x4x4096x64, .f32⟩
  | 101 => ⟨S4x4x4096x64, .f32⟩
  | 102 => ⟨S4x4x4096x128, .f32⟩
  | 103 => ⟨S4x4x4096x64, .f32⟩
  | 104 => ⟨S4x4x4096x128, .f32⟩
  | 105 => ⟨S4x8x4096x128, .f32⟩
  | 106 => ⟨S4x4096x2x64, .f32⟩
  | 107 => ⟨S4x4096x2x16, .f32⟩
  | 108 => ⟨S4x4096x2x8, .f32⟩
  | 109 => ⟨S4x4096x2x8, .f32⟩
  | 110 => ⟨S4x4096x2x8, .f32⟩
  | 111 => ⟨S4x4096x2x8, .f32⟩
  | 112 => ⟨S4x4096x2x8, .f32⟩
  | 113 => ⟨S4x4096x2x8, .f32⟩
  | 114 => ⟨S4x4096x2x8, .f32⟩
  | 115 => ⟨S4x4096x2x8, .f32⟩
  | 116 => ⟨S4x4096x2x8, .f32⟩
  | 117 => ⟨S4x4096x2x8, .f32⟩
  | 118 => ⟨S4x4096x2x8, .f32⟩
  | 119 => ⟨S4x4096x2x8, .f32⟩
  | 120 => ⟨S4x4096x2x16, .f32⟩
  | 121 => ⟨S4x4096x2x48, .f32⟩
  | 122 => ⟨S4x4096x2x64, .f32⟩
  | 123 => ⟨S4096, .i32⟩
  | 124 => ⟨S_, .i32⟩
  | 125 => ⟨S4096, .i32⟩
  | 126 => ⟨S4096, .i32⟩
  | 127 => ⟨S_, .i32⟩
  | _ => ⟨S4x4096x1024, .f32⟩

abbrev hbmTy0_1 (i : Nat) : BufTy := match i % 128 with
  | 0 => ⟨S4096, .i32⟩
  | 1 => ⟨S4096, .i32⟩
  | 2 => ⟨S4096x1, .i32⟩
  | 3 => ⟨S64, .i32⟩
  | 4 => ⟨S1x64, .i32⟩
  | 5 => ⟨S4096x64, .i32⟩
  | 6 => ⟨S4096x64, .i32⟩
  | 7 => ⟨S4096x64, .i1⟩
  | 8 => ⟨S4096x64, .f32⟩
  | 9 => ⟨S1x4096x64, .f32⟩
  | 10 => ⟨S4x4096x64, .f32⟩
  | 11 => ⟨S4x4096x1x64, .f32⟩
  | 12 => ⟨S4x4096x64, .f32⟩
  | 13 => ⟨S4x4096x128, .f32⟩
  | 14 => ⟨S4x4096x1x64, .f32⟩
  | 15 => ⟨S4x4096x64, .f32⟩
  | 16 => ⟨S4x4096x128, .f32⟩
  | 17 => ⟨S4x1x4096x128, .f32⟩
  | 18 => ⟨S4x1x4096x128, .f32⟩
  | 19 => ⟨S4x2x4096x128, .f32⟩
  | 20 => ⟨S4x32x4096, .f32⟩
  | 21 => ⟨S4x8x4096x128, .bf16⟩
  | 22 => ⟨S4x4096x2x64, .f32⟩
  | 23 => ⟨S4x4096x2x16, .f32⟩
  | 24 => ⟨S4x4096x2x8, .f32⟩
  | 25 => ⟨S4x4096x2x8, .f32⟩
  | 26 => ⟨S4x4096x2x8, .f32⟩
  | 27 => ⟨S4x4096x2x8, .f32⟩
  | 28 => ⟨S4x4096x2x8, .f32⟩
  | 29 => ⟨S4x4096x2x8, .f32⟩
  | 30 => ⟨S4x4096x2x8, .f32⟩
  | 31 => ⟨S4x4096x2x8, .f32⟩
  | 32 => ⟨S4x4096x2x8, .f32⟩
  | 33 => ⟨S4x4096x2x8, .f32⟩
  | 34 => ⟨S4x4096x2x8, .f32⟩
  | 35 => ⟨S4x4096x2x8, .f32⟩
  | 36 => ⟨S4x4096x2x16, .f32⟩
  | 37 => ⟨S4x4096x2x48, .f32⟩
  | 38 => ⟨S4x4096x2x64, .f32⟩
  | 39 => ⟨S4x4096x128, .f32⟩
  | 40 => ⟨S4x2x4096x128, .bf16⟩
  | 41 => ⟨S4x4096x128, .bf16⟩
  | 42 => ⟨S4x4096x2x64, .f32⟩
  | 43 => ⟨S4x4096x2x16, .f32⟩
  | 44 => ⟨S4x4096x2x8, .f32⟩
  | 45 => ⟨S4x4096x2x8, .f32⟩
  | 46 => ⟨S4x4096x2x8, .f32⟩
  | 47 => ⟨S4x4096x2x8, .f32⟩
  | 48 => ⟨S4x4096x2x8, .f32⟩
  | 49 => ⟨S4x4096x2x8, .f32⟩
  | 50 => ⟨S4x4096x2x8, .f32⟩
  | 51 => ⟨S4x4096x2x8, .f32⟩
  | 52 => ⟨S4x4096x2x8, .f32⟩
  | 53 => ⟨S4x4096x2x8, .f32⟩
  | 54 => ⟨S4x4096x2x8, .f32⟩
  | 55 => ⟨S4x4096x2x8, .f32⟩
  | 56 => ⟨S4x4096x2x16, .f32⟩
  | 57 => ⟨S4x4096x2x48, .f32⟩
  | 58 => ⟨S4x4096x2x64, .f32⟩
  | 59 => ⟨S4x4096x128, .f32⟩
  | 60 => ⟨S4x4096x128, .bf16⟩
  | 61 => ⟨S4x4096x128, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_7 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_8 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_c : Ref sig .tc := ⟨.hbm, 124, rfl⟩
abbrev main_v109 : Ref sig .tc := ⟨.hbm, 125, rfl⟩
abbrev main_v110 : Ref sig .tc := ⟨.hbm, 126, rfl⟩
abbrev main_c_9 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩

abbrev nD : Nat := 1
abbrev τ : Topo := Topo.v7x

variable {F : FTy → Type} [FloatOps F]
-- ==== Cmp.lean ====
abbrev S4x4096x128 : Shape := ⟨3, ![4, 4096, 128]⟩
abbrev S2x32x64 : Shape := ⟨3, ![2, 32, 64]⟩
abbrev S2x2048x128 : Shape := ⟨3, ![2, 2048, 128]⟩
abbrev S2x128x64 : Shape := ⟨3, ![2, 128, 64]⟩
abbrev S1x32x64 : Shape := ⟨3, ![1, 32, 64]⟩
abbrev S32x64 : Shape := ⟨2, ![32, 64]⟩
abbrev S1x2048x128 : Shape := ⟨3, ![1, 2048, 128]⟩
abbrev S2048x128 : Shape := ⟨2, ![2048, 128]⟩
abbrev S1x128x64 : Shape := ⟨3, ![1, 128, 64]⟩
abbrev S128x64 : Shape := ⟨2, ![128, 64]⟩
abbrev S32x64x128 : Shape := ⟨3, ![32, 64, 128]⟩
abbrev S2x2 : Shape := ⟨2, ![2, 2]⟩
abbrev S_ : Shape := ⟨0, ![]⟩
abbrev S16x64x128 : Shape := ⟨3, ![16, 64, 128]⟩
abbrev S1x2x1x2x1 : Shape := ⟨5, ![1, 2, 1, 2, 1]⟩
abbrev S16x1x64x1x128 : Shape := ⟨5, ![16, 1, 64, 1, 128]⟩
abbrev S16x2x64x2x128 : Shape := ⟨5, ![16, 2, 64, 2, 128]⟩
abbrev S2048x256 : Shape := ⟨2, ![2048, 256]⟩
abbrev S16x64 : Shape := ⟨2, ![16, 64]⟩
abbrev S16x1x64 : Shape := ⟨3, ![16, 1, 64]⟩
abbrev S16x2x64 : Shape := ⟨3, ![16, 2, 64]⟩
abbrev S1x2048 : Shape := ⟨2, ![1, 2048]⟩
abbrev S2x1x2x1 : Shape := ⟨4, ![2, 1, 2, 1]⟩
abbrev S1x128x1x64 : Shape := ⟨4, ![1, 128, 1, 64]⟩
abbrev S2x128x2x64 : Shape := ⟨4, ![2, 128, 2, 64]⟩
abbrev S256x128 : Shape := ⟨2, ![256, 128]⟩
abbrev S4x256x128 : Shape := ⟨3, ![4, 256, 128]⟩
abbrev S1x4096x128 : Shape := ⟨3, ![1, 4096, 128]⟩
abbrev S1x256x128 : Shape := ⟨3, ![1, 256, 128]⟩
abbrev S256x2048 : Shape := ⟨2, ![256, 2048]⟩
abbrev S256x256 : Shape := ⟨2, ![256, 256]⟩

abbrev nBuf : Space → Nat
  | .hbm => 50
  | .vmem => 9
  | .smem => 0
  | _ => 0

abbrev bufTy : (tb : Table) → Fin (tcTables nBuf tb) → BufTy
  | .hbm, ⟨0, _⟩ => ⟨S4x4096x128, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S1x32x64, .f32⟩
  | .hbm, ⟨5, _⟩ => ⟨S32x64, .f32⟩
  | .hbm, ⟨6, _⟩ => ⟨S1x2048x128, .f32⟩
  | .hbm, ⟨7, _⟩ => ⟨S2048x128, .f32⟩
  | .hbm, ⟨8, _⟩ => ⟨S1x128x64, .f32⟩
  | .hbm, ⟨9, _⟩ => ⟨S128x64, .f32⟩
  | .hbm, ⟨10, _⟩ => ⟨S32x64x128, .f32⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S16x64x128, .f32⟩
  | .hbm, ⟨19, _⟩ => ⟨S1x2x1x2x1, .f32⟩
  | .hbm, ⟨20, _⟩ => ⟨S16x1x64x1x128, .f32⟩
  | .hbm, ⟨21, _⟩ => ⟨S16x2x64x2x128, .f32⟩
  | .hbm, ⟨22, _⟩ => ⟨S16x2x64x2x128, .f32⟩
  | .hbm, ⟨23, _⟩ => ⟨S16x2x64x2x128, .f32⟩
  | .hbm, ⟨24, _⟩ => ⟨S2048x256, .f32⟩
  | .hbm, ⟨25, _⟩ => ⟨S16x64x128, .f32⟩
  | .hbm, ⟨26, _⟩ => ⟨S1x2x1x2x1, .f32⟩
  | .hbm, ⟨27, _⟩ => ⟨S16x1x64x1x128, .f32⟩
  | .hbm, ⟨28, _⟩ => ⟨S16x2x64x2x128, .f32⟩
  | .hbm, ⟨29, _⟩ => ⟨S16x2x64x2x128, .f32⟩
  | .hbm, ⟨30, _⟩ => ⟨S16x2x64x2x128, .f32⟩
  | .hbm, ⟨31, _⟩ => ⟨S2048x256, .f32⟩
  | .hbm, ⟨32, _⟩ => ⟨S16x64, .f32⟩
  | .hbm, ⟨33, _⟩ => ⟨S16x1x64, .f32⟩
  | .hbm, ⟨34, _⟩ => ⟨S16x2x64, .f32⟩
  | .hbm, ⟨35, _⟩ => ⟨S1x2048, .f32⟩
  | .hbm, ⟨36, _⟩ => ⟨S16x64, .f32⟩
  | .hbm, ⟨37, _⟩ => ⟨S16x1x64, .f32⟩
  | .hbm, ⟨38, _⟩ => ⟨S16x2x64, .f32⟩
  | .hbm, ⟨39, _⟩ => ⟨S1x2048, .f32⟩
  | .hbm, ⟨40, _⟩ => ⟨S2x1x2x1, .f32⟩
  | .hbm, ⟨41, _⟩ => ⟨S1x128x1x64, .f32⟩
  | .hbm, ⟨42, _⟩ => ⟨S2x128x2x64, .f32⟩
  | .hbm, ⟨43, _⟩ => ⟨S2x128x2x64, .f32⟩
  | .hbm, ⟨44, _⟩ => ⟨S2x128x2x64, .f32⟩
  | .hbm, ⟨45, _⟩ => ⟨S256x128, .f32⟩
  | .hbm, ⟨46, _⟩ => ⟨S2048x256, .bf16⟩
  | .hbm, ⟨47, _⟩ => ⟨S2048x256, .bf16⟩
  | .hbm, ⟨48, _⟩ => ⟨S256x128, .bf16⟩
  | .hbm, ⟨49, _⟩ => ⟨S4x256x128, .bf16⟩
  | .local _ .vmem, ⟨0, _⟩ => ⟨S1x4096x128, .f32⟩
  | .local _ .vmem, ⟨1, _⟩ => ⟨S1x4096x128, .f32⟩
  | .local _ .vmem, ⟨2, _⟩ => ⟨S1x2048, .f32⟩
  | .local _ .vmem, ⟨3, _⟩ => ⟨S1x2048, .f32⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S1x256x128, .bf16⟩
  | .local _ .vmem, ⟨8, _⟩ => ⟨S1x256x128, .bf16⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CmpRefIdeal.lean ====
abbrev S4x4096x128 : Shape := ⟨3, ![4, 4096, 128]⟩
abbrev S2x32x64 : Shape := ⟨3, ![2, 32, 64]⟩
abbrev S2x2048x128 : Shape := ⟨3, ![2, 2048, 128]⟩
abbrev S2x128x64 : Shape := ⟨3, ![2, 128, 64]⟩
abbrev S1x32x64 : Shape := ⟨3, ![1, 32, 64]⟩
abbrev S32x64 : Shape := ⟨2, ![32, 64]⟩
abbrev S1x2048x128 : Shape := ⟨3, ![1, 2048, 128]⟩
abbrev S2048x128 : Shape := ⟨2, ![2048, 128]⟩
abbrev S1x128x64 : Shape := ⟨3, ![1, 128, 64]⟩
abbrev S128x64 : Shape := ⟨2, ![128, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S4x4096x2x64 : Shape := ⟨4, ![4, 4096, 2, 64]⟩
abbrev S256x32x1 : Shape := ⟨3, ![256, 32, 1]⟩
abbrev S4x256x32x2x64 : Shape := ⟨5, ![4, 256, 32, 2, 64]⟩
abbrev S32x1x64 : Shape := ⟨3, ![32, 1, 64]⟩
abbrev S1x1x32x1x64 : Shape := ⟨5, ![1, 1, 32, 1, 64]⟩
abbrev S4x256x2x32x64 : Shape := ⟨5, ![4, 256, 2, 32, 64]⟩
abbrev S4x256x2x2048 : Shape := ⟨4, ![4, 256, 2, 2048]⟩
abbrev S4x256x2x128 : Shape := ⟨4, ![4, 256, 2, 128]⟩
abbrev S4x256x2x64 : Shape := ⟨4, ![4, 256, 2, 64]⟩
abbrev S4x256x128 : Shape := ⟨3, ![4, 256, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S1x32x64, .f32⟩
  | .hbm, ⟨5, _⟩ => ⟨S32x64, .f32⟩
  | .hbm, ⟨6, _⟩ => ⟨S1x2048x128, .f32⟩
  | .hbm, ⟨7, _⟩ => ⟨S2048x128, .f32⟩
  | .hbm, ⟨8, _⟩ => ⟨S1x128x64, .f32⟩
  | .hbm, ⟨9, _⟩ => ⟨S128x64, .f32⟩
  | .hbm, ⟨10, _⟩ => ⟨S256, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S32, .i32⟩
  | .hbm, ⟨16, _⟩ => ⟨S1x32, .i32⟩
  | .hbm, ⟨17, _⟩ => ⟨S256x32, .i32⟩
  | .hbm, ⟨18, _⟩ => ⟨S256x32, .i32⟩
  | .hbm, ⟨19, _⟩ => ⟨S256x32, .i32⟩
  | .hbm, ⟨20, _⟩ => ⟨S_, .i32⟩
  | .hbm, ⟨21, _⟩ => ⟨S256x32, .i32⟩
  | .hbm, ⟨22, _⟩ => ⟨S256x32, .i32⟩
  | .hbm, ⟨23, _⟩ => ⟨S4x4096x2x64, .f32⟩
  | .hbm, ⟨24, _⟩ => ⟨S_, .i32⟩
  | .hbm, ⟨25, _⟩ => ⟨S256x32, .i32⟩
  | .hbm, ⟨26, _⟩ => ⟨S256x32, .i1⟩
  | .hbm, ⟨27, _⟩ => ⟨S_, .i32⟩
  | .hbm, ⟨28, _⟩ => ⟨S256x32, .i32⟩
  | .hbm, ⟨29, _⟩ => ⟨S256x32, .i32⟩
  | .hbm, ⟨30, _⟩ => ⟨S256x32, .i32⟩
  | .hbm, ⟨31, _⟩ => ⟨S256x32x1, .i32⟩
  | .hbm, ⟨32, _⟩ => ⟨S4x256x32x2x64, .f32⟩
  | .hbm, ⟨33, _⟩ => ⟨S32x1x64, .f32⟩
  | .hbm, ⟨34, _⟩ => ⟨S1x1x32x1x64, .f32⟩
  | .hbm, ⟨35, _⟩ => ⟨S4x256x32x2x64, .f32⟩
  | .hbm, ⟨36, _⟩ => ⟨S4x256x32x2x64, .f32⟩
  | .hbm, ⟨37, _⟩ => ⟨S4x256x2x32x64, .f32⟩
  | .hbm, ⟨38, _⟩ => ⟨S4x256x2x2048, .f32⟩
  | .hbm, ⟨39, _⟩ => ⟨S4x256x2x128, .f32⟩
  | .hbm, ⟨40, _⟩ => ⟨S4x256x2x128, .f32⟩
  | .hbm, ⟨41, _⟩ => ⟨S4x256x2x128, .f32⟩
  | .hbm, ⟨42, _⟩ => ⟨S_, .f32⟩
  | .hbm, ⟨43, _⟩ => ⟨S4x256x2x128, .f32⟩
  | .hbm, ⟨44, _⟩ => ⟨S4x256x2x128, .f32⟩
  | .hbm, ⟨45, _⟩ => ⟨S_, .f32⟩
  | .hbm, ⟨46, _⟩ => ⟨S4x256x2x128, .f32⟩
  | .hbm, ⟨47, _⟩ => ⟨S4x256x2x128, .f32⟩
  | .hbm, ⟨48, _⟩ => ⟨S4x256x2x128, .f32⟩
  | .hbm, ⟨49, _⟩ => ⟨S4x256x2x64, .f32⟩
  | .hbm, ⟨50, _⟩ => ⟨S4x256x128, .f32⟩
  | .hbm, ⟨51, _⟩ => ⟨S4x256x128, .bf16⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.ScanStep.lean ====
module

public import proofs.«01_k».proof.Proof.Gen.ScanIdeal.Value

/-! The chunk step of the gated delta rule as the scan kernel computes it, and the pieces one grid
point stores written with it: four chunks of each of the sixteen (batch, head) chains. -/

@[expose] public section

set_option maxRecDepth 16384

noncomputable section

namespace Cert.ScanIdeal.Step

open Cert.ScanIdeal Cert.ScanIdeal.Gen Idealize.ShloMosaic Idealize.ShloMosaic.TcCoe Idealize.SL.Sem

variable {F : FTy → Type} [FloatOps F]

/-- The stacked product of one chunk: w and the decayed queries times the state. -/
def stR1 (wq : Vec F S1x1x1x128x128 .bf16) (S : FVec F S128x128 .f32) : FVec F S128x128 .f32 :=
  matmul dot_S128x128_S128x128_S128x128_1_0_0_1_n_n none
    (shapeCast S128x128 wq shapeCasts_S1x1x1x128x128_S128x128) (truncf .bf16 S bitsLt_bf16_f32)
    (constant S128x128 .f32 0x00000000#32)

/-- The second stacked product: the masked scores and the decayed keys times the new values. -/
def stR2 (ak : Vec F S1x1x1x192x64 .bf16) (u : Vec F S1x1x64x128 .f32) (r1 : FVec F S128x128 .f32) : FVec F S192x128 .f32 :=
  matmul dot_S192x64_S64x128_S192x128_1_0_0_1_n_n none
    (shapeCast S192x64 ak shapeCasts_S1x1x1x192x64_S192x64)
    (truncf .bf16 (subf (shapeCast S64x128 u shapeCasts_S1x1x64x128_S64x128)
      (extractStridedSlice S64x128 ![0, 0] r1 slices_S128x128_o0_0_S64x128)) bitsLt_bf16_f32)
    (constant S192x128 .f32 0x00000000#32)

/-- The state after the chunk. -/
def stNext (wq : Vec F S1x1x1x128x128 .bf16) (ak : Vec F S1x1x1x192x64 .bf16) (u : Vec F S1x1x64x128 .f32)
    (eg : Vec F S1x1x1x128 .f32) (S : FVec F S128x128 .f32) : FVec F S128x128 .f32 :=
  addf (mulf S (broadcastTo S128x128 (shapeCast S1x128 eg shapeCasts_S1x1x1x128_S1x128) broadcasts_S1x128_S128x128))
    (extractStridedSlice S128x128 ![64, 0] (stR2 ak u (stR1 wq S)) slices_S192x128_o64_0_S128x128)

/-- The chunk's rows before the norm: the state's part and the part inside the chunk. -/
def stRow (wq : Vec F S1x1x1x128x128 .bf16) (ak : Vec F S1x1x1x192x64 .bf16) (u : Vec F S1x1x64x128 .f32)
    (S : FVec F S128x128 .f32) : FVec F S64x128 .f32 :=
  addf (extractStridedSlice S64x128 ![64, 0] (stR1 wq S) slices_S128x128_o64_0_S64x128)
    (extractStridedSlice S64x128 ![0, 0] (stR2 ak u (stR1 wq S)) slices_S192x128_o0_0_S64x128)

/-- The root mean square norm of each row, with its gain. -/
def stNorm (ng : Vec F S1x128 .f32) (x : FVec F S64x128 .f32) : FVec F S64x128 .f32 :=
  mulf (mulf x (broadcastTo S64x128
      (rsqrt (addf (divf (shapeCast S64x1 (multiReduction .add [1] S64 (mulf x x) 0x00000000#32 reduces_S64x128_S64 (.inl rfl) rfl)
        shapeCasts_S64_S64x1) (broadcast S64x1 (Scalar.ofBits .f32 0x43000000#32)))
        (broadcast S64x1 (Scalar.ofBits .f32 0x358637BD#32)))) broadcasts_S64x1_S64x128))
    (broadcastTo S64x128 (shapeCast S1x128 ng shapeCasts_S1x128_S1x128) broadcasts_S1x128_S64x128)

/-- The gate: z times its logistic. -/
def stGate (z : Vec F S1x64x128 .f32) : FVec F S64x128 .f32 :=
  mulf (shapeCast S64x128 z shapeCasts_S1x64x128_S64x128)
    (divf (broadcast S64x128 (Scalar.ofBits .f32 0x3F800000#32))
      (addf (broadcast S64x128 (Scalar.ofBits .f32 0x3F800000#32))
        (exp (subf (broadcast S64x128 (Scalar.ofBits .f32 0x00000000#32)) (shapeCast S64x128 z shapeCasts_S1x64x128_S64x128)))))

/-- What the chunk stores. -/
def stOut (wq : Vec F S1x1x1x128x128 .bf16) (ak : Vec F S1x1x1x192x64 .bf16) (u : Vec F S1x1x64x128 .f32)
    (z : Vec F S1x64x128 .f32) (ng : Vec F S1x128 .f32) (S : FVec F S128x128 .f32) : FVec F S1x64x128 .bf16 :=
  shapeCast S1x64x128 (truncf .bf16 (mulf (stNorm ng (stRow wq ak u S)) (stGate z)) bitsLt_bf16_f32) shapeCasts_S64x128_S1x64x128

/-- The rectangle of this load or store lies inside its block. -/
theorem inbW (b h n : Fin 4) : ∀ a, (![b.val, h.val, n.val, 0, 0] : Fin 5 → ℕ) a + (![1, 1, 1, 128, 128] : Fin 5 → ℕ) a ≤ S4x4x4x128x128.size a := by
  revert b h n; decide
/-- The rectangle of this load or store lies inside its block. -/
theorem inbA (b h n : Fin 4) : ∀ a, (![b.val, h.val, n.val, 0, 0] : Fin 5 → ℕ) a + (![1, 1, 1, 192, 64] : Fin 5 → ℕ) a ≤ S4x4x4x192x64.size a := by
  revert b h n; decide
/-- The rectangle of this load or store lies inside its block. -/
theorem inbU (b h n : Fin 4) : ∀ a, (![b.val, h.val, 64 * n.val, 0] : Fin 4 → ℕ) a + (![1, 1, 64, 128] : Fin 4 → ℕ) a ≤ S4x4x256x128.size a := by
  revert b h n; decide
/-- The rectangle of this load or store lies inside its block. -/
theorem inbE (b h n : Fin 4) : ∀ a, (![b.val, n.val, h.val, 0] : Fin 4 → ℕ) a + (![1, 1, 1, 128] : Fin 4 → ℕ) a ≤ S4x4x8x128.size a := by
  revert b h n; decide
/-- The rectangle of this load or store lies inside its block. -/
theorem inbZ (b h n : Fin 4) : ∀ a, (![b.val, 64 * n.val, 128 * h.val] : Fin 3 → ℕ) a + (![1, 64, 128] : Fin 3 → ℕ) a ≤ S4x256x512.size a := by
  revert b h n; decide
/-- The rectangle of this load or store lies inside its block. -/
theorem inbS (b h : Fin 4) : ∀ a, (![b.val, h.val, 0, 0] : Fin 4 → ℕ) a + (![1, 1, 128, 128] : Fin 4 → ℕ) a ≤ S4x4x128x128.size a := by
  revert b h; decide
/-- The rectangle of this load or store lies inside its block. -/
theorem inbS0 : ∀ a, (![0, 0, 0, 0] : Fin 4 → ℕ) a + (![4, 4, 128, 128] : Fin 4 → ℕ) a ≤ S4x4x128x128.size a := by
  decide
/-- The rectangle of this load or store lies inside its block. -/
theorem inbG : ∀ a, (![0, 0] : Fin 2 → ℕ) a + (![1, 128] : Fin 2 → ℕ) a ≤ S1x128.size a := by
  decide

section Loads

variable (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole)
variable (x0 : Vec F S4x4x256x128 .f32) (x1 : Vec F S4x4x4x128x128 .bf16) (x2 : Vec F S4x4x4x192x64 .bf16) (x3 : Vec F S4x4x8x128 .f32) (x4 : Vec F S4x256x512 .f32) (x5 : Vec F S1x128 .f32)

/-- The loads of one chunk of chain (b, h). -/
def ldU (b h n : Fin 4) : Vec F S1x1x64x128 .f32 :=
  (View.readAt (Elt F) arg1.view (Rect.unit ![b.val, h.val, 64 * n.val, 0] ![1, 1, 64, 128] (inbU b h n)).toLoadRect (harg1.unread x0) :)
@[inherit_doc ldU] def ldW (b h n : Fin 4) : Vec F S1x1x1x128x128 .bf16 :=
  (View.readAt (Elt F) arg2.view (Rect.unit ![b.val, h.val, n.val, 0, 0] ![1, 1, 1, 128, 128] (inbW b h n)).toLoadRect (harg2.unread x1) :)
@[inherit_doc ldU] def ldA (b h n : Fin 4) : Vec F S1x1x1x192x64 .bf16 :=
  (View.readAt (Elt F) arg3.view (Rect.unit ![b.val, h.val, n.val, 0, 0] ![1, 1, 1, 192, 64] (inbA b h n)).toLoadRect (harg3.unread x2) :)
@[inherit_doc ldU] def ldE (b h n : Fin 4) : Vec F S1x1x1x128 .f32 :=
  (View.readAt (Elt F) arg4.view (Rect.unit ![b.val, n.val, h.val, 0] ![1, 1, 1, 128] (inbE b h n)).toLoadRect (harg4.unread x3) :)
@[inherit_doc ldU] def ldZ (b h n : Fin 4) : Vec F S1x64x128 .f32 :=
  (View.readAt (Elt F) arg5.view (Rect.unit ![b.val, 64 * n.val, 128 * h.val] ![1, 64, 128] (inbZ b h n)).toLoadRect (harg5.unread x4) :)
@[inherit_doc ldU] def ldG : Vec F S1x128 .f32 :=
  (View.readAt (Elt F) arg6.view (Rect.unit ![0, 0] ![1, 128] inbG).toLoadRect (harg6.unread x5) :)

/-- The state of chain (b, h) before chunk `n` of the point. -/
def chain (s0 : Fin 4 → Fin 4 → Vec F S1x1x128x128 .f32) (b h : Fin 4) : (n : ℕ) → n ≤ 4 → FVec F S128x128 .f32
  | 0, _ => shapeCast S128x128 (s0 b h) shapeCasts_S1x1x128x128_S128x128
  | n + 1, hn => stNext (ldW arg2 harg2 x1 b h ⟨n, hn⟩) (ldA arg3 harg3 x2 b h ⟨n, hn⟩) (ldU arg1 harg1 x0 b h ⟨n, hn⟩)
      (ldE arg4 harg4 x3 b h ⟨n, hn⟩) (chain s0 b h n (Nat.le_of_succ_le hn))

/-- The order of the stores, last first. -/
abbrev rev4 : List (Fin 4) := [3, 2, 1, 0]

/-- The pieces of the output block: one per chunk, batch and head. -/
def outPieces (s0 : Fin 4 → Fin 4 → Vec F S1x1x128x128 .f32) : List (View.Piece (Elt F) S4x256x512 .bf16) :=
  rev4.flatMap fun n => rev4.flatMap fun b => rev4.map fun h =>
    ⟨Rect.unit ![b.val, 64 * n.val, 128 * h.val] ![1, 64, 128] (inbZ b h n),
      stOut (ldW arg2 harg2 x1 b h n) (ldA arg3 harg3 x2 b h n) (ldU arg1 harg1 x0 b h n)
        (ldZ arg5 harg5 x4 b h n) (ldG arg6 harg6 x5)
        (chain arg1 harg1 arg2 harg2 arg3 harg3 arg4 harg4 x0 x1 x2 x3 s0 b h n.val (Nat.le_of_lt n.isLt))⟩

/-- The pieces of the carried state: one per batch and head. -/
def statePieces (s0 : Fin 4 → Fin 4 → Vec F S1x1x128x128 .f32) : List (View.Piece (Elt F) S4x4x128x128 .f32) :=
  rev4.flatMap fun b => rev4.map fun h =>
    ⟨Rect.unit ![b.val, h.val, 0, 0] ![1, 1, 128, 128] (inbS b h),
      shapeCast S1x1x128x128 (chain arg1 harg1 arg2 harg2 arg3 harg3 arg4 harg4 x0 x1 x2 x3 s0 b h 4 (Nat.le_refl 4)) shapeCasts_S128x128_S1x1x128x128⟩

end Loads

/-- The carried state's load at a later point, and at the first point over the zeros just stored. -/
def ldS (arg8 : Memref sig .tc .vmem S4x4x128x128 .f32) (harg8 : arg8.IsWhole) (xs0 : Vec F S4x4x128x128 .f32) (b h : Fin 4) : Vec F S1x1x128x128 .f32 :=
  (View.readAt (Elt F) arg8.view (Rect.unit ![b.val, h.val, 0, 0] ![1, 1, 128, 128] (inbS b h)).toLoadRect (harg8.unread xs0) :)
@[inherit_doc ldS] def ldS0 (arg8 : Memref sig .tc .vmem S4x4x128x128 .f32) (b h : Fin 4) : Vec F S1x1x128x128 .f32 :=
  (arg8.view.readCov [(⟨Rect.unit ![0, 0, 0, 0] ![4, 4, 128, 128] inbS0, k0_pay2⟩ : View.Piece (Elt F) S4x4x128x128 .f32)] (Rect.unit ![b.val, h.val, 0, 0] ![1, 1, 128, 128] (inbS b h)).toLoadRect :)

/-- A later point's output pieces. -/
theorem piecesB (c : Dev nD) (i : grid0.Coords) (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole) (arg7 : Memref sig .tc .vmem S4x256x512 .bf16) (harg7 : arg7.IsWhole) (arg8 : Memref sig .tc .vmem S4x4x128x128 .f32) (harg8 : arg8.IsWhole) (hc0 : ¬cond0_0 i)
    (x0 : Vec F S4x4x256x128 .f32) (x1 : Vec F S4x4x4x128x128 .bf16) (x2 : Vec F S4x4x4x192x64 .bf16) (x3 : Vec F S4x4x8x128 .f32) (x4 : Vec F S4x256x512 .f32) (x5 : Vec F S1x128 .f32) (xs0 : Vec F S4x4x128x128 .f32) :
    (kernelRun0_B c i arg1 harg1 arg2 harg2 arg3 harg3 arg4 harg4 arg5 harg5 arg6 harg6 arg7 harg7 arg8 harg8 hc0 x0 x1 x2 x3 x4 x5 xs0).1
      = outPieces arg1 harg1 arg2 harg2 arg3 harg3 arg4 harg4 arg5 harg5 arg6 harg6 x0 x1 x2 x3 x4 x5 (ldS arg8 harg8 xs0) := by
  sl_kernel_rfl

/-- A later point's pieces of the carried state. -/
theorem spiecesB (c : Dev nD) (i : grid0.Coords) (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole) (arg7 : Memref sig .tc .vmem S4x256x512 .bf16) (harg7 : arg7.IsWhole) (arg8 : Memref sig .tc .vmem S4x4x128x128 .f32) (harg8 : arg8.IsWhole) (hc0 : ¬cond0_0 i)
    (x0 : Vec F S4x4x256x128 .f32) (x1 : Vec F S4x4x4x128x128 .bf16) (x2 : Vec F S4x4x4x192x64 .bf16) (x3 : Vec F S4x4x8x128 .f32) (x4 : Vec F S4x256x512 .f32) (x5 : Vec F S1x128 .f32) (xs0 : Vec F S4x4x128x128 .f32) :
    (kernelRun0_B c i arg1 harg1 arg2 harg2 arg3 harg3 arg4 harg4 arg5 harg5 arg6 harg6 arg7 harg7 arg8 harg8 hc0 x0 x1 x2 x3 x4 x5 xs0).2.1
      = statePieces arg1 harg1 arg2 harg2 arg3 harg3 arg4 harg4 x0 x1 x2 x3 (ldS arg8 harg8 xs0) := by
  sl_kernel_rfl

/-- The first point's output pieces. -/
theorem piecesA (c : Dev nD) (i : grid0.Coords) (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole) (arg7 : Memref sig .tc .vmem S4x256x512 .bf16) (harg7 : arg7.IsWhole) (arg8 : Memref sig .tc .vmem S4x4x128x128 .f32) (harg8 : arg8.IsWhole) (hc0 : cond0_0 i)
    (x0 : Vec F S4x4x256x128 .f32) (x1 : Vec F S4x4x4x128x128 .bf16) (x2 : Vec F S4x4x4x192x64 .bf16) (x3 : Vec F S4x4x8x128 .f32) (x4 : Vec F S4x256x512 .f32) (x5 : Vec F S1x128 .f32) :
    (kernelRun0_A c i arg1 harg1 arg2 harg2 arg3 harg3 arg4 harg4 arg5 harg5 arg6 harg6 arg7 harg7 arg8 harg8 hc0 x0 x1 x2 x3 x4 x5).1
      = outPieces arg1 harg1 arg2 harg2 arg3 harg3 arg4 harg4 arg5 harg5 arg6 harg6 x0 x1 x2 x3 x4 x5 (ldS0 arg8) := by
  sl_kernel_rfl

/-- The first point's pieces of the carried state: the chains' over the zeros. -/
theorem spiecesA (c : Dev nD) (i : grid0.Coords) (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole) (arg7 : Memref sig .tc .vmem S4x256x512 .bf16) (harg7 : arg7.IsWhole) (arg8 : Memref sig .tc .vmem S4x4x128x128 .f32) (harg8 : arg8.IsWhole) (hc0 : cond0_0 i)
    (x0 : Vec F S4x4x256x128 .f32) (x1 : Vec F S4x4x4x128x128 .bf16) (x2 : Vec F S4x4x4x192x64 .bf16) (x3 : Vec F S4x4x8x128 .f32) (x4 : Vec F S4x256x512 .f32) (x5 : Vec F S1x128 .f32) :
    (kernelRun0_A c i arg1 harg1 arg2 harg2 arg3 harg3 arg4 harg4 arg5 harg5 arg6 harg6 arg7 harg7 arg8 harg8 hc0 x0 x1 x2 x3 x4 x5).2.1
      = statePieces arg1 harg1 arg2 harg2 arg3 harg3 arg4 harg4 x0 x1 x2 x3 (ldS0 arg8)
        ++ [(⟨Rect.unit ![0, 0, 0, 0] ![4, 4, 128, 128] inbS0, k0_pay2⟩ : View.Piece (Elt F) S4x4x128x128 .f32)] := by
  sl_kernel_rfl

end Cert.ScanIdeal.Step
-- ==== Proof.ScanMath.lean ====
module

public import Idealize.ShloMosaic.PureOps.Ideal

/-! The gated delta rule over chunks of 64 positions, in plain index form over the extended reals: the recurrence both
programs are shown to compute. One chain is one (batch, head) pair; `u` are the chain's new-value rows, `wq` the stacked
rows of w and of the decayed queries, `ak` the stacked masked scores and decayed keys, `eg` the chunk's decay. -/

@[expose] public section

noncomputable section

namespace Cert.Delta

open Idealize.ShloMosaic

variable (u : Fin 4 → Fin 4 → Fin 4096 → Fin 128 → EReal) (wq : Fin 4 → Fin 4 → Fin 64 → Fin 128 → Fin 128 → EReal)
variable (ak : Fin 4 → Fin 4 → Fin 64 → Fin 192 → Fin 64 → EReal) (eg : Fin 4 → Fin 64 → Fin 8 → Fin 128 → EReal)
variable (z : Fin 4 → Fin 4096 → Fin 512 → EReal) (g : Fin 128 → EReal)

/-- Chunk `k` of the sequence. -/
abbrev ck (k : ℕ) : Fin 64 := ⟨k % 64, Nat.mod_lt _ (by decide)⟩
/-- Position `r` of chunk `k`. -/
abbrev pos (k : ℕ) (r : Fin 64) : Fin 4096 := ⟨64 * (k % 64) + r.val, by have := r.isLt; omega⟩
/-- Row `r` of the first, and of the second half of 128 rows. -/
abbrev lo128 (r : Fin 64) : Fin 128 := ⟨r.val, by have := r.isLt; omega⟩
@[inherit_doc lo128] abbrev hi128 (r : Fin 64) : Fin 128 := ⟨64 + r.val, by have := r.isLt; omega⟩
/-- Row `r` of the first 64, and of the last 128 of 192 rows. -/
abbrev lo192 (r : Fin 64) : Fin 192 := ⟨r.val, by have := r.isLt; omega⟩
@[inherit_doc lo192] abbrev hi192 (r : Fin 128) : Fin 192 := ⟨64 + r.val, by have := r.isLt; omega⟩
/-- Head `h` among eight. -/
abbrev hd8 (h : Fin 4) : Fin 8 := ⟨h.val, by have := h.isLt; omega⟩
/-- Lane `v` of head `h` among 512. -/
abbrev lane (h : Fin 4) (v : Fin 128) : Fin 512 := ⟨128 * h.val + v.val, by have := h.isLt; have := v.isLt; omega⟩

/-- The chunk's new values: u less w times the state. -/
def newV (b h : Fin 4) (k : ℕ) (S : Fin 128 → Fin 128 → EReal) (r : Fin 64) (v : Fin 128) : EReal :=
  u b h (pos k r) v - ∑ p : Fin 128, wq b h (ck k) (lo128 r) p * S p v

/-- The state before chunk `k`. -/
def state (b h : Fin 4) : ℕ → Fin 128 → Fin 128 → EReal
  | 0 => fun _ _ => 0
  | k + 1 => fun i v => state b h k i v * eg b (ck k) (hd8 h) v
      + ∑ r : Fin 64, ak b h (ck k) (hi192 i) r * newV u wq b h k (state b h k) r v

/-- The row of chunk `k` before the norm. -/
def row (b h : Fin 4) (k : ℕ) (r : Fin 64) (v : Fin 128) : EReal :=
  (∑ p : Fin 128, wq b h (ck k) (hi128 r) p * state u wq ak eg b h k p v)
    + ∑ s : Fin 64, ak b h (ck k) (lo192 r) s * newV u wq b h k (state u wq ak eg b h k) s v

/-- The root mean square norm of a row with its gain. -/
def norm (x : Fin 128 → EReal) (v : Fin 128) : EReal :=
  x v * Ideal.rsqrt (Ideal.div (∑ p : Fin 128, x p * x p) (Ideal.ofBits .f32 0x43000000#32) + Ideal.ofBits .f32 0x358637BD#32) * g v

/-- The gate of `t`: `t` times its logistic. -/
def gate (t : EReal) : EReal := t * Ideal.div 1 (1 + Ideal.exp (-t))

/-- The result at position `r` of chunk `k`, head `h`, lane `v`. -/
def out (b h : Fin 4) (k : ℕ) (r : Fin 64) (v : Fin 128) : EReal :=
  norm g (row u wq ak eg b h k r) v * gate (z b (pos k r) (lane h v))

end Cert.Delta
-- ==== Proof.ScanBlock.lean ====
module

public import proofs.«01_k».proof.Proof.ScanStep
public import proofs.«01_k».proof.Proof.ScanMath
public import Idealize.ShloMosaic.Lib.Pointwise
public import Idealize.ShloMosaic.Lib.Pipeline.Value
public import Idealize.ShloMosaic.Lib.Pipeline.CanonAppend

/-! What one grid point of the scan leaves, at an index: the result block holds `Delta.out` of the point's four chunks,
the carried block the state after them, when the input blocks hold the arrays' parts and the carried block the state
before. -/

@[expose] public section

set_option maxRecDepth 16384

noncomputable section

namespace Cert.ScanIdeal.Step

open Cert.ScanIdeal Cert.ScanIdeal.Gen Idealize.ShloMosaic Idealize.ShloMosaic.TcCoe Idealize.SL.Sem

/-- The first product at an index. -/
theorem stR1_apply (wq : Vec Ideal S1x1x1x128x128 .bf16) (S : FVec Ideal S128x128 .f32) (i j : Fin 128) :
    stR1 wq S (ix2 i j) = ∑ p : Fin 128, wq (ix5 0 0 0 i p) * S (ix2 p j) := by
  unfold stR1
  pointwise

/-- The state after a chunk at an index. -/
theorem stNext_apply (wq : Vec Ideal S1x1x1x128x128 .bf16) (ak : Vec Ideal S1x1x1x192x64 .bf16) (u : Vec Ideal S1x1x64x128 .f32)
    (eg : Vec Ideal S1x1x1x128 .f32) (S : FVec Ideal S128x128 .f32) (i j : Fin 128) :
    stNext wq ak u eg S (ix2 i j) = S (ix2 i j) * eg (ix4 0 0 0 j)
      + ∑ r : Fin 64, ak (ix5 0 0 0 (Delta.hi192 i) r)
        * (u (ix4 0 0 r j) - ∑ p : Fin 128, wq (ix5 0 0 0 (Delta.lo128 r) p) * S (ix2 p j)) := by
  unfold stNext stR2
  pointwise [stR1_apply]

/-- The row before the norm at an index. -/
theorem stRow_apply (wq : Vec Ideal S1x1x1x128x128 .bf16) (ak : Vec Ideal S1x1x1x192x64 .bf16) (u : Vec Ideal S1x1x64x128 .f32)
    (S : FVec Ideal S128x128 .f32) (r : Fin 64) (j : Fin 128) :
    stRow wq ak u S (ix2 r j) = (∑ p : Fin 128, wq (ix5 0 0 0 (Delta.hi128 r) p) * S (ix2 p j))
      + ∑ s : Fin 64, ak (ix5 0 0 0 (Delta.lo192 r) s)
        * (u (ix4 0 0 s j) - ∑ p : Fin 128, wq (ix5 0 0 0 (Delta.lo128 s) p) * S (ix2 p j)) := by
  unfold stRow stR2
  pointwise [stR1_apply]

/-- The stored row at an index: the norm of the row times the gate. -/
theorem stOut_apply (wq : Vec Ideal S1x1x1x128x128 .bf16) (ak : Vec Ideal S1x1x1x192x64 .bf16) (u : Vec Ideal S1x1x64x128 .f32)
    (z : Vec Ideal S1x64x128 .f32) (ng : Vec Ideal S1x128 .f32) (S : FVec Ideal S128x128 .f32) (o : Fin 1) (r : Fin 64) (j : Fin 128) :
    stOut wq ak u z ng S (ix3 o r j) = Delta.norm (fun v => ng (ix2 0 v)) (fun v => stRow wq ak u S (ix2 r v)) j
      * Delta.gate (z (ix3 0 r j)) := by
  unfold stOut stNorm stGate Delta.norm Delta.gate
  pointwise
  rw [zero_sub]

variable (u : Fin 4 → Fin 4 → Fin 4096 → Fin 128 → EReal) (wq : Fin 4 → Fin 4 → Fin 64 → Fin 128 → Fin 128 → EReal)
variable (ak : Fin 4 → Fin 4 → Fin 64 → Fin 192 → Fin 64 → EReal) (eg : Fin 4 → Fin 64 → Fin 8 → Fin 128 → EReal)
variable (z : Fin 4 → Fin 4096 → Fin 512 → EReal) (g : Fin 128 → EReal)

/-- The input blocks hold the arrays' parts at point `T`. -/
structure Held (T : ℕ) (x0 : Vec Ideal S4x4x256x128 .f32) (x1 : Vec Ideal S4x4x4x128x128 .bf16) (x2 : Vec Ideal S4x4x4x192x64 .bf16)
    (x3 : Vec Ideal S4x4x8x128 .f32) (x4 : Vec Ideal S4x256x512 .f32) (x5 : Vec Ideal S1x128 .f32) : Prop where
  lt : T < 16
  h0 : ∀ (b h : Fin 4) (r : Fin 256) (v : Fin 128), x0 (ix4 b h r v) = u b h ⟨256 * T + r.val, by have := r.isLt; omega⟩ v
  h1 : ∀ (b h n : Fin 4) (i p : Fin 128), x1 (ix5 b h n i p) = wq b h ⟨4 * T + n.val, by have := n.isLt; omega⟩ i p
  h2 : ∀ (b h n : Fin 4) (i : Fin 192) (r : Fin 64), x2 (ix5 b h n i r) = ak b h ⟨4 * T + n.val, by have := n.isLt; omega⟩ i r
  h3 : ∀ (b n : Fin 4) (h : Fin 8) (v : Fin 128), x3 (ix4 b n h v) = eg b ⟨4 * T + n.val, by have := n.isLt; omega⟩ h v
  h4 : ∀ (b : Fin 4) (r : Fin 256) (l : Fin 512), x4 (ix3 b r l) = z b ⟨256 * T + r.val, by have := r.isLt; omega⟩ l
  h5 : ∀ v : Fin 128, x5 (ix2 0 v) = g v

section Loads

variable (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole)
variable {x0 : Vec Ideal S4x4x256x128 .f32} {x1 : Vec Ideal S4x4x4x128x128 .bf16} {x2 : Vec Ideal S4x4x4x192x64 .bf16} {x3 : Vec Ideal S4x4x8x128 .f32} {x4 : Vec Ideal S4x256x512 .f32} {x5 : Vec Ideal S1x128 .f32}
variable {T : ℕ} (H : Held u wq ak eg z g T x0 x1 x2 x3 x4 x5)

include H

/-- The load of a chunk's new-value rows. -/
theorem ldU_apply (b h n : Fin 4) (r : Fin 64) (v : Fin 128) :
    ldU arg1 harg1 x0 b h n (ix4 0 0 r v) = u b h (Delta.pos (4 * T + n.val) r) v := by
  have e : ldU arg1 harg1 x0 b h n = View.ld x0 (Rect.unit ![b.val, h.val, 64 * n.val, 0] ![1, 1, 64, 128] (inbU b h n)) :=
    (View.readAt_eq_ld ..).trans (congrArg (fun X => View.ld X _) (harg1.read_unread x0))
  rw [e]
  have hT := H.lt
  have hn := n.isLt
  have hr := r.isLt
  refine Eq.trans ?_ ((H.h0 b h ⟨64 * n.val + r.val, by omega⟩ v).trans ?_)
  · show x0 _ = _
    congr 1
    pointwise
  · congr 1
    try (apply Fin.ext; simp only [Delta.pos, Delta.ck, Delta.lane]; omega)

/-- The load of a chunk's stacked w and queries. -/
theorem ldW_apply (b h n : Fin 4) (i p : Fin 128) :
    ldW arg2 harg2 x1 b h n (ix5 0 0 0 i p) = wq b h (Delta.ck (4 * T + n.val)) i p := by
  have e : ldW arg2 harg2 x1 b h n = View.ld x1 (Rect.unit ![b.val, h.val, n.val, 0, 0] ![1, 1, 1, 128, 128] (inbW b h n)) :=
    (View.readAt_eq_ld ..).trans (congrArg (fun X => View.ld X _) (harg2.read_unread x1))
  rw [e]
  have hT := H.lt
  have hn := n.isLt
  refine Eq.trans ?_ ((H.h1 b h n i p).trans ?_)
  · show x1 _ = _
    congr 1
    pointwise
  · congr 1
    try (apply Fin.ext; simp only [Delta.pos, Delta.ck, Delta.lane]; omega)

/-- The load of a chunk's stacked scores and keys. -/
theorem ldA_apply (b h n : Fin 4) (i : Fin 192) (p : Fin 64) :
    ldA arg3 harg3 x2 b h n (ix5 0 0 0 i p) = ak b h (Delta.ck (4 * T + n.val)) i p := by
  have e : ldA arg3 harg3 x2 b h n = View.ld x2 (Rect.unit ![b.val, h.val, n.val, 0, 0] ![1, 1, 1, 192, 64] (inbA b h n)) :=
    (View.readAt_eq_ld ..).trans (congrArg (fun X => View.ld X _) (harg3.read_unread x2))
  rw [e]
  have hT := H.lt
  have hn := n.isLt
  refine Eq.trans ?_ ((H.h2 b h n i p).trans ?_)
  · show x2 _ = _
    congr 1
    pointwise
  · congr 1
    try (apply Fin.ext; simp only [Delta.pos, Delta.ck, Delta.lane]; omega)

/-- The load of a chunk's decay. -/
theorem ldE_apply (b h n : Fin 4) (v : Fin 128) :
    ldE arg4 harg4 x3 b h n (ix4 0 0 0 v) = eg b (Delta.ck (4 * T + n.val)) (Delta.hd8 h) v := by
  have e : ldE arg4 harg4 x3 b h n = View.ld x3 (Rect.unit ![b.val, n.val, h.val, 0] ![1, 1, 1, 128] (inbE b h n)) :=
    (View.readAt_eq_ld ..).trans (congrArg (fun X => View.ld X _) (harg4.read_unread x3))
  rw [e]
  have hT := H.lt
  have hn := n.isLt
  refine Eq.trans ?_ ((H.h3 b n (Delta.hd8 h) v).trans ?_)
  · show x3 _ = _
    congr 1
    pointwise
  · congr 1
    try (apply Fin.ext; simp only [Delta.pos, Delta.ck, Delta.lane]; omega)

/-- The load of a chunk's gates. -/
theorem ldZ_apply (b h n : Fin 4) (r : Fin 64) (v : Fin 128) :
    ldZ arg5 harg5 x4 b h n (ix3 0 r v) = z b (Delta.pos (4 * T + n.val) r) (Delta.lane h v) := by
  have e : ldZ arg5 harg5 x4 b h n = View.ld x4 (Rect.unit ![b.val, 64 * n.val, 128 * h.val] ![1, 64, 128] (inbZ b h n)) :=
    (View.readAt_eq_ld ..).trans (congrArg (fun X => View.ld X _) (harg5.read_unread x4))
  rw [e]
  have hT := H.lt
  have hn := n.isLt
  have hr := r.isLt
  have hh := h.isLt
  have hv := v.isLt
  refine Eq.trans ?_ ((H.h4 b ⟨64 * n.val + r.val, by omega⟩ (Delta.lane h v)).trans ?_)
  · show x4 _ = _
    congr 1
    pointwise
  · congr 1
    try (apply Fin.ext; simp only [Delta.pos, Delta.ck, Delta.lane]; omega)

/-- The load of the gain. -/
theorem ldG_apply (v : Fin 128) :
    ldG arg6 harg6 x5  (ix2 0 v) = g v := by
  have e : ldG arg6 harg6 x5  = View.ld x5 (Rect.unit ![0, 0] ![1, 128] inbG) :=
    (View.readAt_eq_ld ..).trans (congrArg (fun X => View.ld X _) (harg6.read_unread x5))
  rw [e]
  have hT := H.lt

  refine Eq.trans ?_ ((H.h5 v).trans ?_)
  · show x5 _ = _
    congr 1
    pointwise
  · congr 1
    try (apply Fin.ext; simp only [Delta.pos, Delta.ck, Delta.lane]; omega)

/-- The chain before chunk `n` of the point is the recurrence's state before chunk `4 T + n`. -/
theorem chain_apply (s0 : Fin 4 → Fin 4 → Vec Ideal S1x1x128x128 .f32)
    (h0 : ∀ (b h : Fin 4) (i v : Fin 128), s0 b h (ix4 0 0 i v) = Delta.state u wq ak eg b h (4 * T) i v) (b h : Fin 4) :
    ∀ (n : ℕ) (hn : n ≤ 4) (i v : Fin 128),
      chain arg1 harg1 arg2 harg2 arg3 harg3 arg4 harg4 x0 x1 x2 x3 s0 b h n hn (ix2 i v)
        = Delta.state u wq ak eg b h (4 * T + n) i v
  | 0, hn, i, v => by
    unfold chain
    pointwise [h0]
    try rfl
  | n + 1, hn, i, v => by
    unfold chain
    rw [stNext_apply]
    simp only [chain_apply s0 h0 b h n (Nat.le_of_succ_le hn), ldU_apply u wq ak eg z g arg1 harg1 H, ldW_apply u wq ak eg z g arg2 harg2 H,
      ldA_apply u wq ak eg z g arg3 harg3 H, ldE_apply u wq ak eg z g arg4 harg4 H]
    rfl

/-- The function the point's result block is shown to hold. -/
def outAt (T : ℕ) : Vec Ideal S4x256x512 .bf16 := fun y =>
  Delta.out u wq ak eg z g (y 0) ⟨(y 2).val / 128, by have : (y 2).val < 512 := (y 2).isLt; omega⟩ (4 * T + (y 1).val / 64)
    ⟨(y 1).val % 64, Nat.mod_lt _ (by decide)⟩ ⟨(y 2).val % 128, Nat.mod_lt _ (by decide)⟩

/-- The function the carried block is shown to hold after the chunks before `k`. -/
def stateAt (k : ℕ) : Vec Ideal S4x4x128x128 .f32 := fun y => Delta.state u wq ak eg (y 0) (y 1) k (y 2) (y 3)

/-- Every output piece is its part of `outAt`. -/
theorem outPieces_spec (s0 : Fin 4 → Fin 4 → Vec Ideal S1x1x128x128 .f32)
    (h0 : ∀ (b h : Fin 4) (i v : Fin 128), s0 b h (ix4 0 0 i v) = Delta.state u wq ak eg b h (4 * T) i v) :
    ∀ p ∈ outPieces arg1 harg1 arg2 harg2 arg3 harg3 arg4 harg4 arg5 harg5 arg6 harg6 x0 x1 x2 x3 x4 x5 s0,
      ∀ x : p.1.shape.Idx, p.2 x = outAt u wq ak eg z g T (p.1.emb x) := by
  intro p hp
  simp only [outPieces, List.mem_flatMap, List.mem_map] at hp
  obtain ⟨n, -, b, -, h, -, rfl⟩ := hp
  intro (x : S1x64x128.Idx)
  idx_vars x
  rw [stOut_apply]
  simp only [stRow_apply, chain_apply u wq ak eg z g arg1 harg1 arg2 harg2 arg3 harg3 arg4 harg4 H s0 h0 b h n.val (Nat.le_of_lt n.isLt), ldU_apply u wq ak eg z g arg1 harg1 H, ldW_apply u wq ak eg z g arg2 harg2 H,
      ldA_apply u wq ak eg z g arg3 harg3 H, ldZ_apply u wq ak eg z g arg5 harg5 H, ldG_apply u wq ak eg z g arg6 harg6 H]
  have e : (Rect.unit (s := S4x256x512) ![b.val, 64 * n.val, 128 * h.val] ![1, 64, 128] (inbZ b h n)).emb (ix3 x0 x1 x2)
      = ix3 b ⟨64 * n.val + x1.val, by have := n.isLt; have := x1.isLt; omega⟩ (Delta.lane h x2) := by
    funext a; apply Fin.ext; rw [Rect.emb_apply]; fin_cases a <;> simp
  refine Eq.trans ?_ (congrArg (outAt u wq ak eg z g T) e).symm
  unfold outAt
  have hx1 := x1.isLt
  have hx2 := x2.isLt
  have e1 : (64 * n.val + x1.val) / 64 = n.val := by omega
  have e2 : (64 * n.val + x1.val) % 64 = x1.val := by omega
  have e3 : (128 * h.val + x2.val) / 128 = h.val := by omega
  have e4 : (128 * h.val + x2.val) % 128 = x2.val := by omega
  simp only [ix3_0, ix3_1, ix3_2, e1, e2, e3, e4]
  rfl

/-- Every carried piece is its part of `stateAt` after the point. -/
theorem statePieces_spec (s0 : Fin 4 → Fin 4 → Vec Ideal S1x1x128x128 .f32)
    (h0 : ∀ (b h : Fin 4) (i v : Fin 128), s0 b h (ix4 0 0 i v) = Delta.state u wq ak eg b h (4 * T) i v) :
    ∀ p ∈ statePieces arg1 harg1 arg2 harg2 arg3 harg3 arg4 harg4 x0 x1 x2 x3 s0,
      ∀ x : p.1.shape.Idx, p.2 x = stateAt u wq ak eg (4 * T + 4) (p.1.emb x) := by
  intro p hp
  simp only [statePieces, List.mem_flatMap, List.mem_map] at hp
  obtain ⟨b, -, h, -, rfl⟩ := hp
  intro (x : S1x1x128x128.Idx)
  idx_vars x
  have e : (Rect.unit (s := S4x4x128x128) ![b.val, h.val, 0, 0] ![1, 1, 128, 128] (inbS b h)).emb (ix4 x0 x1 x2 x3)
      = ix4 b h x2 x3 := by
    funext a; apply Fin.ext; rw [Rect.emb_apply]; fin_cases a <;> simp
  refine Eq.trans ?_ (congrArg (stateAt u wq ak eg (4 * T + 4)) e).symm
  pointwise [chain_apply u wq ak eg z g arg1 harg1 arg2 harg2 arg3 harg3 arg4 harg4 H s0 h0 b h 4 (Nat.le_refl 4)]
  rfl

end Loads

end Cert.ScanIdeal.Step
-- ==== Proof.ScanState.lean ====
module

public import proofs.«01_k».proof.Proof.ScanBlock
public import Idealize.ShloMosaic.Lib.Pipeline.ValueKit

/-! The scan kernel's result array over the extended reals: by induction over the grid points the carried block holds
the recurrence's state, so the array ends holding `Delta.out`. -/

@[expose] public section

set_option maxRecDepth 16384

noncomputable section

namespace Cert.ScanIdeal.Step

open Cert.ScanIdeal Cert.ScanIdeal.Gen Idealize.ShloMosaic Idealize.ShloMosaic.TcCoe Idealize.SL.Sem

section Points

variable (u : Fin 4 → Fin 4 → Fin 4096 → Fin 128 → EReal) (wq : Fin 4 → Fin 4 → Fin 64 → Fin 128 → Fin 128 → EReal)
variable (ak : Fin 4 → Fin 4 → Fin 64 → Fin 192 → Fin 64 → EReal) (eg : Fin 4 → Fin 64 → Fin 8 → Fin 128 → EReal)
variable (z : Fin 4 → Fin 4096 → Fin 512 → EReal) (g : Fin 128 → EReal)

variable (c : Dev nD) (i : grid0.Coords) (arg1 : Memref sig .tc .vmem S4x4x256x128 .f32) (harg1 : arg1.IsWhole) (arg2 : Memref sig .tc .vmem S4x4x4x128x128 .bf16) (harg2 : arg2.IsWhole) (arg3 : Memref sig .tc .vmem S4x4x4x192x64 .bf16) (harg3 : arg3.IsWhole) (arg4 : Memref sig .tc .vmem S4x4x8x128 .f32) (harg4 : arg4.IsWhole) (arg5 : Memref sig .tc .vmem S4x256x512 .f32) (harg5 : arg5.IsWhole) (arg6 : Memref sig .tc .vmem S1x128 .f32) (harg6 : arg6.IsWhole) (arg7 : Memref sig .tc .vmem S4x256x512 .bf16) (harg7 : arg7.IsWhole) (arg8 : Memref sig .tc .vmem S4x4x128x128 .f32) (harg8 : arg8.IsWhole)
variable {x0 : Vec Ideal S4x4x256x128 .f32} {x1 : Vec Ideal S4x4x4x128x128 .bf16} {x2 : Vec Ideal S4x4x4x192x64 .bf16} {x3 : Vec Ideal S4x4x8x128 .f32} {x4 : Vec Ideal S4x256x512 .f32} {x5 : Vec Ideal S1x128 .f32}

/-- The carried block's load at a later point. -/
theorem ldS_apply (xs0 : Vec Ideal S4x4x128x128 .f32) (b h : Fin 4) (i v : Fin 128) :
    ldS arg8 harg8 xs0 b h (ix4 0 0 i v) = xs0 (ix4 b h i v) := by
  have e : ldS arg8 harg8 xs0 b h = View.ld xs0 (Rect.unit ![b.val, h.val, 0, 0] ![1, 1, 128, 128] (inbS b h)) :=
    (View.readAt_eq_ld ..).trans (congrArg (fun X => View.ld X _) (harg8.read_unread xs0))
  rw [e]
  show xs0 _ = _
  congr 1
  pointwise

/-- The zero store's piece covers the carried block. -/
theorem zero_cover (y : S4x4x128x128.Idx) : ∃ p ∈ [(⟨Rect.unit ![0, 0, 0, 0] ![4, 4, 128, 128] inbS0, k0_pay2 (F := Ideal)⟩ : View.Piece (Elt Ideal) S4x4x128x128 .f32)], y ∈ p.1.set := by
  refine ⟨_, List.mem_singleton.mpr rfl, ?_⟩
  rw [Rect.mem_set_unit]
  intro a
  have := (y a).isLt
  fin_cases a <;> exact ⟨Nat.zero_le _, by simpa using this⟩

/-- The carried block's load at the first point, over the zeros just stored. -/
theorem ldS0_apply (b h : Fin 4) (i v : Fin 128) :
    (ldS0 arg8 b h : Vec Ideal S1x1x128x128 .f32) (ix4 0 0 i v) = 0 := by
  unfold ldS0
  rw [View.readCov_eq_canon_ld _ _ _ zero_cover]
  rw [View.canon_unit_zero (S := S4x4x128x128) (off := ![0, 0, 0, 0]) (by funext a; fin_cases a <;> rfl)]
  show k0_pay2 _ = _
  unfold k0_pay2
  pointwise

/-- The stores of the carried block cover it. -/
theorem state_cover (s0 : Fin 4 → Fin 4 → Vec Ideal S1x1x128x128 .f32) (y : S4x4x128x128.Idx) :
    ∃ p ∈ statePieces arg1 harg1 arg2 harg2 arg3 harg3 arg4 harg4 x0 x1 x2 x3 s0, y ∈ p.1.set := by
  idx_vars y
  refine ⟨_, List.mem_flatMap.mpr ⟨y0, by revert y0; decide, List.mem_map.mpr ⟨y1, by revert y1; decide, rfl⟩⟩, ?_⟩
  rw [Rect.mem_set_unit]
  have h2 := y2.isLt
  have h3 := y3.isLt
  intro a
  fin_cases a <;> simp

variable {T : ℕ} (H : Held u wq ak eg z g T x0 x1 x2 x3 x4 x5)
include H

/-- The result block of a later point. -/
theorem out_B (hc0 : ¬cond0_0 i) (xs0 : Vec Ideal S4x4x128x128 .f32) (hs : xs0 = stateAt u wq ak eg (4 * T)) :
    out0_B_6 c i arg1 harg1 arg2 harg2 arg3 harg3 arg4 harg4 arg5 harg5 arg6 harg6 arg7 harg7 arg8 harg8 hc0 x0 x1 x2 x3 x4 x5 xs0 = outAt u wq ak eg z g T := by
  have hc := cover0_B_6 c i arg1 harg1 arg2 harg2 arg3 harg3 arg4 harg4 arg5 harg5 arg6 harg6 arg7 harg7 arg8 harg8 hc0 x0 x1 x2 x3 x4 x5 xs0
  unfold out0_B_6
  rw [View.read_writes_eq_canon _ _ _ hc]
  funext y
  have hy := hc y
  rw [piecesB] at hy ⊢
  exact View.canon_apply_of_pieces _ _ (outPieces_spec u wq ak eg z g arg1 harg1 arg2 harg2 arg3 harg3 arg4 harg4 arg5 harg5 arg6 harg6 H _ (fun b h i v => (ldS_apply arg8 harg8 xs0 b h i v).trans (congrFun hs _))) y hy

/-- The carried block after a later point. -/
theorem sout_B (hc0 : ¬cond0_0 i) (xs0 : Vec Ideal S4x4x128x128 .f32) (hs : xs0 = stateAt u wq ak eg (4 * T)) :
    sout0_B_0 c i arg1 harg1 arg2 harg2 arg3 harg3 arg4 harg4 arg5 harg5 arg6 harg6 arg7 harg7 arg8 harg8 hc0 x0 x1 x2 x3 x4 x5 xs0 = stateAt u wq ak eg (4 * T + 4) := by
  have hc := scover0_B_0 c i arg1 harg1 arg2 harg2 arg3 harg3 arg4 harg4 arg5 harg5 arg6 harg6 arg7 harg7 arg8 harg8 hc0 x0 x1 x2 x3 x4 x5 xs0
  unfold sout0_B_0
  rw [View.read_writes_eq_canon _ _ _ hc]
  funext y
  rw [spiecesB]
  exact View.canon_apply_of_pieces _ _ (statePieces_spec u wq ak eg z g arg1 harg1 arg2 harg2 arg3 harg3 arg4 harg4 H _ (fun b h i v => (ldS_apply arg8 harg8 xs0 b h i v).trans (congrFun hs _))) y
    (state_cover arg1 harg1 arg2 harg2 arg3 harg3 arg4 harg4 _ y)

/-- The result block of the first point. -/
theorem out_A (hc0 : cond0_0 i) (hT : T = 0) :
    out0_A_6 c i arg1 harg1 arg2 harg2 arg3 harg3 arg4 harg4 arg5 harg5 arg6 harg6 arg7 harg7 arg8 harg8 hc0 x0 x1 x2 x3 x4 x5 = outAt u wq ak eg z g T := by
  have hc := cover0_A_6 c i arg1 harg1 arg2 harg2 arg3 harg3 arg4 harg4 arg5 harg5 arg6 harg6 arg7 harg7 arg8 harg8 hc0 x0 x1 x2 x3 x4 x5
  unfold out0_A_6
  rw [View.read_writes_eq_canon _ _ _ hc]
  funext y
  have hy := hc y
  rw [piecesA] at hy ⊢
  exact View.canon_apply_of_pieces _ _ (outPieces_spec u wq ak eg z g arg1 harg1 arg2 harg2 arg3 harg3 arg4 harg4 arg5 harg5 arg6 harg6 H _ (fun b h i v => by subst hT; exact ldS0_apply arg8 b h i v)) y hy

/-- The carried block after the first point. -/
theorem sout_A (hc0 : cond0_0 i) (hT : T = 0) :
    sout0_A_0 c i arg1 harg1 arg2 harg2 arg3 harg3 arg4 harg4 arg5 harg5 arg6 harg6 arg7 harg7 arg8 harg8 hc0 x0 x1 x2 x3 x4 x5 = stateAt u wq ak eg (4 * T + 4) := by
  have hc := scover0_A_0 c i arg1 harg1 arg2 harg2 arg3 harg3 arg4 harg4 arg5 harg5 arg6 harg6 arg7 harg7 arg8 harg8 hc0 x0 x1 x2 x3 x4 x5
  unfold sout0_A_0
  rw [View.read_writes_eq_canon _ _ _ hc]
  funext y
  rw [spiecesA]
  exact View.canon_append_of_pieces _ _ _ (statePieces_spec u wq ak eg z g arg1 harg1 arg2 harg2 arg3 harg3 arg4 harg4 H _ (fun b h i v => by subst hT; exact ldS0_apply arg8 b h i v)) y
    (state_cover arg1 harg1 arg2 harg2 arg3 harg3 arg4 harg4 _ y)

end Points

section Run

variable (m : (ℓ : Loc nD τ sig) → Buf (Elt Ideal) ℓ)

/-- The kernel's arguments in plain index form. -/
abbrev uOf (c : Dev nD) (b h : Fin 4) (r : Fin 4096) (v : Fin 128) : EReal :=
  (m ((c : Thread nD τ).loc main_arg0) : Vec Ideal S4x4x4096x128 .f32) (ix4 b h r v)
@[inherit_doc uOf] abbrev wqOf (c : Dev nD) (b h : Fin 4) (k : Fin 64) (i p : Fin 128) : EReal :=
  (m ((c : Thread nD τ).loc main_arg1) : Vec Ideal S4x4x64x128x128 .bf16) (ix5 b h k i p)
@[inherit_doc uOf] abbrev akOf (c : Dev nD) (b h : Fin 4) (k : Fin 64) (i : Fin 192) (p : Fin 64) : EReal :=
  (m ((c : Thread nD τ).loc main_arg2) : Vec Ideal S4x4x64x192x64 .bf16) (ix5 b h k i p)
@[inherit_doc uOf] abbrev egOf (c : Dev nD) (b : Fin 4) (k : Fin 64) (h : Fin 8) (v : Fin 128) : EReal :=
  (m ((c : Thread nD τ).loc main_arg3) : Vec Ideal S4x64x8x128 .f32) (ix4 b k h v)
@[inherit_doc uOf] abbrev zOf (c : Dev nD) (b : Fin 4) (r : Fin 4096) (l : Fin 512) : EReal :=
  (m ((c : Thread nD τ).loc main_arg4) : Vec Ideal S4x4096x512 .f32) (ix3 b r l)
@[inherit_doc uOf] abbrev gOf (c : Dev nD) (v : Fin 128) : EReal :=
  (m ((c : Thread nD τ).loc main_arg5) : Vec Ideal S128 .f32) (ix1 v)

/-- The windows' block indices over the grid: the sequence axis moves with the point, every other stands. -/
theorem idx_in : ∀ t : Fin cfg0.N, win0_0.index t = ![0, 0, t.val, 0] ∧ win0_1.index t = ![0, 0, t.val, 0, 0] ∧ win0_2.index t = ![0, 0, t.val, 0, 0]
    ∧ win0_3.index t = ![0, t.val, 0, 0] ∧ win0_4.index t = ![0, t.val, 0] ∧ win0_5.index t = ![0, 0] :=
  (by decide +kernel : ∀ t : Fin grid0.N, win0_0.index t = ![0, 0, t.val, 0] ∧ win0_1.index t = ![0, 0, t.val, 0, 0] ∧ win0_2.index t = ![0, 0, t.val, 0, 0]
    ∧ win0_3.index t = ![0, t.val, 0, 0] ∧ win0_4.index t = ![0, t.val, 0] ∧ win0_5.index t = ![0, 0])

/-- The input blocks of point `t` hold the arguments' parts. -/
theorem held (c : Dev nD) (t : Fin cfg0.N) :
    Held (uOf m c) (wqOf m c) (akOf m c) (egOf m c) (zOf m c) (gOf m c) t.val
      (iblk m c 0 t) (iblk m c 1 t) (iblk m c 2 t) (iblk m c 3 t) (iblk m c 4 t) (iblk m c 5 t) where
  lt := lt_of_lt_of_eq t.isLt N_0
  h0 b h r v := by blk_ext! [iblk, V, (idx_in t).1]
  h1 b h n i p := by blk_ext! [iblk, V, (idx_in t).2.1]
  h2 b h n i p := by blk_ext! [iblk, V, (idx_in t).2.2.1]
  h3 b n h v := by blk_ext! [iblk, V, (idx_in t).2.2.2.1]
  h4 b r l := by blk_ext! [iblk, V, (idx_in t).2.2.2.2.1]
  h5 v := by blk_ext! [iblk, V, (idx_in t).2.2.2.2.2]

/-- What the first point leaves. -/
theorem stA (c : Dev nD) (t : Fin cfg0.N) (h0 : t.val % 16 = 0) (hT : t.val = 0) (acc) : Value.stAt0 m c t.val t.isLt acc
    = (outAt (uOf m c) (wqOf m c) (akOf m c) (egOf m c) (zOf m c) (gOf m c) t.val, stateAt (uOf m c) (wqOf m c) (akOf m c) (egOf m c) (4 * t.val + 4)) :=
  (Value.stAt0_A m c t acc h0).trans (congrArg₂ Prod.mk
    (out_A (uOf m c) (wqOf m c) (akOf m c) (egOf m c) (zOf m c) (gOf m c) c _ _ _ _ _ _ _ _ _ _ _ _ _ _ _ _ _ (held m c t) _ hT)
    (sout_A (uOf m c) (wqOf m c) (akOf m c) (egOf m c) (zOf m c) (gOf m c) c _ _ _ _ _ _ _ _ _ _ _ _ _ _ _ _ _ (held m c t) _ hT))

/-- What a later point leaves over the state before it. -/
theorem stB (c : Dev nD) (t : Fin cfg0.N) (h0 : ¬t.val % 16 = 0) (acc) (hs : acc.2 = stateAt (uOf m c) (wqOf m c) (akOf m c) (egOf m c) (4 * t.val)) :
    Value.stAt0 m c t.val t.isLt acc
    = (outAt (uOf m c) (wqOf m c) (akOf m c) (egOf m c) (zOf m c) (gOf m c) t.val, stateAt (uOf m c) (wqOf m c) (akOf m c) (egOf m c) (4 * t.val + 4)) :=
  (Value.stAt0_B m c t acc h0).trans (congrArg₂ Prod.mk
    (out_B (uOf m c) (wqOf m c) (akOf m c) (egOf m c) (zOf m c) (gOf m c) c _ _ _ _ _ _ _ _ _ _ _ _ _ _ _ _ _ (held m c t) _ _ hs)
    (sout_B (uOf m c) (wqOf m c) (akOf m c) (egOf m c) (zOf m c) (gOf m c) c _ _ _ _ _ _ _ _ _ _ _ _ _ _ _ _ _ (held m c t) _ _ hs))

/-- After point `n` the result block and the carried block hold the recurrence's values. -/
theorem outsAt_eq (c : Dev nD) : ∀ (n : ℕ) (hn : n < cfg0.N), outsAt0 m c n hn
    = (outAt (uOf m c) (wqOf m c) (akOf m c) (egOf m c) (zOf m c) (gOf m c) n, stateAt (uOf m c) (wqOf m c) (akOf m c) (egOf m c) (4 * n + 4))
  | 0, hn => (Value.outsAt0_zero m c hn).trans (stA m c ⟨0, hn⟩ rfl rfl _)
  | n + 1, hn => by
    have hN := lt_of_lt_of_eq hn (show cfg0.N = 16 from N_0)
    have h0 : ¬(n + 1) % 16 = 0 := by omega
    have ih := congrArg Prod.snd (outsAt_eq c n (Nat.lt_of_succ_lt hn))
    exact (Value.outsAt0_succ m c n hn).trans (stB m c ⟨n + 1, hn⟩ h0 _ ih)

/-- The result array at an index. -/
theorem G6_apply (c : Dev nD) (b : Fin 4) (s : Fin 4096) (l : Fin 512) :
    (Value.G6 m c : Vec Ideal S4x4096x512 .bf16) (ix3 b s l)
      = Delta.out (uOf m c) (wqOf m c) (akOf m c) (egOf m c) (zOf m c) (gOf m c) b ⟨l.val / 128, by have := l.isLt; omega⟩ (s.val / 64)
        ⟨s.val % 64, Nat.mod_lt _ (by decide)⟩ ⟨l.val % 128, Nat.mod_lt _ (by decide)⟩ := by
  have hb := b.isLt
  have hs := s.isLt
  have hl := l.isLt
  have hp : Value.pt6Of (ix3 b s l) = s.val / 256 := by
    show 16 * (b.val / 4 - 0) + 1 * (s.val / 256 - 0) + 1 * (l.val / 512 - 0) = _
    omega
  have hlt : Value.pt6Of (ix3 b s l) < cfg0.N := by
    rw [hp]; exact lt_of_lt_of_eq (by omega : s.val / 256 < 16) N_0.symm
  unfold Value.G6
  rw [dif_pos hlt, ← Value.outsAt0_sweep m c _ hlt, outsAt_eq]
  dsimp only
  unfold outAt
  have e0 : Value.loc6Of (ix3 b s l) 0 = b := Fin.ext (Nat.mod_eq_of_lt hb)
  have e1 : l.val % 512 = l.val := Nat.mod_eq_of_lt hl
  have e3 : 4 * (s.val / 256) + s.val % 256 / 64 = s.val / 64 := by omega
  have e4 : s.val % 256 % 64 = s.val % 64 := by omega
  rw [e0]
  simp only [ix3_1, ix3_2, e1, hp, e3, e4]

end Run

end Cert.ScanIdeal.Step
-- ==== Proof.ScanRef.lean ====
module

public import proofs.«01_k».proof.Proof.Gen.ScanRefIdeal.Run
public import proofs.«01_k».proof.Proof.ScanMath
public import Idealize.ShloMosaic.Lib.Pointwise

/-! The reference's loop over the chunks at the extended reals: by induction over the trips the carried state is the
recurrence's, and the rows made so far are the recurrence's rows. -/

@[expose] public section

set_option maxRecDepth 16384

noncomputable section

namespace Cert.ScanRefIdeal.Loop

open Cert.ScanRefIdeal Cert.ScanRefIdeal.Value Idealize.ShloMosaic Idealize.ShloMosaic.TcCoe Idealize.SL.Sem Idealize.ShloMosaic.StableHlo

/-- The slice of one chunk off a five-axis array. -/
theorem slice5 {α : Type} {n p : ℕ} (x : (⟨5, ![64, 4, 4, n, p]⟩ : Shape).Idx → α) (st : Fin 5 → ℤ)
    (h : (⟨5, ![64, 4, 4, n, p]⟩ : Shape).Slices (fun _ => 0) ⟨5, ![1, 4, 4, n, p]⟩) (k : Fin 64) (h0 : st 0 = k.val) (h1 : st 1 = 0) (h2 : st 2 = 0)
    (h3 : st 3 = 0) (h4 : st 4 = 0) (b e : Fin 4) (i : Fin n) (j : Fin p) :
    Host.dynamicSlice ⟨5, ![1, 4, 4, n, p]⟩ x st h (ix5 0 b e i j) = x (ix5 k b e i j) := by
  rw [Host.dynamicSlice_apply]
  congr 1
  have hk := k.isLt
  have c0 : Host.clampedStart (⟨5, ![64, 4, 4, n, p]⟩ : Shape) ⟨5, ![1, 4, 4, n, p]⟩ h.1 st 0 = k.val :=
    Host.clampedStart_of_le _ _ _ _ h0 (by simp)
  have c1 : Host.clampedStart (⟨5, ![64, 4, 4, n, p]⟩ : Shape) ⟨5, ![1, 4, 4, n, p]⟩ h.1 st 1 = 0 :=
    Host.clampedStart_of_le _ _ _ _ h1 (by simp)
  have c2 : Host.clampedStart (⟨5, ![64, 4, 4, n, p]⟩ : Shape) ⟨5, ![1, 4, 4, n, p]⟩ h.1 st 2 = 0 :=
    Host.clampedStart_of_le _ _ _ _ h2 (by simp)
  have c3 : Host.clampedStart (⟨5, ![64, 4, 4, n, p]⟩ : Shape) ⟨5, ![1, 4, 4, n, p]⟩ h.1 st 3 = 0 :=
    Host.clampedStart_of_le _ _ _ _ h3 (by simp)
  have c4 : Host.clampedStart (⟨5, ![64, 4, 4, n, p]⟩ : Shape) ⟨5, ![1, 4, 4, n, p]⟩ h.1 st 4 = 0 :=
    Host.clampedStart_of_le _ _ _ _ h4 (by simp)
  funext a
  apply Fin.ext
  fin_cases a
  · exact (congrArg (· + 0) c0).trans (Nat.add_zero _)
  · exact (congrArg (· + b.val) c1).trans (Nat.zero_add _)
  · exact (congrArg (· + e.val) c2).trans (Nat.zero_add _)
  · exact (congrArg (· + i.val) c3).trans (Nat.zero_add _)
  · exact (congrArg (· + j.val) c4).trans (Nat.zero_add _)

/-- The slice of one chunk off a four-axis array. -/
theorem slice4 {α : Type} {n p : ℕ} (x : (⟨4, ![64, 4, n, p]⟩ : Shape).Idx → α) (st : Fin 4 → ℤ)
    (h : (⟨4, ![64, 4, n, p]⟩ : Shape).Slices (fun _ => 0) ⟨4, ![1, 4, n, p]⟩) (k : Fin 64) (h0 : st 0 = k.val) (h1 : st 1 = 0) (h2 : st 2 = 0)
    (h3 : st 3 = 0) (b : Fin 4) (i : Fin n) (j : Fin p) :
    Host.dynamicSlice ⟨4, ![1, 4, n, p]⟩ x st h (ix4 0 b i j) = x (ix4 k b i j) := by
  rw [Host.dynamicSlice_apply]
  congr 1
  have hk := k.isLt
  have c0 : Host.clampedStart (⟨4, ![64, 4, n, p]⟩ : Shape) ⟨4, ![1, 4, n, p]⟩ h.1 st 0 = k.val :=
    Host.clampedStart_of_le _ _ _ _ h0 (by simp)
  have c1 : Host.clampedStart (⟨4, ![64, 4, n, p]⟩ : Shape) ⟨4, ![1, 4, n, p]⟩ h.1 st 1 = 0 :=
    Host.clampedStart_of_le _ _ _ _ h1 (by simp)
  have c2 : Host.clampedStart (⟨4, ![64, 4, n, p]⟩ : Shape) ⟨4, ![1, 4, n, p]⟩ h.1 st 2 = 0 :=
    Host.clampedStart_of_le _ _ _ _ h2 (by simp)
  have c3 : Host.clampedStart (⟨4, ![64, 4, n, p]⟩ : Shape) ⟨4, ![1, 4, n, p]⟩ h.1 st 3 = 0 :=
    Host.clampedStart_of_le _ _ _ _ h3 (by simp)
  funext a
  apply Fin.ext
  fin_cases a
  · exact (congrArg (· + 0) c0).trans (Nat.add_zero _)
  · exact (congrArg (· + b.val) c1).trans (Nat.zero_add _)
  · exact (congrArg (· + i.val) c2).trans (Nat.zero_add _)
  · exact (congrArg (· + j.val) c3).trans (Nat.zero_add _)

/-- A chunk's rows written into the array of all chunks: at the chunk the rows, elsewhere the array. -/
theorem update5 {α : Type} {n p : ℕ} (x : (⟨5, ![64, 4, 4, n, p]⟩ : Shape).Idx → α) (y : (⟨5, ![1, 4, 4, n, p]⟩ : Shape).Idx → α) (st : Fin 5 → ℤ)
    (h : (⟨5, ![64, 4, 4, n, p]⟩ : Shape).Slices (fun _ => 0) ⟨5, ![1, 4, 4, n, p]⟩) (k : Fin 64) (h0 : st 0 = k.val) (h1 : st 1 = 0) (h2 : st 2 = 0)
    (h3 : st 3 = 0) (h4 : st 4 = 0) (q : Fin 64) (b e : Fin 4) (i : Fin n) (j : Fin p) :
    Host.dynamicUpdateSlice x y st h (ix5 q b e i j) = if q = k then y (ix5 0 b e i j) else x (ix5 q b e i j) := by
  rw [Host.dynamicUpdateSlice_apply]
  have hk := k.isLt
  have c0 : Host.clampedStart (⟨5, ![64, 4, 4, n, p]⟩ : Shape) ⟨5, ![1, 4, 4, n, p]⟩ h.1 st 0 = k.val :=
    Host.clampedStart_of_le _ _ _ _ h0 (by simp)
  have c1 : Host.clampedStart (⟨5, ![64, 4, 4, n, p]⟩ : Shape) ⟨5, ![1, 4, 4, n, p]⟩ h.1 st 1 = 0 :=
    Host.clampedStart_of_le _ _ _ _ h1 (by simp)
  have c2 : Host.clampedStart (⟨5, ![64, 4, 4, n, p]⟩ : Shape) ⟨5, ![1, 4, 4, n, p]⟩ h.1 st 2 = 0 :=
    Host.clampedStart_of_le _ _ _ _ h2 (by simp)
  have c3 : Host.clampedStart (⟨5, ![64, 4, 4, n, p]⟩ : Shape) ⟨5, ![1, 4, 4, n, p]⟩ h.1 st 3 = 0 :=
    Host.clampedStart_of_le _ _ _ _ h3 (by simp)
  have c4 : Host.clampedStart (⟨5, ![64, 4, 4, n, p]⟩ : Shape) ⟨5, ![1, 4, 4, n, p]⟩ h.1 st 4 = 0 :=
    Host.clampedStart_of_le _ _ _ _ h4 (by simp)
  by_cases hq : q = k
  · subst hq
    rw [if_pos rfl, dif_pos]
    · congr 1
      funext a
      apply Fin.ext
      fin_cases a
      · exact (congrArg (q.val - ·) c0).trans (Nat.sub_self _)
      · exact congrArg (b.val - ·) c1
      · exact congrArg (e.val - ·) c2
      · exact congrArg (i.val - ·) c3
      · exact congrArg (j.val - ·) c4
    · intro a
      fin_cases a
      · exact ⟨le_of_eq c0, lt_of_lt_of_eq (Nat.lt_succ_self _) (congrArg (· + 1) c0.symm)⟩
      · exact ⟨le_of_eq_of_le c1 (Nat.zero_le _), lt_of_lt_of_eq b.isLt ((Nat.zero_add _).symm.trans (congrArg (· + 4) c1.symm))⟩
      · exact ⟨le_of_eq_of_le c2 (Nat.zero_le _), lt_of_lt_of_eq e.isLt ((Nat.zero_add _).symm.trans (congrArg (· + 4) c2.symm))⟩
      · exact ⟨le_of_eq_of_le c3 (Nat.zero_le _), lt_of_lt_of_eq i.isLt ((Nat.zero_add _).symm.trans (congrArg (· + n) c3.symm))⟩
      · exact ⟨le_of_eq_of_le c4 (Nat.zero_le _), lt_of_lt_of_eq j.isLt ((Nat.zero_add _).symm.trans (congrArg (· + p) c4.symm))⟩
  · rw [if_neg hq, dif_neg]
    intro hin
    have h0' := hin 0
    have l : k.val ≤ q.val := le_of_eq_of_le c0.symm h0'.1
    have r : q.val < k.val + 1 := lt_of_lt_of_eq h0'.2 (congrArg (· + 1) c0)
    exact hq (Fin.ext (by omega))

/-- The start of a chunk's slice: the counter on the chunk axis, zero on the others. -/
theorem chunk5 {α : Type} {n p : ℕ} (ctr : IVec S_ 32) (k : Fin 64) (hc : ∀ i, (ctr i).toInt = k.val) (x : (⟨5, ![64, 4, 4, n, p]⟩ : Shape).Idx → α)
    (h : (⟨5, ![64, 4, 4, n, p]⟩ : Shape).Slices (fun _ => 0) ⟨5, ![1, 4, 4, n, p]⟩) :
    Host.dynamicSlice ⟨5, ![1, 4, 4, n, p]⟩ x (fun j => (((![ctr, constantI S_ 32 0#32, constantI S_ 32 0#32, constantI S_ 32 0#32, constantI S_ 32 0#32] : Fin 5 → IVec S_ 32)) j (Shape.Idx.first Gen.h_S_)).toInt) h
      = fun y => x (ix5 k (y 1) (y 2) (y 3) (y 4)) := by
  funext y
  have e : y = ix5 0 (y 1) (y 2) (y 3) (y 4) := by
    funext a
    fin_cases a
    · exact Fin.ext (Nat.lt_one_iff.mp (y 0).isLt)
    all_goals rfl
  exact (congrArg _ e).trans (slice5 x _ h k (hc _) rfl rfl rfl rfl (y 1) (y 2) (y 3) (y 4))

@[inherit_doc chunk5] theorem chunk4 {α : Type} {n p : ℕ} (ctr : IVec S_ 32) (k : Fin 64) (hc : ∀ i, (ctr i).toInt = k.val) (x : (⟨4, ![64, 4, n, p]⟩ : Shape).Idx → α)
    (h : (⟨4, ![64, 4, n, p]⟩ : Shape).Slices (fun _ => 0) ⟨4, ![1, 4, n, p]⟩) :
    Host.dynamicSlice ⟨4, ![1, 4, n, p]⟩ x (fun j => (((![ctr, constantI S_ 32 0#32, constantI S_ 32 0#32, constantI S_ 32 0#32] : Fin 4 → IVec S_ 32)) j (Shape.Idx.first Gen.h_S_)).toInt) h
      = fun y => x (ix4 k (y 1) (y 2) (y 3)) := by
  funext y
  have e : y = ix4 0 (y 1) (y 2) (y 3) := by
    funext a
    fin_cases a
    · exact Fin.ext (Nat.lt_one_iff.mp (y 0).isLt)
    all_goals rfl
  exact (congrArg _ e).trans (slice4 x _ h k (hc _) rfl rfl rfl (y 1) (y 2) (y 3))

/-- A chunk's rows written at the counter. -/
theorem write5 {α : Type} {n p : ℕ} (ctr : IVec S_ 32) (k : Fin 64) (hc : ∀ i, (ctr i).toInt = k.val) (x : (⟨5, ![64, 4, 4, n, p]⟩ : Shape).Idx → α)
    (y : (⟨5, ![1, 4, 4, n, p]⟩ : Shape).Idx → α) (h : (⟨5, ![64, 4, 4, n, p]⟩ : Shape).Slices (fun _ => 0) ⟨5, ![1, 4, 4, n, p]⟩) (q : Fin 64) (b e : Fin 4) (i : Fin n) (j : Fin p) :
    Host.dynamicUpdateSlice x y (fun j => (((![ctr, constantI S_ 32 0#32, constantI S_ 32 0#32, constantI S_ 32 0#32, constantI S_ 32 0#32] : Fin 5 → IVec S_ 32)) j (Shape.Idx.first Gen.h_S_)).toInt) h (ix5 q b e i j)
      = if q = k then y (ix5 0 b e i j) else x (ix5 q b e i j) :=
  update5 x y _ h k (hc _) rfl rfl rfl rfl q b e i j

section Trip

variable (V0 : Valuation τ sig (Elt Ideal)) (k : Fin 64)
variable (hc : ∀ i, (V0 (Proc.devRef .tc main_v18_6) : IVec S_ 32) i = BitVec.ofNat 32 k.val)

/-- The carried arrays, by what they hold. -/
abbrev cu : FVec Ideal S64x4x4x64x128 .f32 := V0 (Proc.devRef .tc main_v18_0)
@[inherit_doc cu] abbrev cw : FVec Ideal S64x4x4x64x128 .f32 := V0 (Proc.devRef .tc main_v18_1)
@[inherit_doc cu] abbrev cq : FVec Ideal S64x4x4x64x128 .f32 := V0 (Proc.devRef .tc main_v18_2)
@[inherit_doc cu] abbrev ca : FVec Ideal S64x4x4x64x64 .f32 := V0 (Proc.devRef .tc main_v18_3)
@[inherit_doc cu] abbrev ckd : FVec Ideal S64x4x4x128x64 .f32 := V0 (Proc.devRef .tc main_v18_4)
@[inherit_doc cu] abbrev ceg : FVec Ideal S64x4x4x128 .f32 := V0 (Proc.devRef .tc main_v18_5)
@[inherit_doc cu] abbrev cst : FVec Ideal S4x4x128x128 .f32 := V0 (Proc.devRef .tc main_v18_7)
@[inherit_doc cu] abbrev cout : FVec Ideal S64x4x4x64x128 .f32 := V0 (Proc.devRef .tc main_v18_8)

include hc

/-- The counter as an integer. -/
theorem ctr_int (i : S_.Idx) : ((V0 (Proc.devRef .tc main_v18_6) : IVec S_ 32) i).toInt = k.val := by
  rw [hc]; clear hc; revert k; decide

/-- The trip's new values at an index. -/
theorem newV_apply (b h : Fin 4) (r : Fin 64) (v : Fin 128) :
    (res_main_while0b_v46 V0 : FVec Ideal S4x4x64x128 .f32) (ix4 b h r v)
      = cu V0 (ix5 k b h r v) - ∑ p : Fin 128, cw V0 (ix5 k b h r p) * cst V0 (ix4 b h p v) := by
  unfold res_main_while0b_v46
  erw [chunk5 _ k (ctr_int V0 k hc), chunk5 _ k (ctr_int V0 k hc)]
  pointwise

/-- The state after the trip at an index. -/
theorem step7_apply (b h : Fin 4) (i v : Fin 128) :
    (step_main_v18_7 V0 : FVec Ideal S4x4x128x128 .f32) (ix4 b h i v)
      = cst V0 (ix4 b h i v) * ceg V0 (ix4 k b h v) + ∑ r : Fin 64, ckd V0 (ix5 k b h i r)
        * (cu V0 (ix5 k b h r v) - ∑ p : Fin 128, cw V0 (ix5 k b h r p) * cst V0 (ix4 b h p v)) := by
  unfold step_main_v18_7
  rw [id_eq]
  erw [chunk5 _ k (ctr_int V0 k hc), chunk4 _ k (ctr_int V0 k hc)]
  pointwise [newV_apply V0 k hc]

/-- The rows after the trip at an index. -/
theorem step8_apply (q : Fin 64) (b h : Fin 4) (r : Fin 64) (v : Fin 128) :
    (step_main_v18_8 V0 : FVec Ideal S64x4x4x64x128 .f32) (ix5 q b h r v)
      = if q = k then (∑ p : Fin 128, cq V0 (ix5 k b h r p) * cst V0 (ix4 b h p v)) + ∑ s : Fin 64, ca V0 (ix5 k b h r s)
        * (cu V0 (ix5 k b h s v) - ∑ p : Fin 128, cw V0 (ix5 k b h s p) * cst V0 (ix4 b h p v)) else cout V0 (ix5 q b h r v) := by
  unfold step_main_v18_8
  rw [id_eq]
  erw [chunk5 _ k (ctr_int V0 k hc), chunk5 _ k (ctr_int V0 k hc)]
  refine (write5 _ k (ctr_int V0 k hc) _ _ _ q b h r v).trans ?_
  congr 1
  pointwise [newV_apply V0 k hc]

end Trip

section Entry

/-- The sequence axis cut into chunks, the chunk axis first, at an index. -/
theorem chunked_apply (x : FVec Ideal S4x4x4096x128 .f32) (k : Fin 64) (b h : Fin 4) (r : Fin 64) (v : Fin 128) :
    transpose S64x4x4x64x128 [2, 0, 1, 3, 4] (shapeCast S4x4x64x64x128 x Gen.shapeCasts_S4x4x4096x128_S4x4x64x64x128) Gen.transposes_S4x4x64x64x128_S64x4x4x64x128_2_0_1_3_4 (ix5 k b h r v)
      = x (ix4 b h (Delta.pos k.val r) v) := by
  pointwise
  congr 2
  apply Fin.ext
  simp only [Delta.pos]
  have := k.isLt
  omega

variable (m : (ℓ : Loc nD τ sig) → Buf (Elt Ideal) ℓ)

set_option maxHeartbeats 1000000 in
/-- Before the loop: the new-value rows. -/
theorem entry_cu (c : Dev nD) (k : Fin 64) (b h : Fin 4) (r : Fin 64) (v : Fin 128) :
    cu (entryContents preI m c) (ix5 k b h r v) = (m ((c : Thread nD τ).loc main_arg0) : FVec Ideal S4x4x4096x128 .f32) (ix4 b h (Delta.pos k.val r) v) := by
  have e : entryContents preI m c (Proc.devRef .tc main_v18_0) = (transpose S64x4x4x64x128 [2, 0, 1, 3, 4] (shapeCast S4x4x64x64x128 (m ((c : Thread nD τ).loc main_arg0) : FVec Ideal S4x4x4096x128 .f32) Gen.shapeCasts_S4x4x4096x128_S4x4x64x64x128) Gen.transposes_S4x4x64x64x128_S64x4x4x64x128_2_0_1_3_4 : FVec Ideal _ .f32) := by
    unfold entryContents
    simp only [preI, afterL_cons, afterL_nil, Gen.hostOps0]
    after_results_entrywise []
  unfold cu
  rw [e]
  exact chunked_apply _ k b h r v

set_option maxHeartbeats 1000000 in
/-- Before the loop: w. -/
theorem entry_cw (c : Dev nD) (k : Fin 64) (b h : Fin 4) (r : Fin 64) (v : Fin 128) :
    cw (entryContents preI m c) (ix5 k b h r v) = (m ((c : Thread nD τ).loc main_arg1) : FVec Ideal S4x4x64x128x128 .bf16) (ix5 b h k (Delta.lo128 r) v) := by
  have e : entryContents preI m c (Proc.devRef .tc main_v18_1) = (transpose S64x4x4x64x128 [2, 0, 1, 3, 4] (extf .f32 (extractStridedSlice S4x4x64x64x128 ![0, 0, 0, 0, 0] (m ((c : Thread nD τ).loc main_arg1) : FVec Ideal S4x4x64x128x128 .bf16) Gen.slices_S4x4x64x128x128_S4x4x64x64x128_0_0_0_0_0) Gen.bitsLt_bf16_f32) Gen.transposes_S4x4x64x64x128_S64x4x4x64x128_2_0_1_3_4 : FVec Ideal _ .f32) := by
    unfold entryContents
    simp only [preI, afterL_cons, afterL_nil, Gen.hostOps0]
    after_results_entrywise []
  unfold cw
  rw [e]
  pointwise

set_option maxHeartbeats 1000000 in
/-- Before the loop: the decayed queries. -/
theorem entry_cq (c : Dev nD) (k : Fin 64) (b h : Fin 4) (r : Fin 64) (v : Fin 128) :
    cq (entryContents preI m c) (ix5 k b h r v) = (m ((c : Thread nD τ).loc main_arg1) : FVec Ideal S4x4x64x128x128 .bf16) (ix5 b h k (Delta.hi128 r) v) := by
  have e : entryContents preI m c (Proc.devRef .tc main_v18_2) = (transpose S64x4x4x64x128 [2, 0, 1, 3, 4] (extf .f32 (extractStridedSlice S4x4x64x64x128 ![0, 0, 0, 64, 0] (m ((c : Thread nD τ).loc main_arg1) : FVec Ideal S4x4x64x128x128 .bf16) Gen.slices_S4x4x64x128x128_S4x4x64x64x128_0_0_0_64_0) Gen.bitsLt_bf16_f32) Gen.transposes_S4x4x64x64x128_S64x4x4x64x128_2_0_1_3_4 : FVec Ideal _ .f32) := by
    unfold entryContents
    simp only [preI, afterL_cons, afterL_nil, Gen.hostOps0]
    after_results_entrywise []
  unfold cq
  rw [e]
  pointwise

set_option maxHeartbeats 1000000 in
/-- Before the loop: the masked scores. -/
theorem entry_ca (c : Dev nD) (k : Fin 64) (b h : Fin 4) (r : Fin 64) (v : Fin 64) :
    ca (entryContents preI m c) (ix5 k b h r v) = (m ((c : Thread nD τ).loc main_arg2) : FVec Ideal S4x4x64x192x64 .bf16) (ix5 b h k (Delta.lo192 r) v) := by
  have e : entryContents preI m c (Proc.devRef .tc main_v18_3) = (transpose S64x4x4x64x64 [2, 0, 1, 3, 4] (extf .f32 (extractStridedSlice S4x4x64x64x64 ![0, 0, 0, 0, 0] (m ((c : Thread nD τ).loc main_arg2) : FVec Ideal S4x4x64x192x64 .bf16) Gen.slices_S4x4x64x192x64_S4x4x64x64x64_0_0_0_0_0) Gen.bitsLt_bf16_f32) Gen.transposes_S4x4x64x64x64_S64x4x4x64x64_2_0_1_3_4 : FVec Ideal _ .f32) := by
    unfold entryContents
    simp only [preI, afterL_cons, afterL_nil, Gen.hostOps0]
    after_results_entrywise []
  unfold ca
  rw [e]
  pointwise

set_option maxHeartbeats 1000000 in
/-- Before the loop: the decayed keys. -/
theorem entry_ckd (c : Dev nD) (k : Fin 64) (b h : Fin 4) (i : Fin 128) (r : Fin 64) :
    ckd (entryContents preI m c) (ix5 k b h i r) = (m ((c : Thread nD τ).loc main_arg2) : FVec Ideal S4x4x64x192x64 .bf16) (ix5 b h k (Delta.hi192 i) r) := by
  have e : entryContents preI m c (Proc.devRef .tc main_v18_4) = (transpose S64x4x4x128x64 [2, 0, 1, 3, 4] (extf .f32 (extractStridedSlice S4x4x64x128x64 ![0, 0, 0, 64, 0] (m ((c : Thread nD τ).loc main_arg2) : FVec Ideal S4x4x64x192x64 .bf16) Gen.slices_S4x4x64x192x64_S4x4x64x128x64_0_0_0_64_0) Gen.bitsLt_bf16_f32) Gen.transposes_S4x4x64x128x64_S64x4x4x128x64_2_0_1_3_4 : FVec Ideal _ .f32) := by
    unfold entryContents
    simp only [preI, afterL_cons, afterL_nil, Gen.hostOps0]
    after_results_entrywise []
  unfold ckd
  rw [e]
  pointwise

set_option maxHeartbeats 1000000 in
/-- Before the loop: the decays. -/
theorem entry_ceg (c : Dev nD) (k : Fin 64) (b h : Fin 4) (v : Fin 128) :
    ceg (entryContents preI m c) (ix4 k b h v) = (m ((c : Thread nD τ).loc main_arg3) : FVec Ideal S4x64x8x128 .f32) (ix4 b k (Delta.hd8 h) v) := by
  have e : entryContents preI m c (Proc.devRef .tc main_v18_5) = (transpose S64x4x4x128 [1, 0, 2, 3] (extractStridedSlice S4x64x4x128 ![0, 0, 0, 0] (m ((c : Thread nD τ).loc main_arg3) : FVec Ideal S4x64x8x128 .f32) Gen.slices_S4x64x8x128_S4x64x4x128_0_0_0_0) Gen.transposes_S4x64x4x128_S64x4x4x128_1_0_2_3 : FVec Ideal _ .f32) := by
    unfold entryContents
    simp only [preI, afterL_cons, afterL_nil, Gen.hostOps0]
    after_results_entrywise []
  unfold ceg
  rw [e]
  pointwise

set_option maxHeartbeats 1000000 in
/-- Before the loop: the state, zero. -/
theorem entry_cst (c : Dev nD) (b h : Fin 4) (i v : Fin 128) :
    cst (entryContents preI m c) (ix4 b h i v) = 0 := by
  have e : entryContents preI m c (Proc.devRef .tc main_v18_7) = (broadcastInDim S4x4x128x128 ![] Gen.bcast_S_S4x4x128x128 (constant S_ .f32 0x00000000#32) : FVec Ideal _ .f32) := by
    unfold entryContents
    simp only [preI, afterL_cons, afterL_nil, Gen.hostOps0]
    after_results_entrywise []
  unfold cst
  rw [e]
  pointwise

set_option maxHeartbeats 1000000 in
/-- Before the loop: the counter, zero. -/
theorem entry_ctr (c : Dev nD) (i : S_.Idx) : (entryContents preI m c (Proc.devRef .tc main_v18_6) : IVec S_ 32) i = 0#32 := by
  have e : entryContents preI m c (Proc.devRef .tc main_v18_6) = (constantI S_ 32 0#32) := by
    unfold entryContents
    simp only [preI, afterL_cons, afterL_nil, Gen.hostOps0]
    after_results_entrywise []
  rw [e]
  rfl

/-- The reference's arguments in plain index form. -/
abbrev uOf (c : Dev nD) (b h : Fin 4) (r : Fin 4096) (v : Fin 128) : EReal :=
  (m ((c : Thread nD τ).loc main_arg0) : FVec Ideal S4x4x4096x128 .f32) (ix4 b h r v)
@[inherit_doc uOf] abbrev wqOf (c : Dev nD) (b h : Fin 4) (k : Fin 64) (i p : Fin 128) : EReal :=
  (m ((c : Thread nD τ).loc main_arg1) : FVec Ideal S4x4x64x128x128 .bf16) (ix5 b h k i p)
@[inherit_doc uOf] abbrev akOf (c : Dev nD) (b h : Fin 4) (k : Fin 64) (i : Fin 192) (p : Fin 64) : EReal :=
  (m ((c : Thread nD τ).loc main_arg2) : FVec Ideal S4x4x64x192x64 .bf16) (ix5 b h k i p)
@[inherit_doc uOf] abbrev egOf (c : Dev nD) (b : Fin 4) (k : Fin 64) (h : Fin 8) (v : Fin 128) : EReal :=
  (m ((c : Thread nD τ).loc main_arg3) : FVec Ideal S4x64x8x128 .f32) (ix4 b k h v)
@[inherit_doc uOf] abbrev zOf (c : Dev nD) (b : Fin 4) (r : Fin 4096) (l : Fin 512) : EReal :=
  (m ((c : Thread nD τ).loc main_arg4) : FVec Ideal S4x4096x512 .f32) (ix3 b r l)
@[inherit_doc uOf] abbrev gOf (c : Dev nD) (v : Fin 128) : EReal :=
  (m ((c : Thread nD τ).loc main_arg5) : FVec Ideal S128 .f32) (ix1 v)

/-- What the carried arrays hold before trip `k`: the parts of the arguments as before the loop, the counter at `k`,
the state the recurrence's before chunk `k`, and the rows of the chunks before `k` the recurrence's. -/
structure Inv (c : Dev nD) (k : ℕ) (V0 : Valuation τ sig (Elt Ideal)) : Prop where
  u : ∀ (q : Fin 64) (b h : Fin 4) (r : Fin 64) (v : Fin 128), cu V0 (ix5 q b h r v) = uOf m c b h (Delta.pos q.val r) v
  w : ∀ (q : Fin 64) (b h : Fin 4) (r : Fin 64) (v : Fin 128), cw V0 (ix5 q b h r v) = wqOf m c b h q (Delta.lo128 r) v
  qq : ∀ (q : Fin 64) (b h : Fin 4) (r : Fin 64) (v : Fin 128), cq V0 (ix5 q b h r v) = wqOf m c b h q (Delta.hi128 r) v
  a : ∀ (q : Fin 64) (b h : Fin 4) (r : Fin 64) (v : Fin 64), ca V0 (ix5 q b h r v) = akOf m c b h q (Delta.lo192 r) v
  kd : ∀ (q : Fin 64) (b h : Fin 4) (i : Fin 128) (r : Fin 64), ckd V0 (ix5 q b h i r) = akOf m c b h q (Delta.hi192 i) r
  e : ∀ (q : Fin 64) (b h : Fin 4) (v : Fin 128), ceg V0 (ix4 q b h v) = egOf m c b q (Delta.hd8 h) v
  ctr : ∀ i, (V0 (Proc.devRef .tc main_v18_6) : IVec S_ 32) i = BitVec.ofNat 32 k
  s : ∀ (b h : Fin 4) (i v : Fin 128), cst V0 (ix4 b h i v) = Delta.state (uOf m c) (wqOf m c) (akOf m c) (egOf m c) b h k i v
  o : ∀ (q : Fin 64) (b h : Fin 4) (r : Fin 64) (v : Fin 128), q.val < k → cout V0 (ix5 q b h r v) = Delta.row (uOf m c) (wqOf m c) (akOf m c) (egOf m c) b h q.val r v

/-- The loop's start. -/
theorem inv_zero (c : Dev nD) : Inv m c 0 (entryContents preI m c) where
  u := entry_cu m c
  w := entry_cw m c
  qq := entry_cq m c
  a := entry_ca m c
  kd := entry_ckd m c
  e := entry_ceg m c
  ctr := entry_ctr m c
  s := entry_cst m c
  o _ _ _ _ _ h := absurd h (Nat.not_lt_zero _)

/-- One trip. -/
theorem inv_step (c : Dev nD) (k : ℕ) (hk : k < 64) (V0 : Valuation τ sig (Elt Ideal)) (I : Inv m c k V0) : Inv m c (k + 1) (STEP V0) where
  u q b h r v := (congrFun (STEP_main_v18_0 V0) _).trans (I.u q b h r v)
  w q b h r v := (congrFun (STEP_main_v18_1 V0) _).trans (I.w q b h r v)
  qq q b h r v := (congrFun (STEP_main_v18_2 V0) _).trans (I.qq q b h r v)
  a q b h r v := (congrFun (STEP_main_v18_3 V0) _).trans (I.a q b h r v)
  kd q b h i r := (congrFun (STEP_main_v18_4 V0) _).trans (I.kd q b h i r)
  e q b h v := (congrFun (STEP_main_v18_5 V0) _).trans (I.e q b h v)
  ctr i := by
    refine (congrFun (STEP_main_v18_6 V0) i).trans ?_
    show (show BitVec 32 from (V0 (Proc.devRef .tc main_v18_6) : IVec S_ 32) i) + 1#32 = _
    rw [I.ctr]
    exact (BitVec.ofNat_add k 1).symm
  s b h i v := by
    refine (congrFun (STEP_main_v18_7 V0) _).trans ((step7_apply V0 ⟨k, hk⟩ I.ctr b h i v).trans ?_)
    simp only [I.u, I.w, I.kd, I.e, I.s]
    have e : Delta.ck k = ⟨k, hk⟩ := Fin.ext (Nat.mod_eq_of_lt hk)
    simp only [Delta.state, Delta.newV, e]
  o q b h r v hq := by
    refine (congrFun (STEP_main_v18_8 V0) _).trans ((step8_apply V0 ⟨k, hk⟩ I.ctr q b h r v).trans ?_)
    by_cases h1 : q = ⟨k, hk⟩
    · rw [if_pos h1]
      subst h1
      simp only [I.u, I.w, I.qq, I.a, I.s]
      have e : Delta.ck k = ⟨k, hk⟩ := Fin.ext (Nat.mod_eq_of_lt hk)
      simp only [Delta.row, Delta.newV, e]
    · rw [if_neg h1]
      exact I.o q b h r v (by have : q.val ≠ k := fun h2 => h1 (Fin.ext h2); omega)

/-- Every trip. -/
theorem inv_iter (c : Dev nD) : ∀ k ≤ 64, Inv m c k (STEP^[k] (entryContents preI m c))
  | 0, _ => inv_zero m c
  | k + 1, hk => by
    rw [Function.iterate_succ_apply']
    exact inv_step m c k hk _ (inv_iter c k (Nat.le_of_succ_le hk))

/-- The operations after the loop at an index: the norm of the row times the gate. -/
theorem out_apply (V0 : Valuation τ sig (Elt Ideal)) (b : Fin 4) (s : Fin 4096) (l : Fin 512) :
    (out_main_v38 V0 : FVec Ideal S4x4096x512 .bf16) (ix3 b s l)
      = Delta.norm (fun v => (V0 (Proc.devRef .tc main_arg5) : FVec Ideal S128 .f32) (ix1 v))
          (fun v => cout V0 (ix5 ⟨s.val / 64, by have := s.isLt; omega⟩ b ⟨l.val / 128, by have := l.isLt; omega⟩ ⟨s.val % 64, Nat.mod_lt _ (by decide)⟩ v))
          ⟨l.val % 128, Nat.mod_lt _ (by decide)⟩
        * Delta.gate ((V0 (Proc.devRef .tc main_arg4) : FVec Ideal S4x4096x512 .f32) (ix3 b s l)) := by
  unfold out_main_v38 Delta.norm Delta.gate
  pointwise

/-- The reference's result at an index. -/
theorem result_apply (c : Dev nD) (b : Fin 4) (s : Fin 4096) (l : Fin 512) :
    (out_main_v38 (STEP^[64] (entryContents preI m c)) : FVec Ideal S4x4096x512 .bf16) (ix3 b s l)
      = Delta.out (uOf m c) (wqOf m c) (akOf m c) (egOf m c) (zOf m c) (gOf m c) b ⟨l.val / 128, by have := l.isLt; omega⟩ (s.val / 64)
        ⟨s.val % 64, Nat.mod_lt _ (by decide)⟩ ⟨l.val % 128, Nat.mod_lt _ (by decide)⟩ := by
  have hs := s.isLt
  have hl := l.isLt
  have I := inv_iter m c 64 le_rfl
  rw [out_apply, iter_main_arg4, iter_main_arg5]
  have e1 : Delta.pos (s.val / 64) ⟨s.val % 64, Nat.mod_lt _ (by decide)⟩ = s := by
    apply Fin.ext; simp only [Delta.pos]; omega
  have e2 : Delta.lane ⟨l.val / 128, by omega⟩ ⟨l.val % 128, Nat.mod_lt _ (by decide)⟩ = l := by
    apply Fin.ext; simp only [Delta.lane]; omega
  unfold Delta.out
  rw [e1, e2]
  simp only [fun v => I.o ⟨s.val / 64, by omega⟩ b ⟨l.val / 128, by omega⟩ ⟨s.val % 64, Nat.mod_lt _ (by decide)⟩ v (by dsimp only; omega)]

end Entry

end Cert.ScanRefIdeal.Loop
-- ==== Proof.HalfMath.lean ====
module

public import Idealize.ShloMosaic.Lib.Pointwise

/-! One row of a feed-forward half-step over the extended reals: the root mean square norm, the modulation, the gated
product with the two weight matrices, and the row of the mixers' projection before it. -/

@[expose] public section

noncomputable section

namespace Cert.Half

open Idealize.ShloMosaic

/-- The root mean square norm of a row with its gain. -/
def norm (g x : Fin 1024 → EReal) (i : Fin 1024) : EReal :=
  x i * Ideal.rsqrt (Ideal.div (∑ p : Fin 1024, x p * x p) (Ideal.ofBits .f32 0x44800000#32) + Ideal.ofBits .f32 0x358637BD#32) * g i

/-- The gate of `t`: `t` times its logistic. -/
def gate (t : EReal) : EReal := t * Ideal.div 1 (1 + Ideal.exp (-t))

/-- The normed row, scaled and shifted. -/
def modulated (g sc sh x : Fin 1024 → EReal) (i : Fin 1024) : EReal := norm g x i * (1 + sc i) + sh i

/-- Column `k` of the second half of the first weight matrix. -/
abbrev up (k : Fin 2816) : Fin 5632 := ⟨2816 + k.val, by have := k.isLt; omega⟩
/-- Column `k` of the first half. -/
abbrev lo (k : Fin 2816) : Fin 5632 := ⟨k.val, by have := k.isLt; omega⟩

/-- The gated product of a row `h` with the first weight matrix. -/
def act (wi : Fin 1024 → Fin 5632 → EReal) (h : Fin 1024 → EReal) (k : Fin 2816) : EReal :=
  gate (∑ p : Fin 1024, h p * wi p (lo k)) * ∑ p : Fin 1024, h p * wi p (up k)

/-- The half-step of a row: the row, and half the gain times the gated product with the second weight matrix. -/
def step (g sc sh ga : Fin 1024 → EReal) (wi : Fin 1024 → Fin 5632 → EReal) (wo : Fin 2816 → Fin 1024 → EReal)
    (x : Fin 1024 → EReal) (i : Fin 1024) : EReal :=
  x i + Ideal.ofBits .f32 0x3F000000#32 * ga i * ∑ k : Fin 2816, act wi (modulated g sc sh x) k * wo k i

/-- Row `p` of the first, and of the second half of the mixers' weight. -/
abbrev lo512 (p : Fin 512) : Fin 1024 := ⟨p.val, by have := p.isLt; omega⟩
@[inherit_doc lo512] abbrev hi512 (p : Fin 512) : Fin 1024 := ⟨512 + p.val, by have := p.isLt; omega⟩

/-- A row with the projection of the two mixers' rows added, scaled by the gain. -/
def mixed (ga : Fin 1024 → EReal) (yg yn : Fin 512 → EReal) (wm : Fin 1024 → Fin 1024 → EReal) (x : Fin 1024 → EReal)
    (i : Fin 1024) : EReal :=
  x i + ga i * ((∑ p : Fin 512, yg p * wm (lo512 p) i) + ∑ p : Fin 512, yn p * wm (hi512 p) i)

/-- A sum over 1024 rows is the sum over the two halves. -/
theorem sum_halves (f : Fin 1024 → EReal) : ∑ p : Fin 1024, f p = (∑ p : Fin 512, f (lo512 p)) + ∑ p : Fin 512, f (hi512 p) :=
  Fin.sum_univ_add (a := 512) (b := 512) f

end Cert.Half
-- ==== Proof.FfnBlock.lean ====
module

public import proofs.«01_k».proof.Proof.HalfMath
public import proofs.«01_k».proof.Proof.Gen.FfnIdeal.Value
public import Idealize.ShloMosaic.Lib.Pointwise
public import Idealize.ShloMosaic.Lib.Pipeline.Value
public import Idealize.ShloMosaic.Lib.Pipeline.CanonAppend
public import Idealize.ShloMosaic.Lib.Pipeline.ValueKit

/-! One grid point of the feed-forward half-step: the block of rows it stores, row by row. -/

@[expose] public section

set_option maxRecDepth 16384

noncomputable section

namespace Cert.FfnIdeal.Block

open Cert.FfnIdeal Cert.FfnIdeal.Gen Idealize.ShloMosaic Idealize.ShloMosaic.TcCoe Idealize.SL.Sem

/-- The modulated rows at an index. -/
theorem mod_apply (x : Vec Ideal S1x1024x1024 .f32) (g : Vec Ideal S1x1x1024 .f32) (sc sh : Vec Ideal S1x1x1x1x1024 .f32) (r i : Fin 1024) :
    k0_pay4 x g sc sh (ix2 r i) = Half.modulated (fun p => g (ix3 0 0 p)) (fun p => sc (ix5 0 0 0 0 p)) (fun p => sh (ix5 0 0 0 0 p))
      (fun p => x (ix3 0 r p)) i := by
  unfold k0_pay4 k0_pay3 Half.modulated Half.norm
  pointwise

/-- One tile of the gated product at an index. -/
theorem tile_apply (h : FVec Ideal S1024x1024 .bf16) (a u : Vec Ideal S1x1x1024x256 .bf16) (r : Fin 1024) (k : Fin 256) :
    k0_pay7 h a u (ix2 r k) = Half.gate (∑ p : Fin 1024, h (ix2 r p) * a (ix4 0 0 p k)) * ∑ p : Fin 1024, h (ix2 r p) * u (ix4 0 0 p k) := by
  unfold k0_pay7 Half.gate
  pointwise
  rw [zero_sub]

/-- The stored rows at an index. -/
theorem out_pay_apply (x : FVec Ideal S1024x1024 .f32) (ga : Vec Ideal S1x1x1x1x1024 .f32) (a : Vec Ideal S1024x2816 .bf16) (wo : Vec Ideal S1x1x2816x1024 .bf16)
    (o : Fin 1) (r i : Fin 1024) :
    k0_pay2 x ga a wo (ix3 o r i) = x (ix2 r i) + Ideal.ofBits .f32 0x3F000000#32 * ga (ix5 0 0 0 0 i) * ∑ k : Fin 2816, a (ix2 r k) * wo (ix4 0 0 k i) := by
  unfold k0_pay2
  pointwise

/-- The rectangle of this load or store lies inside its block. -/
theorem inbT (k : ℕ) (hk : k ≤ 5376) : ∀ a, (![0, 0, 0, k] : Fin 4 → ℕ) a + (![1, 1, 1024, 256] : Fin 4 → ℕ) a ≤ S1x1x1024x5632.size a := by
  intro a; fin_cases a <;> simp <;> omega
/-- The rectangle of this load or store lies inside its block. -/
theorem inbC (j : Fin 11) : ∀ a, (![0, 256 * j.val] : Fin 2 → ℕ) a + (![1024, 256] : Fin 2 → ℕ) a ≤ S1024x2816.size a := by
  revert j; decide
/-- The rectangle of this load or store lies inside its block. -/
theorem inbM (j : Fin 3) : ∀ a, (![0, 0, 0, j.val, 0] : Fin 5 → ℕ) a + (![1, 1, 1, 1, 1024] : Fin 5 → ℕ) a ≤ S1x1x1x8x1024.size a := by
  revert j; decide
/-- The rectangle of this load or store lies inside its block. -/
theorem inbX : ∀ a, (![0, 0, 0] : Fin 3 → ℕ) a + (![1, 1024, 1024] : Fin 3 → ℕ) a ≤ S1x1024x1024.size a := by decide
/-- The rectangle of this load or store lies inside its block. -/
theorem inbG : ∀ a, (![0, 0, 0] : Fin 3 → ℕ) a + (![1, 1, 1024] : Fin 3 → ℕ) a ≤ S1x1x1024.size a := by decide
/-- The rectangle of this load or store lies inside its block. -/
theorem inbA : ∀ a, (![0, 0] : Fin 2 → ℕ) a + (![1024, 2816] : Fin 2 → ℕ) a ≤ S1024x2816.size a := by decide
/-- The rectangle of this load or store lies inside its block. -/
theorem inbO : ∀ a, (![0, 0, 0, 0] : Fin 4 → ℕ) a + (![1, 1, 2816, 1024] : Fin 4 → ℕ) a ≤ S1x1x2816x1024.size a := by decide

section Point

variable (c : Dev nD) (i : grid0.Coords) (arg2 : Memref sig .tc .vmem S1x1024x1024 .f32) (harg2 : arg2.IsWhole) (arg3 : Memref sig .tc .vmem S1x1x1x8x1024 .f32) (harg3 : arg3.IsWhole) (arg4 : Memref sig .tc .vmem S1x1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x2816 .bf16) (harg9 : arg9.IsWhole)
variable {F : FTy → Type} [FloatOps F]
variable (x0 : Vec F S1x1024x1024 .f32) (x1 : Vec F S1x1x1x8x1024 .f32) (x2 : Vec F S1x1x1024 .f32) (x3 : Vec F S1x1x1024x5632 .bf16) (x4 : Vec F S1x1x2816x1024 .bf16) (x5 : Vec F S1x1024 .f32)

/-- The point's loads: a tile of the first weight matrix, a row of the modulation, the rows, the gain, the second weight
matrix. -/
def ldT (k : ℕ) (hk : k ≤ 5376) : Vec F S1x1x1024x256 .bf16 :=
  (View.readAt (Elt F) arg5.view (Rect.unit ![0, 0, 0, k] ![1, 1, 1024, 256] (inbT k hk)).toLoadRect (harg5.unread x3) :)
@[inherit_doc ldT] def ldM (j : Fin 3) : Vec F S1x1x1x1x1024 .f32 :=
  (View.readAt (Elt F) arg3.view (Rect.unit ![0, 0, 0, j.val, 0] ![1, 1, 1, 1, 1024] (inbM j)).toLoadRect (harg3.unread x1) :)
@[inherit_doc ldT] def ldX : Vec F S1x1024x1024 .f32 :=
  (View.readAt (Elt F) arg2.view (Rect.unit ![0, 0, 0] ![1, 1024, 1024] inbX).toLoadRect (harg2.unread x0) :)
@[inherit_doc ldT] def ldG : Vec F S1x1x1024 .f32 :=
  (View.readAt (Elt F) arg4.view (Rect.unit ![0, 0, 0] ![1, 1, 1024] inbG).toLoadRect (harg4.unread x2) :)
@[inherit_doc ldT] def ldO : Vec F S1x1x2816x1024 .bf16 :=
  (View.readAt (Elt F) arg6.view (Rect.unit ![0, 0, 0, 0] ![1, 1, 2816, 1024] inbO).toLoadRect (harg6.unread x4) :)

/-- The modulated rows of the point. -/
def hid : FVec F S1024x1024 .bf16 :=
  k0_pay4 (ldX arg2 harg2 x0) (ldG arg4 harg4 x2) (ldM arg3 harg3 x1 1) (ldM arg3 harg3 x1 0)

/-- The pieces of the gated product: one per tile of 256 columns, the last first. -/
def actPieces : List (View.Piece (Elt F) S1024x2816 .bf16) :=
  ([10, 9, 8, 7, 6, 5, 4, 3, 2, 1, 0] : List (Fin 11)).map fun j =>
    ⟨Rect.unit ![0, 256 * j.val] ![1024, 256] (inbC j),
      k0_pay7 (hid arg2 harg2 arg3 harg3 arg4 harg4 x0 x1 x2) (ldT arg5 harg5 x3 (256 * j.val) (by have := j.isLt; omega))
        (ldT arg5 harg5 x3 (2816 + 256 * j.val) (by have := j.isLt; omega))⟩

/-- The gated product as the point reads it back. -/
def ldA : Vec F S1024x2816 .bf16 :=
  (arg9.view.readCov (actPieces arg2 harg2 arg3 harg3 arg4 harg4 arg5 harg5 x0 x1 x2 x3) (Rect.unit ![0, 0] ![1024, 2816] inbA).toLoadRect :)

/-- The point's one store. -/
theorem pieces :
    (kernelRun0_A c i arg2 harg2 arg3 harg3 arg4 harg4 arg5 harg5 arg6 harg6 arg7 harg7 arg8 harg8 arg9 harg9 x0 x1 x2 x3 x4 x5).1
      = [⟨Rect.unit ![0, 0, 0] ![1, 1024, 1024] inbX, k0_pay2 (k0_pay3 (ldX arg2 harg2 x0)) (ldM arg3 harg3 x1 2)
          (ldA arg2 harg2 arg3 harg3 arg4 harg4 arg5 harg5 arg9 x0 x1 x2 x3) (ldO arg6 harg6 x4)⟩] := by
  sl_kernel_rfl

end Point

section Values

variable (c : Dev nD) (i : grid0.Coords) (arg2 : Memref sig .tc .vmem S1x1024x1024 .f32) (harg2 : arg2.IsWhole) (arg3 : Memref sig .tc .vmem S1x1x1x8x1024 .f32) (harg3 : arg3.IsWhole) (arg4 : Memref sig .tc .vmem S1x1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x2816 .bf16) (harg9 : arg9.IsWhole)
variable (x0 : Vec Ideal S1x1024x1024 .f32) (x1 : Vec Ideal S1x1x1x8x1024 .f32) (x2 : Vec Ideal S1x1x1024 .f32) (x3 : Vec Ideal S1x1x1024x5632 .bf16) (x4 : Vec Ideal S1x1x2816x1024 .bf16) (x5 : Vec Ideal S1x1024 .f32)

/-- The load of a tile of the first weight matrix. -/
theorem ldT_apply (k : ℕ) (hk : k ≤ 5376) (p : Fin 1024) (q : Fin 256) :
    ldT arg5 harg5 x3 k hk (ix4 0 0 p q) = x3 (ix4 0 0 p ⟨k + q.val, by have := q.isLt; omega⟩) := by
  have e : ldT arg5 harg5 x3 k hk = View.ld x3 (Rect.unit ![0, 0, 0, k] ![1, 1, 1024, 256] (inbT k hk)) :=
    (View.readAt_eq_ld ..).trans (congrArg (fun X => View.ld X _) (harg5.read_unread x3))
  rw [e]
  show x3 _ = _
  congr 1
  pointwise

/-- The load of a row of the modulation. -/
theorem ldM_apply (j : Fin 3) (p : Fin 1024) : ldM arg3 harg3 x1 j (ix5 0 0 0 0 p) = x1 (ix5 0 0 0 ⟨j.val, by have := j.isLt; omega⟩ p) := by
  have e : ldM arg3 harg3 x1 j = View.ld x1 (Rect.unit ![0, 0, 0, j.val, 0] ![1, 1, 1, 1, 1024] (inbM j)) :=
    (View.readAt_eq_ld ..).trans (congrArg (fun X => View.ld X _) (harg3.read_unread x1))
  rw [e]
  show x1 _ = _
  congr 1
  pointwise

/-- The load of the rows. -/
theorem ldX_apply (r p : Fin 1024) : ldX arg2 harg2 x0 (ix3 0 r p) = x0 (ix3 0 r p) := by
  have e : ldX arg2 harg2 x0 = View.ld x0 (Rect.unit ![0, 0, 0] ![1, 1024, 1024] inbX) :=
    (View.readAt_eq_ld ..).trans (congrArg (fun X => View.ld X _) (harg2.read_unread x0))
  rw [e]
  show x0 _ = _
  congr 1
  pointwise

/-- The load of the gain. -/
theorem ldG_apply (p : Fin 1024) : ldG arg4 harg4 x2 (ix3 0 0 p) = x2 (ix3 0 0 p) := by
  have e : ldG arg4 harg4 x2 = View.ld x2 (Rect.unit ![0, 0, 0] ![1, 1, 1024] inbG) :=
    (View.readAt_eq_ld ..).trans (congrArg (fun X => View.ld X _) (harg4.read_unread x2))
  rw [e]
  show x2 _ = _
  congr 1
  pointwise

/-- The load of the second weight matrix. -/
theorem ldO_apply (k : Fin 2816) (p : Fin 1024) : ldO arg6 harg6 x4 (ix4 0 0 k p) = x4 (ix4 0 0 k p) := by
  have e : ldO arg6 harg6 x4 = View.ld x4 (Rect.unit ![0, 0, 0, 0] ![1, 1, 2816, 1024] inbO) :=
    (View.readAt_eq_ld ..).trans (congrArg (fun X => View.ld X _) (harg6.read_unread x4))
  rw [e]
  show x4 _ = _
  congr 1
  pointwise

/-- The modulated row `r` of the point. -/
def hidRow (r : Fin 1024) : Fin 1024 → EReal :=
  Half.modulated (fun p => x2 (ix3 0 0 p)) (fun p => x1 (ix5 0 0 0 1 p)) (fun p => x1 (ix5 0 0 0 0 p)) (fun p => x0 (ix3 0 r p))

/-- The modulated, normed rows at an index. -/
theorem hid_apply (r p : Fin 1024) : hid arg2 harg2 arg3 harg3 arg4 harg4 x0 x1 x2 (ix2 r p) = hidRow x0 x1 x2 r p := by
  unfold hid hidRow
  rw [mod_apply]
  simp only [ldX_apply, ldG_apply, ldM_apply]
  rfl

/-- The gated product of the point as one function of its index. -/
def actAt : Vec Ideal S1024x2816 .bf16 := fun y => Half.act (fun p k => x3 (ix4 0 0 p k)) (hidRow x0 x1 x2 (y 0)) (y 1)

/-- The tiles cover the gated product. -/
theorem act_cover (y : S1024x2816.Idx) : ∃ p ∈ actPieces arg2 harg2 arg3 harg3 arg4 harg4 arg5 harg5 x0 x1 x2 x3, y ∈ p.1.set := by
  idx_vars y
  have h0 := y0.isLt
  have h1 := y1.isLt
  have hm : ∀ j : Fin 11, j ∈ ([10, 9, 8, 7, 6, 5, 4, 3, 2, 1, 0] : List (Fin 11)) := by decide
  refine ⟨_, List.mem_map.mpr ⟨⟨y1.val / 256, by omega⟩, hm _, rfl⟩, ?_⟩
  rw [Rect.mem_set_unit]
  intro a
  fin_cases a <;> simp <;> omega

/-- Each tile holds the gated product's values. -/
theorem act_spec : ∀ p ∈ actPieces arg2 harg2 arg3 harg3 arg4 harg4 arg5 harg5 x0 x1 x2 x3, ∀ z : p.1.shape.Idx,
    p.2 z = actAt x0 x1 x2 x3 (p.1.emb z) := by
  intro p hp
  obtain ⟨j, -, rfl⟩ := List.mem_map.mp hp
  intro (z : S1024x256.Idx)
  idx_vars z
  have hj := j.isLt
  have hz := z1.isLt
  refine (tile_apply _ _ _ z0 z1).trans ?_
  simp only [hid_apply, ldT_apply]
  have e : (Rect.unit (s := S1024x2816) ![0, 256 * j.val] ![1024, 256] (inbC j)).emb (ix2 z0 z1) = ix2 z0 ⟨256 * j.val + z1.val, by omega⟩ := by
    funext a
    fin_cases a
    · apply Fin.ext; show 0 + 1 * z0.val = z0.val; omega
    · apply Fin.ext; show 256 * j.val + 1 * z1.val = _; simp
  refine Eq.trans ?_ (congrArg (actAt x0 x1 x2 x3) e).symm
  show _ = Half.act (fun p k => x3 (ix4 0 0 p k)) (hidRow x0 x1 x2 z0) ⟨256 * j.val + z1.val, by omega⟩
  unfold Half.act Half.up Half.lo
  simp only [Nat.add_assoc]

/-- The gated product read back. -/
theorem ldA_apply (r : Fin 1024) (k : Fin 2816) :
    ldA arg2 harg2 arg3 harg3 arg4 harg4 arg5 harg5 arg9 x0 x1 x2 x3 (ix2 r k)
      = Half.act (fun p k => x3 (ix4 0 0 p k)) (hidRow x0 x1 x2 r) k := by
  unfold ldA
  rw [View.readCov_eq_canon_ld _ _ _ (act_cover arg2 harg2 arg3 harg3 arg4 harg4 arg5 harg5 x0 x1 x2 x3)]
  have e : View.canon (actPieces arg2 harg2 arg3 harg3 arg4 harg4 arg5 harg5 x0 x1 x2 x3) = actAt x0 x1 x2 x3 := by
    funext y
    exact View.canon_apply_of_pieces _ _ (act_spec arg2 harg2 arg3 harg3 arg4 harg4 arg5 harg5 x0 x1 x2 x3) y
      (act_cover arg2 harg2 arg3 harg3 arg4 harg4 arg5 harg5 x0 x1 x2 x3 y)
  rw [e]
  show actAt x0 x1 x2 x3 _ = actAt x0 x1 x2 x3 (ix2 r k)
  congr 1
  pointwise

/-- The block the point stores, at an index: the half-step of its row. -/
theorem out_apply (r d : Fin 1024) :
    out0_A_6 c i arg2 harg2 arg3 harg3 arg4 harg4 arg5 harg5 arg6 harg6 arg7 harg7 arg8 harg8 arg9 harg9 x0 x1 x2 x3 x4 x5 (ix3 0 r d)
      = Half.step (fun p => x2 (ix3 0 0 p)) (fun p => x1 (ix5 0 0 0 1 p)) (fun p => x1 (ix5 0 0 0 0 p)) (fun p => x1 (ix5 0 0 0 2 p))
          (fun p k => x3 (ix4 0 0 p k)) (fun k p => x4 (ix4 0 0 k p)) (fun p => x0 (ix3 0 r p)) d := by
  have hc := cover0_A_6 c i arg2 harg2 arg3 harg3 arg4 harg4 arg5 harg5 arg6 harg6 arg7 harg7 arg8 harg8 arg9 harg9 x0 x1 x2 x3 x4 x5
  unfold out0_A_6
  rw [View.read_writes_eq_canon _ _ _ hc, pieces]
  rw [View.canon_unit_zero (S := S1x1024x1024) (off := ![0, 0, 0]) (by funext a; fin_cases a <;> rfl)]
  rw [out_pay_apply]
  simp only [ldA_apply, ldO_apply, ldM_apply]
  unfold k0_pay3 Half.step
  pointwise [ldX_apply]
  rfl

end Values

section Run

variable (m : (ℓ : Loc nD τ sig) → Buf (Elt Ideal) ℓ)

/-- The kernel's arguments in plain index form: the rows, the modulation vectors, the gain, the two weight matrices. -/
abbrev xOf (c : Dev nD) (b : Fin 4) (s : Fin 4096) (p : Fin 1024) : EReal :=
  (m ((c : Thread nD τ).loc main_arg0) : Vec Ideal S4x4096x1024 .f32) (ix3 b s p)
@[inherit_doc xOf] abbrev modOf (c : Dev nD) (b : Fin 4) (q : Fin 3) (p : Fin 1024) : EReal :=
  (m ((c : Thread nD τ).loc main_arg1) : Vec Ideal S2x4x9216 .f32) (ix3 0 b ⟨3072 * 0 + 1024 * q.val + p.val, by have := p.isLt; have := q.isLt; omega⟩)
@[inherit_doc xOf] abbrev gOf (c : Dev nD) (p : Fin 1024) : EReal :=
  (m ((c : Thread nD τ).loc main_arg2) : Vec Ideal S2x3x1024 .f32) (ix3 0 0 p)
@[inherit_doc xOf] abbrev wiOf (c : Dev nD) (p : Fin 1024) (k : Fin 5632) : EReal :=
  (m ((c : Thread nD τ).loc main_arg3) : Vec Ideal S2x2x1024x5632 .f32) (ix4 0 0 p k)
@[inherit_doc xOf] abbrev woOf (c : Dev nD) (k : Fin 2816) (p : Fin 1024) : EReal :=
  (m ((c : Thread nD τ).loc main_arg4) : Vec Ideal S2x2x2816x1024 .f32) (ix4 0 0 k p)

/-- The windows' block indices over the grid. -/
theorem idx_in : ∀ t : Fin cfg0.N, win0_0.index t = ![t.val / 4, t.val % 4, 0] ∧ win0_1.index t = ![0, t.val / 4, 0, 0, 0] ∧ win0_2.index t = ![0, 0, 0]
    ∧ win0_3.index t = ![0, 0, 0, 0] ∧ win0_4.index t = ![0, 0, 0, 0] ∧ win0_6.index t = ![t.val / 4, t.val % 4, 0] :=
  (by decide +kernel : ∀ t : Fin grid0.N, win0_0.index t = ![t.val / 4, t.val % 4, 0] ∧ win0_1.index t = ![0, t.val / 4, 0, 0, 0] ∧ win0_2.index t = ![0, 0, 0]
    ∧ win0_3.index t = ![0, 0, 0, 0] ∧ win0_4.index t = ![0, 0, 0, 0] ∧ win0_6.index t = ![t.val / 4, t.val % 4, 0])

variable (c : Dev nD) (t : Fin cfg0.N)

/-- The number of a grid point is below the number of points. -/
theorem hN : t.val < 16 := lt_of_lt_of_eq t.isLt N_0

/-- The rows' block at point `t`. -/
theorem blk_x (r p : Fin 1024) : (iblk m c 0 t : Vec Ideal S1x1024x1024 .f32) (ix3 0 r p)
    = xOf m c ⟨t.val / 4, by have := hN t; omega⟩ ⟨1024 * (t.val % 4) + r.val, by have := r.isLt; omega⟩ p := by
  blk_ext! [iblk, V, (idx_in t).1]

/-- The modulation array the host prepares from `x`, at an index: three vectors of a sub-layer and five rows of zeros. -/
theorem pad_apply (x : Vec Ideal S2x4x9216 .f32) (h : _) (l : Fin 2) (b : Fin 4) (j q : Fin 3) (p : Fin 1024) :
    concatenate S2x4x3x8x1024 3
      [⟨S2x4x3x3x1024, shapeCast S2x4x3x3x1024 x shapeCasts_S2x4x9216_S2x4x3x3x1024⟩,
        ⟨S2x4x3x5x1024, broadcastInDim S2x4x3x5x1024 ![] bcast_S_S2x4x3x5x1024 (constant (F := Ideal) S_ FTy.f32 0#32)⟩]
      h (ix5 l b j ⟨q.val, by have := q.isLt; omega⟩ p)
      = x (ix3 l b ⟨3072 * j.val + 1024 * q.val + p.val, by have := j.isLt; have := q.isLt; have := p.isLt; omega⟩) := by
  pointwise
  exact congrArg (fun r => x (ix3 l b r)) (Fin.ext (by show j.val * 3072 + q.val * 1024 + p.val = 3072 * j.val + 1024 * q.val + p.val; omega))

/-- The prepared modulation array at an index. -/
theorem mod8_apply (l : Fin 2) (b : Fin 4) (j q : Fin 3) (p : Fin 1024) :
    (V m c main_v6 : Vec Ideal S2x4x3x8x1024 .f32) (ix5 l b j ⟨q.val, by have := q.isLt; omega⟩ p)
      = (m ((c : Thread nD τ).loc main_arg1) : Vec Ideal S2x4x9216 .f32) (ix3 l b ⟨3072 * j.val + 1024 * q.val + p.val, by have := j.isLt; have := q.isLt; have := p.isLt; omega⟩) := by
  unfold V
  entry_read
  exact pad_apply (m ((c : Thread nD τ).loc main_arg1)) _ l b j q p

/-- The modulation's block at point `t`: its shift, its scale and its gain. -/
theorem blk_mod (j : Fin 3) (p : Fin 1024) : (iblk m c 1 t : Vec Ideal S1x1x1x8x1024 .f32) (ix5 0 0 0 ⟨j.val, by have := j.isLt; omega⟩ p)
    = modOf m c ⟨t.val / 4, by have := hN t; omega⟩ j p := by
  have e : (iblk m c 1 t : Vec Ideal S1x1x1x8x1024 .f32) (ix5 0 0 0 ⟨j.val, by have := j.isLt; omega⟩ p)
      = (V m c main_v6 : Vec Ideal S2x4x3x8x1024 .f32) (ix5 0 ⟨t.val / 4, by have := hN t; omega⟩ 0 ⟨j.val, by have := j.isLt; omega⟩ p) := by
    blk_ext [iblk, (idx_in t).2.1]
  rw [e, mod8_apply]
  rfl

/-- The gain's block. -/
theorem blk_g (p : Fin 1024) : (iblk m c 2 t : Vec Ideal S1x1x1024 .f32) (ix3 0 0 p) = gOf m c p := by
  blk_ext! [iblk, V, (idx_in t).2.2.1]

/-- The first weight matrix's block. -/
theorem blk_wi (p : Fin 1024) (k : Fin 5632) : (iblk m c 3 t : Vec Ideal S1x1x1024x5632 .bf16) (ix4 0 0 p k) = wiOf m c p k := by
  blk_ext! [iblk, V, (idx_in t).2.2.2.1]

/-- The second weight matrix's block. -/
theorem blk_wo (k : Fin 2816) (p : Fin 1024) : (iblk m c 4 t : Vec Ideal S1x1x2816x1024 .bf16) (ix4 0 0 k p) = woOf m c k p := by
  blk_ext! [iblk, V, (idx_in t).2.2.2.2.1]

/-- The result array as one function: the half-step of each row. -/
def result (c : Dev nD) : Vec Ideal S4x4096x1024 .f32 := fun y =>
  Half.step (gOf m c) (modOf m c (y 0) 1) (modOf m c (y 0) 0) (modOf m c (y 0) 2) (wiOf m c) (woOf m c) (xOf m c (y 0) (y 1)) (y 2)

/-- What the launch leaves in the result array. -/
theorem arr_eq : (dats m 0 c).arrAt 6 cfg0.N = result m c := by
  refine (dats m 0 c).arrAt_eq_of_covers 6 (result m c) (by decide +kernel) fun t hf y => ?_
  blk_simp
  rw [after0_6]
  revert y
  intro (y : S1x1024x1024.Idx)
  idx_vars y
  have hy : y0 = 0 := Subsingleton.elim _ _
  subst hy
  have e0 : ∀ p : Fin 1024, (iblk m c 1 t : Vec Ideal S1x1x1x8x1024 .f32) (ix5 0 0 0 0 p) = _ := blk_mod m c t 0
  have e1 : ∀ p : Fin 1024, (iblk m c 1 t : Vec Ideal S1x1x1x8x1024 .f32) (ix5 0 0 0 1 p) = _ := blk_mod m c t 1
  have e2 : ∀ p : Fin 1024, (iblk m c 1 t : Vec Ideal S1x1x1x8x1024 .f32) (ix5 0 0 0 2 p) = _ := blk_mod m c t 2
  have e : (win0_6.blk t).view.emb (ix3 0 y1 y2)
      = ix3 (⟨t.val / 4, by have := hN t; omega⟩ : Fin 4) (⟨1024 * (t.val % 4) + y1.val, by have := y1.isLt; omega⟩ : Fin 4096) y2 := by
    blk_ext [(idx_in t).2.2.2.2.2]
  refine Eq.trans ?_ (congrArg (result m c) e).symm
  unfold outsAt0
  refine (out_apply _ _ _ _ _ _ _ _ _ _ _ _ _ _ _ _ _ _ _ _ _ _ _ _ y1 y2).trans ?_
  simp only [blk_x, e0, e1, e2, blk_g, blk_wi, blk_wo]
  rfl

end Run

end Cert.FfnIdeal.Block
-- ==== Proof.FfnRef.lean ====
module

public import proofs.«01_k».proof.Proof.Gen.FfnRefIdeal.Run
public import proofs.«01_k».proof.Proof.Gen.FfnRefIdeal.Read
public import proofs.«01_k».proof.Proof.HalfMath
public import Idealize.ShloMosaic.Lib.Pointwise

/-! The reference of the first half-step at the extended reals, read at an index. -/

@[expose] public section

set_option maxRecDepth 16384

noncomputable section

namespace Cert.FfnRefIdeal.Row

open Cert.FfnRefIdeal Cert.FfnRefIdeal.Gen Cert.FfnRefIdeal.Read Idealize.ShloMosaic Idealize.ShloMosaic.TcCoe Idealize.SL.Sem Idealize.ShloMosaic.StableHlo

variable (x0 : Vec Ideal S4x4096x1024 .f32) (x1 : Vec Ideal S2x4x9216 .f32) (x2 : Vec Ideal S2x3x1024 .f32)
  (x3 : Vec Ideal S2x2x1024x5632 .f32) (x4 : Vec Ideal S2x2x2816x1024 .f32)

/-- Vector `q` of sub-layer `j` of the modulation of sample `b`. -/
abbrev modR (l : Fin 2) (b : Fin 4) (j q : Fin 3) (p : Fin 1024) : EReal :=
  x1 (ix3 l b ⟨3072 * j.val + 1024 * q.val + p.val, by have := j.isLt; have := q.isLt; have := p.isLt; omega⟩)

/-- The reference's modulation at an index. -/
theorem mod_apply (b : Fin 4) (j q : Fin 3) (p : Fin 1024) : val_main_v2 (F := Ideal) x1 (ix4 b j q p) = modR x1 0 b j q p := by
  unfold val_main_v2 val_main_v1 val_main_v0
  pointwise
  exact congrArg (fun r => x1 (ix3 0 b r)) (Fin.ext (by show j.val * 3072 + q.val * 1024 + p.val = 3072 * j.val + 1024 * q.val + p.val; omega))

/-- The modulated row. -/
theorem hid_apply (b : Fin 4) (s : Fin 4096) (i : Fin 1024) : val_main_v29 (F := Ideal) x0 x1 x2 (ix3 b s i)
    = Half.modulated (fun p => x2 (ix3 0 0 p)) (fun p => modR x1 0 b 0 1 p) (fun p => modR x1 0 b 0 0 p) (fun p => x0 (ix3 b s p)) i := by
  unfold val_main_v29 val_main_v28 val_main_v27 val_main_v26 val_main_v25 val_main_v24 val_main_v23 val_main_cst_2 val_main_v22 val_main_v21 val_main_v20 val_main_v19 val_main_v18
    val_main_v17 val_main_v16 val_main_v15 val_main_v14 val_main_v13 val_main_v12 val_main_v11 val_main_v10 val_main_cst_1 val_main_v9 val_main_v8 val_main_cst_0 val_main_v7 val_main_v6 val_main_cst val_main_v5
    val_main_v4 val_main_v3
  pointwise [mod_apply]
  unfold Half.modulated Half.norm
  rfl

/-- The product with the first weight matrix. -/
theorem prod_apply (b : Fin 4) (s : Fin 4096) (k : Fin 5632) : val_main_v39 (F := Ideal) x0 x1 x2 x3 (ix3 b s k)
    = ∑ p : Fin 1024, Half.modulated (fun p => x2 (ix3 0 0 p)) (fun p => modR x1 0 b 0 1 p) (fun p => modR x1 0 b 0 0 p) (fun p => x0 (ix3 b s p)) p * x3 (ix4 0 0 p k) := by
  unfold val_main_v39 val_main_v36 val_main_v35
  pointwise [hid_apply]

/-- The gated product. -/
theorem act_apply (b : Fin 4) (s : Fin 4096) (k : Fin 2816) : val_main_v43 (F := Ideal) x0 x1 x2 x3 (ix3 b s k)
    = Half.act (fun p k => x3 (ix4 0 0 p k)) (Half.modulated (fun p => x2 (ix3 0 0 p)) (fun p => modR x1 0 b 0 1 p) (fun p => modR x1 0 b 0 0 p) (fun p => x0 (ix3 b s p))) k := by
  unfold val_main_v43 val_main_v42 val_main_call0_v5 val_main_call0_v4 val_main_call0_cst_0 val_main_call0_v3 val_main_call0_v2 val_main_call0_cst val_main_call0_v1 val_main_call0_v0 val_main_v41 val_main_v40
  pointwise [prod_apply]
  unfold Half.act Half.gate
  rfl

/-- The reference's result: the half-step of each row. -/
theorem out_apply (b : Fin 4) (s : Fin 4096) (i : Fin 1024) : val_main_v47 (F := Ideal) x0 x1 x2 x3 x4 (ix3 b s i)
    = Half.step (fun p => x2 (ix3 0 0 p)) (fun p => modR x1 0 b 0 1 p) (fun p => modR x1 0 b 0 0 p) (fun p => modR x1 0 b 0 2 p)
        (fun p k => x3 (ix4 0 0 p k)) (fun k p => x4 (ix4 0 0 k p)) (fun p => x0 (ix3 b s p)) i := by
  unfold val_main_v47 val_main_v46 val_main_v45 val_main_v44 val_main_v38 val_main_v37 val_main_v34 val_main_v33 val_main_cst_3 val_main_v32 val_main_v31 val_main_v30
  pointwise [act_apply, mod_apply]
  unfold Half.step
  rfl

end Cert.FfnRefIdeal.Row
-- ==== Proof.MixBlock.lean ====
module

public import proofs.«01_k».proof.Proof.HalfMath
public import proofs.«01_k».proof.Proof.Gen.MixIdeal.Value
public import Idealize.ShloMosaic.Lib.Pointwise
public import Idealize.ShloMosaic.Lib.Pipeline.Value
public import Idealize.ShloMosaic.Lib.Pipeline.CanonAppend
public import Idealize.ShloMosaic.Lib.Pipeline.ValueKit

/-! One grid point of the mixers' projection and the second feed-forward half-step of layer 0: the block of rows it
stores, row by row. -/

@[expose] public section

set_option maxRecDepth 16384

noncomputable section

namespace Cert.MixIdeal.Block

open Cert.MixIdeal Cert.MixIdeal.Gen Idealize.ShloMosaic Idealize.ShloMosaic.TcCoe Idealize.SL.Sem

/-- The rows with the mixers' projection added, at an index. -/
theorem mix_apply (yg : Vec Ideal S1x1024x512 .bf16) (w0 : Vec Ideal S1x512x1024 .bf16) (yn : Vec Ideal S1x1024x512 .bf16) (w1 : Vec Ideal S1x512x1024 .bf16)
    (x : Vec Ideal S1x1024x1024 .f32) (ga : Vec Ideal S1x1x1x1x1024 .f32) (r i : Fin 1024) :
    k0_pay2 yg w0 yn w1 x ga (ix2 r i) = x (ix3 0 r i) + ga (ix5 0 0 0 0 i) * ((∑ p : Fin 512, yg (ix3 0 r p) * w0 (ix3 0 p i)) + ∑ p : Fin 512, yn (ix3 0 r p) * w1 (ix3 0 p i)) := by
  unfold k0_pay2
  pointwise

/-- Those rows over their root mean square, at an index. -/
theorem rms_apply (yg : Vec Ideal S1x1024x512 .bf16) (w0 : Vec Ideal S1x512x1024 .bf16) (yn : Vec Ideal S1x1024x512 .bf16) (w1 : Vec Ideal S1x512x1024 .bf16)
    (x : Vec Ideal S1x1024x1024 .f32) (ga : Vec Ideal S1x1x1x1x1024 .f32) (r i : Fin 1024) (R : Fin 1024 → EReal) (hR : ∀ p, k0_pay2 yg w0 yn w1 x ga (ix2 r p) = R p) :
    k0_pay4 yg w0 yn w1 x ga (ix2 r i) = R i * Ideal.rsqrt (Ideal.div (∑ p : Fin 1024, R p * R p) (Ideal.ofBits .f32 0x44800000#32) + Ideal.ofBits .f32 0x358637BD#32) := by
  unfold k0_pay4
  generalize k0_pay2 yg w0 yn w1 x ga = X at hR ⊢
  pointwise [hR]

/-- The modulated rows at an index. -/
theorem mod_apply (g : Vec Ideal S1x1x1024 .f32) (y : FVec Ideal S1024x1024 .f32) (sc sh : Vec Ideal S1x1x1x1x1024 .f32) (r i : Fin 1024) :
    k0_pay5 (k0_pay3 g) y sc sh (ix2 r i) = y (ix2 r i) * g (ix3 0 0 i) * (1 + sc (ix5 0 0 0 0 i)) + sh (ix5 0 0 0 0 i) := by
  unfold k0_pay5 k0_pay3
  pointwise

/-- One tile of the gated product at an index. -/
theorem tile_apply (h : FVec Ideal S1024x1024 .bf16) (a u : Vec Ideal S1x1x1024x256 .bf16) (r : Fin 1024) (k : Fin 256) :
    k0_pay7 h a u (ix2 r k) = Half.gate (∑ p : Fin 1024, h (ix2 r p) * a (ix4 0 0 p k)) * ∑ p : Fin 1024, h (ix2 r p) * u (ix4 0 0 p k) := by
  unfold k0_pay7 Half.gate
  pointwise
  rw [zero_sub]

/-- The gain at an index. -/
theorem gain_apply (ga : Vec Ideal S1x1x1x1x1024 .f32) (i : Fin 1024) :
    k0_pay27 ga (ix2 0 i) = Ideal.ofBits .f32 0x3F000000#32 * ga (ix5 0 0 0 0 i) := by
  unfold k0_pay27
  pointwise

/-- The stored rows at an index. -/
theorem out_pay_apply (x : FVec Ideal S1024x1024 .f32) (ga : FVec Ideal S1x1024 .f32) (a : Vec Ideal S1024x2816 .bf16) (wo : Vec Ideal S1x1x2816x1024 .bf16)
    (o : Fin 1) (r i : Fin 1024) :
    k0_pay1 x ga a wo (ix3 o r i) = x (ix2 r i) + ga (ix2 0 i) * ∑ k : Fin 2816, a (ix2 r k) * wo (ix4 0 0 k i) := by
  unfold k0_pay1
  pointwise

/-- The rectangle of this load or store lies inside its block. -/
theorem inbT (k : ℕ) (hk : k ≤ 5376) : ∀ a, (![0, 0, 0, k] : Fin 4 → ℕ) a + (![1, 1, 1024, 256] : Fin 4 → ℕ) a ≤ S1x1x1024x5632.size a := by
  intro a; fin_cases a <;> simp <;> omega
/-- The rectangle of this load or store lies inside its block. -/
theorem inbC (j : Fin 11) : ∀ a, (![0, 256 * j.val] : Fin 2 → ℕ) a + (![1024, 256] : Fin 2 → ℕ) a ≤ S1024x2816.size a := by
  revert j; decide
/-- The rectangle of this load or store lies inside its block. -/
theorem inbM (j : Fin 3) : ∀ a, (![0, 0, 0, j.val, 0] : Fin 5 → ℕ) a + (![1, 1, 1, 1, 1024] : Fin 5 → ℕ) a ≤ S1x1x1x8x1024.size a := by
  revert j; decide
/-- The rectangle of this load or store lies inside its block. -/
theorem inbX : ∀ a, (![0, 0, 0] : Fin 3 → ℕ) a + (![1, 1024, 1024] : Fin 3 → ℕ) a ≤ S1x1024x1024.size a := by decide
/-- The rectangle of this load or store lies inside its block. -/
theorem inbG : ∀ a, (![0, 0, 0] : Fin 3 → ℕ) a + (![1, 1, 1024] : Fin 3 → ℕ) a ≤ S1x1x1024.size a := by decide
/-- The rectangle of this load or store lies inside its block. -/
theorem inbA : ∀ a, (![0, 0] : Fin 2 → ℕ) a + (![1024, 2816] : Fin 2 → ℕ) a ≤ S1024x2816.size a := by decide
/-- The rectangle of this load or store lies inside its block. -/
theorem inbO : ∀ a, (![0, 0, 0, 0] : Fin 4 → ℕ) a + (![1, 1, 2816, 1024] : Fin 4 → ℕ) a ≤ S1x1x2816x1024.size a := by decide

/-- The rectangle of this load or store lies inside its block. -/
theorem inbY : ∀ a, (![0, 0, 0] : Fin 3 → ℕ) a + (![1, 1024, 512] : Fin 3 → ℕ) a ≤ S1x1024x512.size a := by decide
/-- The rectangle of this load or store lies inside its block. -/
theorem inbW (j : Fin 2) : ∀ a, (![0, 512 * j.val, 0] : Fin 3 → ℕ) a + (![1, 512, 1024] : Fin 3 → ℕ) a ≤ S1x1024x1024.size a := by
  revert j; decide

section Point

variable (c : Dev nD) (i : grid0.Coords) (arg2 : Memref sig .tc .vmem S1x1024x1024 .f32) (harg2 : arg2.IsWhole) (arg3 : Memref sig .tc .vmem S1x1x1x8x1024 .f32) (harg3 : arg3.IsWhole) (arg4 : Memref sig .tc .vmem S1x1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024 .f32) (harg7 : arg7.IsWhole) (arg8 : Memref sig .tc .vmem S1x1x1x8x1024 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x1024 .bf16) (harg11 : arg11.IsWhole) (arg12 : Memref sig .tc .vmem S1x1024x1024 .f32) (harg12 : arg12.IsWhole) (arg13 : Memref sig .tc .vmem S1024x2816 .bf16) (harg13 : arg13.IsWhole)
variable {F : FTy → Type} [FloatOps F]
variable (x0 : Vec F S1x1024x1024 .f32) (x1 : Vec F S1x1x1x8x1024 .f32) (x2 : Vec F S1x1x1024 .f32) (x3 : Vec F S1x1x1024x5632 .bf16) (x4 : Vec F S1x1x2816x1024 .bf16) (x5 : Vec F S1x1024 .f32) (x6 : Vec F S1x1x1x8x1024 .f32) (x7 : Vec F S1x1024x512 .bf16) (x8 : Vec F S1x1024x512 .bf16) (x9 : Vec F S1x1024x1024 .bf16)

/-- The point's loads: a tile of the first weight matrix, a row of the modulation, the rows, the gain, the second weight
matrix, the mixers' gain, their rows and the two halves of their weight. -/
def ldT (k : ℕ) (hk : k ≤ 5376) : Vec F S1x1x1024x256 .bf16 :=
  (View.readAt (Elt F) arg5.view (Rect.unit ![0, 0, 0, k] ![1, 1, 1024, 256] (inbT k hk)).toLoadRect (harg5.unread x3) :)
@[inherit_doc ldT] def ldM (j : Fin 3) : Vec F S1x1x1x1x1024 .f32 :=
  (View.readAt (Elt F) arg3.view (Rect.unit ![0, 0, 0, j.val, 0] ![1, 1, 1, 1, 1024] (inbM j)).toLoadRect (harg3.unread x1) :)
@[inherit_doc ldT] def ldX : Vec F S1x1024x1024 .f32 :=
  (View.readAt (Elt F) arg2.view (Rect.unit ![0, 0, 0] ![1, 1024, 1024] inbX).toLoadRect (harg2.unread x0) :)
@[inherit_doc ldT] def ldG : Vec F S1x1x1024 .f32 :=
  (View.readAt (Elt F) arg4.view (Rect.unit ![0, 0, 0] ![1, 1, 1024] inbG).toLoadRect (harg4.unread x2) :)
@[inherit_doc ldT] def ldO : Vec F S1x1x2816x1024 .bf16 :=
  (View.readAt (Elt F) arg6.view (Rect.unit ![0, 0, 0, 0] ![1, 1, 2816, 1024] inbO).toLoadRect (harg6.unread x4) :)
@[inherit_doc ldT] def ldK : Vec F S1x1x1x1x1024 .f32 :=
  (View.readAt (Elt F) arg8.view (Rect.unit ![0, 0, 0, 2, 0] ![1, 1, 1, 1, 1024] (inbM 2)).toLoadRect (harg8.unread x6) :)
@[inherit_doc ldT] def ldP : Vec F S1x1024x512 .bf16 :=
  (View.readAt (Elt F) arg9.view (Rect.unit ![0, 0, 0] ![1, 1024, 512] inbY).toLoadRect (harg9.unread x7) :)
@[inherit_doc ldT] def ldQ : Vec F S1x1024x512 .bf16 :=
  (View.readAt (Elt F) arg10.view (Rect.unit ![0, 0, 0] ![1, 1024, 512] inbY).toLoadRect (harg10.unread x8) :)
@[inherit_doc ldT] def ldW (j : Fin 2) : Vec F S1x512x1024 .bf16 :=
  (View.readAt (Elt F) arg11.view (Rect.unit ![0, 512 * j.val, 0] ![1, 512, 1024] (inbW j)).toLoadRect (harg11.unread x9) :)

/-- The rows of the point with the mixers' projection added. -/
def mix : FVec F S1024x1024 .f32 :=
  k0_pay2 (ldP arg9 harg9 x7) (ldW arg11 harg11 x9 0) (ldQ arg10 harg10 x8) (ldW arg11 harg11 x9 1) (ldX arg2 harg2 x0) (ldK arg8 harg8 x6)

/-- The modulated rows of the point. -/
def hid : FVec F S1024x1024 .bf16 :=
  k0_pay5 (k0_pay3 (ldG arg4 harg4 x2)) (k0_pay4 (ldP arg9 harg9 x7) (ldW arg11 harg11 x9 0) (ldQ arg10 harg10 x8) (ldW arg11 harg11 x9 1) (ldX arg2 harg2 x0) (ldK arg8 harg8 x6)) (ldM arg3 harg3 x1 1) (ldM arg3 harg3 x1 0)

/-- The pieces of the gated product: one per tile of 256 columns, the last first. -/
def actPieces : List (View.Piece (Elt F) S1024x2816 .bf16) :=
  ([10, 9, 8, 7, 6, 5, 4, 3, 2, 1, 0] : List (Fin 11)).map fun j =>
    ⟨Rect.unit ![0, 256 * j.val] ![1024, 256] (inbC j),
      k0_pay7 (hid arg2 harg2 arg3 harg3 arg4 harg4 arg8 harg8 arg9 harg9 arg10 harg10 arg11 harg11 x0 x1 x2 x6 x7 x8 x9) (ldT arg5 harg5 x3 (256 * j.val) (by have := j.isLt; omega))
        (ldT arg5 harg5 x3 (2816 + 256 * j.val) (by have := j.isLt; omega))⟩

/-- The gated product as the point reads it back. -/
def ldA : Vec F S1024x2816 .bf16 :=
  (arg13.view.readCov (actPieces arg2 harg2 arg3 harg3 arg4 harg4 arg5 harg5 arg8 harg8 arg9 harg9 arg10 harg10 arg11 harg11 x0 x1 x2 x3 x6 x7 x8 x9) (Rect.unit ![0, 0] ![1024, 2816] inbA).toLoadRect :)

/-- The point's one store. -/
theorem pieces :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1
      = [⟨Rect.unit ![0, 0, 0] ![1, 1024, 1024] inbX, k0_pay1 (mix arg2 harg2 arg8 harg8 arg9 harg9 arg10 harg10 arg11 harg11 x0 x6 x7 x8 x9) (k0_pay27 (ldM arg3 harg3 x1 2))
          (ldA arg2 harg2 arg3 harg3 arg4 harg4 arg5 harg5 arg8 harg8 arg9 harg9 arg10 harg10 arg11 harg11 arg13 x0 x1 x2 x3 x6 x7 x8 x9) (ldO arg6 harg6 x4)⟩] := by
  sl_kernel_rfl

end Point

section Values

variable (c : Dev nD) (i : grid0.Coords) (arg2 : Memref sig .tc .vmem S1x1024x1024 .f32) (harg2 : arg2.IsWhole) (arg3 : Memref sig .tc .vmem S1x1x1x8x1024 .f32) (harg3 : arg3.IsWhole) (arg4 : Memref sig .tc .vmem S1x1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024 .f32) (harg7 : arg7.IsWhole) (arg8 : Memref sig .tc .vmem S1x1x1x8x1024 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x1024 .bf16) (harg11 : arg11.IsWhole) (arg12 : Memref sig .tc .vmem S1x1024x1024 .f32) (harg12 : arg12.IsWhole) (arg13 : Memref sig .tc .vmem S1024x2816 .bf16) (harg13 : arg13.IsWhole)
variable (x0 : Vec Ideal S1x1024x1024 .f32) (x1 : Vec Ideal S1x1x1x8x1024 .f32) (x2 : Vec Ideal S1x1x1024 .f32) (x3 : Vec Ideal S1x1x1024x5632 .bf16) (x4 : Vec Ideal S1x1x2816x1024 .bf16) (x5 : Vec Ideal S1x1024 .f32) (x6 : Vec Ideal S1x1x1x8x1024 .f32) (x7 : Vec Ideal S1x1024x512 .bf16) (x8 : Vec Ideal S1x1024x512 .bf16) (x9 : Vec Ideal S1x1024x1024 .bf16)

/-- The load of a tile of the first weight matrix. -/
theorem ldT_apply (k : ℕ) (hk : k ≤ 5376) (p : Fin 1024) (q : Fin 256) :
    ldT arg5 harg5 x3 k hk (ix4 0 0 p q) = x3 (ix4 0 0 p ⟨k + q.val, by have := q.isLt; omega⟩) := by
  have e : ldT arg5 harg5 x3 k hk = View.ld x3 (Rect.unit ![0, 0, 0, k] ![1, 1, 1024, 256] (inbT k hk)) :=
    (View.readAt_eq_ld ..).trans (congrArg (fun X => View.ld X _) (harg5.read_unread x3))
  rw [e]
  show x3 _ = _
  congr 1
  pointwise

/-- The load of a row of the modulation. -/
theorem ldM_apply (j : Fin 3) (p : Fin 1024) : ldM arg3 harg3 x1 j (ix5 0 0 0 0 p) = x1 (ix5 0 0 0 ⟨j.val, by have := j.isLt; omega⟩ p) := by
  have e : ldM arg3 harg3 x1 j = View.ld x1 (Rect.unit ![0, 0, 0, j.val, 0] ![1, 1, 1, 1, 1024] (inbM j)) :=
    (View.readAt_eq_ld ..).trans (congrArg (fun X => View.ld X _) (harg3.read_unread x1))
  rw [e]
  show x1 _ = _
  congr 1
  pointwise

/-- The load of the rows. -/
theorem ldX_apply (r p : Fin 1024) : ldX arg2 harg2 x0 (ix3 0 r p) = x0 (ix3 0 r p) := by
  have e : ldX arg2 harg2 x0 = View.ld x0 (Rect.unit ![0, 0, 0] ![1, 1024, 1024] inbX) :=
    (View.readAt_eq_ld ..).trans (congrArg (fun X => View.ld X _) (harg2.read_unread x0))
  rw [e]
  show x0 _ = _
  congr 1
  pointwise

/-- The load of the gain. -/
theorem ldG_apply (p : Fin 1024) : ldG arg4 harg4 x2 (ix3 0 0 p) = x2 (ix3 0 0 p) := by
  have e : ldG arg4 harg4 x2 = View.ld x2 (Rect.unit ![0, 0, 0] ![1, 1, 1024] inbG) :=
    (View.readAt_eq_ld ..).trans (congrArg (fun X => View.ld X _) (harg4.read_unread x2))
  rw [e]
  show x2 _ = _
  congr 1
  pointwise

/-- The load of the second weight matrix. -/
theorem ldO_apply (k : Fin 2816) (p : Fin 1024) : ldO arg6 harg6 x4 (ix4 0 0 k p) = x4 (ix4 0 0 k p) := by
  have e : ldO arg6 harg6 x4 = View.ld x4 (Rect.unit ![0, 0, 0, 0] ![1, 1, 2816, 1024] inbO) :=
    (View.readAt_eq_ld ..).trans (congrArg (fun X => View.ld X _) (harg6.read_unread x4))
  rw [e]
  show x4 _ = _
  congr 1
  pointwise

/-- The load of the mixers' gain. -/
theorem ldK_apply (p : Fin 1024) : ldK arg8 harg8 x6 (ix5 0 0 0 0 p) = x6 (ix5 0 0 0 2 p) := by
  have e : ldK arg8 harg8 x6 = View.ld x6 (Rect.unit ![0, 0, 0, 2, 0] ![1, 1, 1, 1, 1024] (inbM 2)) :=
    (View.readAt_eq_ld ..).trans (congrArg (fun X => View.ld X _) (harg8.read_unread x6))
  rw [e]
  show x6 _ = _
  congr 1
  pointwise

/-- The loads of the mixers' rows. -/
theorem ldP_apply (r : Fin 1024) (p : Fin 512) : ldP arg9 harg9 x7 (ix3 0 r p) = x7 (ix3 0 r p) := by
  have e : ldP arg9 harg9 x7 = View.ld x7 (Rect.unit ![0, 0, 0] ![1, 1024, 512] inbY) :=
    (View.readAt_eq_ld ..).trans (congrArg (fun X => View.ld X _) (harg9.read_unread x7))
  rw [e]
  show x7 _ = _
  congr 1
  pointwise

/-- The loads of the mixers' rows. -/
theorem ldQ_apply (r : Fin 1024) (p : Fin 512) : ldQ arg10 harg10 x8 (ix3 0 r p) = x8 (ix3 0 r p) := by
  have e : ldQ arg10 harg10 x8 = View.ld x8 (Rect.unit ![0, 0, 0] ![1, 1024, 512] inbY) :=
    (View.readAt_eq_ld ..).trans (congrArg (fun X => View.ld X _) (harg10.read_unread x8))
  rw [e]
  show x8 _ = _
  congr 1
  pointwise

/-- The load of a half of the mixers' weight. -/
theorem ldW0_apply (p : Fin 512) (q : Fin 1024) : ldW arg11 harg11 x9 0 (ix3 0 p q) = x9 (ix3 0 (Half.lo512 p) q) := by
  have e : ldW arg11 harg11 x9 0 = View.ld x9 (Rect.unit ![0, 512 * ((0 : Fin 2)).val, 0] ![1, 512, 1024] (inbW 0)) :=
    (View.readAt_eq_ld ..).trans (congrArg (fun X => View.ld X _) (harg11.read_unread x9))
  rw [e]
  show x9 _ = _
  congr 1
  pointwise

/-- The load of a half of the mixers' weight. -/
theorem ldW1_apply (p : Fin 512) (q : Fin 1024) : ldW arg11 harg11 x9 1 (ix3 0 p q) = x9 (ix3 0 (Half.hi512 p) q) := by
  have e : ldW arg11 harg11 x9 1 = View.ld x9 (Rect.unit ![0, 512 * ((1 : Fin 2)).val, 0] ![1, 512, 1024] (inbW 1)) :=
    (View.readAt_eq_ld ..).trans (congrArg (fun X => View.ld X _) (harg11.read_unread x9))
  rw [e]
  show x9 _ = _
  congr 1
  pointwise

/-- Row `r` of the point with the mixers' projection added. -/
def mixRow (r : Fin 1024) : Fin 1024 → EReal :=
  Half.mixed (fun p => x6 (ix5 0 0 0 2 p)) (fun p => x7 (ix3 0 r p)) (fun p => x8 (ix3 0 r p)) (fun p q => x9 (ix3 0 p q)) (fun p => x0 (ix3 0 r p))

/-- The row with the mixers' projection added, at an index. -/
theorem mixRow_apply (r p : Fin 1024) : mix arg2 harg2 arg8 harg8 arg9 harg9 arg10 harg10 arg11 harg11 x0 x6 x7 x8 x9 (ix2 r p) = mixRow x0 x6 x7 x8 x9 r p := by
  unfold mix mixRow Half.mixed
  rw [mix_apply]
  simp only [ldX_apply, ldK_apply, ldP_apply, ldQ_apply, ldW0_apply, ldW1_apply]

/-- The modulated row `r` of the point. -/
def hidRow (r : Fin 1024) : Fin 1024 → EReal :=
  Half.modulated (fun p => x2 (ix3 0 0 p)) (fun p => x1 (ix5 0 0 0 1 p)) (fun p => x1 (ix5 0 0 0 0 p)) (mixRow x0 x6 x7 x8 x9 r)

/-- The modulated, normed rows at an index. -/
theorem hid_apply (r p : Fin 1024) : hid arg2 harg2 arg3 harg3 arg4 harg4 arg8 harg8 arg9 harg9 arg10 harg10 arg11 harg11 x0 x1 x2 x6 x7 x8 x9 (ix2 r p) = hidRow x0 x1 x2 x6 x7 x8 x9 r p := by
  unfold hid hidRow
  rw [mod_apply, rms_apply (R := mixRow x0 x6 x7 x8 x9 r) (hR := fun p => mixRow_apply arg2 harg2 arg8 harg8 arg9 harg9 arg10 harg10 arg11 harg11 x0 x6 x7 x8 x9 r p)]
  simp only [ldG_apply, ldM_apply]
  rfl

/-- The gated product of the point as one function of its index. -/
def actAt : Vec Ideal S1024x2816 .bf16 := fun y => Half.act (fun p k => x3 (ix4 0 0 p k)) (hidRow x0 x1 x2 x6 x7 x8 x9 (y 0)) (y 1)

/-- The tiles cover the gated product. -/
theorem act_cover (y : S1024x2816.Idx) : ∃ p ∈ actPieces arg2 harg2 arg3 harg3 arg4 harg4 arg5 harg5 arg8 harg8 arg9 harg9 arg10 harg10 arg11 harg11 x0 x1 x2 x3 x6 x7 x8 x9, y ∈ p.1.set := by
  idx_vars y
  have h0 := y0.isLt
  have h1 := y1.isLt
  have hm : ∀ j : Fin 11, j ∈ ([10, 9, 8, 7, 6, 5, 4, 3, 2, 1, 0] : List (Fin 11)) := by decide
  refine ⟨_, List.mem_map.mpr ⟨⟨y1.val / 256, by omega⟩, hm _, rfl⟩, ?_⟩
  rw [Rect.mem_set_unit]
  intro a
  fin_cases a <;> simp <;> omega

/-- Each tile holds the gated product's values. -/
theorem act_spec : ∀ p ∈ actPieces arg2 harg2 arg3 harg3 arg4 harg4 arg5 harg5 arg8 harg8 arg9 harg9 arg10 harg10 arg11 harg11 x0 x1 x2 x3 x6 x7 x8 x9, ∀ z : p.1.shape.Idx,
    p.2 z = actAt x0 x1 x2 x3 x6 x7 x8 x9 (p.1.emb z) := by
  intro p hp
  obtain ⟨j, -, rfl⟩ := List.mem_map.mp hp
  intro (z : S1024x256.Idx)
  idx_vars z
  have hj := j.isLt
  have hz := z1.isLt
  refine (tile_apply _ _ _ z0 z1).trans ?_
  simp only [hid_apply, ldT_apply]
  have e : (Rect.unit (s := S1024x2816) ![0, 256 * j.val] ![1024, 256] (inbC j)).emb (ix2 z0 z1) = ix2 z0 ⟨256 * j.val + z1.val, by omega⟩ := by
    funext a
    fin_cases a
    · apply Fin.ext; show 0 + 1 * z0.val = z0.val; omega
    · apply Fin.ext; show 256 * j.val + 1 * z1.val = _; simp
  refine Eq.trans ?_ (congrArg (actAt x0 x1 x2 x3 x6 x7 x8 x9) e).symm
  show _ = Half.act (fun p k => x3 (ix4 0 0 p k)) (hidRow x0 x1 x2 x6 x7 x8 x9 z0) ⟨256 * j.val + z1.val, by omega⟩
  unfold Half.act Half.up Half.lo
  simp only [Nat.add_assoc]

/-- The gated product read back. -/
theorem ldA_apply (r : Fin 1024) (k : Fin 2816) :
    ldA arg2 harg2 arg3 harg3 arg4 harg4 arg5 harg5 arg8 harg8 arg9 harg9 arg10 harg10 arg11 harg11 arg13 x0 x1 x2 x3 x6 x7 x8 x9 (ix2 r k)
      = Half.act (fun p k => x3 (ix4 0 0 p k)) (hidRow x0 x1 x2 x6 x7 x8 x9 r) k := by
  unfold ldA
  rw [View.readCov_eq_canon_ld _ _ _ (act_cover arg2 harg2 arg3 harg3 arg4 harg4 arg5 harg5 arg8 harg8 arg9 harg9 arg10 harg10 arg11 harg11 x0 x1 x2 x3 x6 x7 x8 x9)]
  have e : View.canon (actPieces arg2 harg2 arg3 harg3 arg4 harg4 arg5 harg5 arg8 harg8 arg9 harg9 arg10 harg10 arg11 harg11 x0 x1 x2 x3 x6 x7 x8 x9) = actAt x0 x1 x2 x3 x6 x7 x8 x9 := by
    funext y
    exact View.canon_apply_of_pieces _ _ (act_spec arg2 harg2 arg3 harg3 arg4 harg4 arg5 harg5 arg8 harg8 arg9 harg9 arg10 harg10 arg11 harg11 x0 x1 x2 x3 x6 x7 x8 x9) y
      (act_cover arg2 harg2 arg3 harg3 arg4 harg4 arg5 harg5 arg8 harg8 arg9 harg9 arg10 harg10 arg11 harg11 x0 x1 x2 x3 x6 x7 x8 x9 y)
  rw [e]
  show actAt x0 x1 x2 x3 x6 x7 x8 x9 _ = actAt x0 x1 x2 x3 x6 x7 x8 x9 (ix2 r k)
  congr 1
  pointwise

/-- The block the point stores, at an index: the half-step of its row. -/
theorem out_apply (r d : Fin 1024) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix3 0 r d)
      = Half.step (fun p => x2 (ix3 0 0 p)) (fun p => x1 (ix5 0 0 0 1 p)) (fun p => x1 (ix5 0 0 0 0 p)) (fun p => x1 (ix5 0 0 0 2 p))
          (fun p k => x3 (ix4 0 0 p k)) (fun k p => x4 (ix4 0 0 k p)) (mixRow x0 x6 x7 x8 x9 r) d := by
  have hc := cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  unfold out0_A_10
  rw [View.read_writes_eq_canon _ _ _ hc, pieces]
  rw [View.canon_unit_zero (S := S1x1024x1024) (off := ![0, 0, 0]) (by funext a; fin_cases a <;> rfl)]
  rw [out_pay_apply]
  simp only [ldA_apply, ldO_apply, gain_apply, ldM_apply, mixRow_apply]
  rfl

end Values

section Run

variable (m : (ℓ : Loc nD τ sig) → Buf (Elt Ideal) ℓ)

/-- The kernel's arguments in plain index form: the rows, the modulation vectors, the gain, the two weight matrices, the
mixers' rows and their weight. -/
abbrev xOf (c : Dev nD) (b : Fin 4) (s : Fin 4096) (p : Fin 1024) : EReal :=
  (m ((c : Thread nD τ).loc main_arg0) : Vec Ideal S4x4096x1024 .f32) (ix3 b s p)
@[inherit_doc xOf] abbrev modOf (c : Dev nD) (b : Fin 4) (j q : Fin 3) (p : Fin 1024) : EReal :=
  (m ((c : Thread nD τ).loc main_arg1) : Vec Ideal S2x4x9216 .f32) (ix3 0 b ⟨3072 * j.val + 1024 * q.val + p.val, by have := p.isLt; have := q.isLt; have := j.isLt; omega⟩)
@[inherit_doc xOf] abbrev gOf (c : Dev nD) (p : Fin 1024) : EReal :=
  (m ((c : Thread nD τ).loc main_arg2) : Vec Ideal S2x3x1024 .f32) (ix3 0 2 p)
@[inherit_doc xOf] abbrev wiOf (c : Dev nD) (p : Fin 1024) (k : Fin 5632) : EReal :=
  (m ((c : Thread nD τ).loc main_arg3) : Vec Ideal S2x2x1024x5632 .f32) (ix4 0 1 p k)
@[inherit_doc xOf] abbrev woOf (c : Dev nD) (k : Fin 2816) (p : Fin 1024) : EReal :=
  (m ((c : Thread nD τ).loc main_arg4) : Vec Ideal S2x2x2816x1024 .f32) (ix4 0 1 k p)
@[inherit_doc xOf] abbrev ygOf (c : Dev nD) (b : Fin 4) (s : Fin 4096) (p : Fin 512) : EReal :=
  (m ((c : Thread nD τ).loc main_arg6) : Vec Ideal S4x4096x512 .bf16) (ix3 b s p)
@[inherit_doc xOf] abbrev ynOf (c : Dev nD) (b : Fin 4) (s : Fin 4096) (p : Fin 512) : EReal :=
  (m ((c : Thread nD τ).loc main_arg7) : Vec Ideal S4x4096x512 .bf16) (ix3 b s p)
@[inherit_doc xOf] abbrev wmOf (c : Dev nD) (p q : Fin 1024) : EReal :=
  (m ((c : Thread nD τ).loc main_arg8) : Vec Ideal S2x1024x1024 .f32) (ix3 0 p q)

/-- The windows' block indices over the grid. -/
theorem idx_in : ∀ t : Fin cfg0.N, win0_0.index t = ![t.val / 4, t.val % 4, 0] ∧ win0_1.index t = ![0, t.val / 4, 2, 0, 0] ∧ win0_2.index t = ![2, 0, 0]
    ∧ win0_3.index t = ![0, 1, 0, 0] ∧ win0_4.index t = ![0, 1, 0, 0] ∧ win0_5.index t = ![0, 0]
    ∧ win0_6.index t = ![0, t.val / 4, 1, 0, 0] ∧ win0_7.index t = ![t.val / 4, t.val % 4, 0] ∧ win0_8.index t = ![t.val / 4, t.val % 4, 0]
    ∧ win0_9.index t = ![0, 0, 0] ∧ win0_10.index t = ![t.val / 4, t.val % 4, 0] :=
  (by decide +kernel : ∀ t : Fin grid0.N, win0_0.index t = ![t.val / 4, t.val % 4, 0] ∧ win0_1.index t = ![0, t.val / 4, 2, 0, 0] ∧ win0_2.index t = ![2, 0, 0]
    ∧ win0_3.index t = ![0, 1, 0, 0] ∧ win0_4.index t = ![0, 1, 0, 0] ∧ win0_5.index t = ![0, 0]
    ∧ win0_6.index t = ![0, t.val / 4, 1, 0, 0] ∧ win0_7.index t = ![t.val / 4, t.val % 4, 0] ∧ win0_8.index t = ![t.val / 4, t.val % 4, 0]
    ∧ win0_9.index t = ![0, 0, 0] ∧ win0_10.index t = ![t.val / 4, t.val % 4, 0])

variable (c : Dev nD) (t : Fin cfg0.N)

/-- The number of a grid point is below the number of points. -/
theorem hN : t.val < 16 := lt_of_lt_of_eq t.isLt N_0

/-- The rows' block at point `t`. -/
theorem blk_x (r p : Fin 1024) : (iblk m c 0 t : Vec Ideal S1x1024x1024 .f32) (ix3 0 r p)
    = xOf m c ⟨t.val / 4, by have := hN t; omega⟩ ⟨1024 * (t.val % 4) + r.val, by have := r.isLt; omega⟩ p := by
  blk_ext! [iblk, V, (idx_in t).1]

/-- The modulation array the host prepares from `x`, at an index: three vectors of a sub-layer and five rows of zeros. -/
theorem pad_apply (x : Vec Ideal S2x4x9216 .f32) (h : _) (l : Fin 2) (b : Fin 4) (j q : Fin 3) (p : Fin 1024) :
    concatenate S2x4x3x8x1024 3
      [⟨S2x4x3x3x1024, shapeCast S2x4x3x3x1024 x shapeCasts_S2x4x9216_S2x4x3x3x1024⟩,
        ⟨S2x4x3x5x1024, broadcastInDim S2x4x3x5x1024 ![] bcast_S_S2x4x3x5x1024 (constant (F := Ideal) S_ FTy.f32 0#32)⟩]
      h (ix5 l b j ⟨q.val, by have := q.isLt; omega⟩ p)
      = x (ix3 l b ⟨3072 * j.val + 1024 * q.val + p.val, by have := j.isLt; have := q.isLt; have := p.isLt; omega⟩) := by
  pointwise
  exact congrArg (fun r => x (ix3 l b r)) (Fin.ext (by show j.val * 3072 + q.val * 1024 + p.val = 3072 * j.val + 1024 * q.val + p.val; omega))

/-- The prepared modulation array at an index. -/
theorem mod8_apply (l : Fin 2) (b : Fin 4) (j q : Fin 3) (p : Fin 1024) :
    (V m c main_v7 : Vec Ideal S2x4x3x8x1024 .f32) (ix5 l b j ⟨q.val, by have := q.isLt; omega⟩ p)
      = (m ((c : Thread nD τ).loc main_arg1) : Vec Ideal S2x4x9216 .f32) (ix3 l b ⟨3072 * j.val + 1024 * q.val + p.val, by have := j.isLt; have := q.isLt; have := p.isLt; omega⟩) := by
  unfold V
  entry_read
  exact pad_apply (m ((c : Thread nD τ).loc main_arg1)) _ l b j q p

/-- The modulation's block at point `t`. -/
theorem blk_mod (j : Fin 3) (p : Fin 1024) : (iblk m c 1 t : Vec Ideal S1x1x1x8x1024 .f32) (ix5 0 0 0 ⟨j.val, by have := j.isLt; omega⟩ p)
    = modOf m c ⟨t.val / 4, by have := hN t; omega⟩ 2 j p := by
  have e : (iblk m c 1 t : Vec Ideal S1x1x1x8x1024 .f32) (ix5 0 0 0 ⟨j.val, by have := j.isLt; omega⟩ p)
      = (V m c main_v7 : Vec Ideal S2x4x3x8x1024 .f32) (ix5 0 ⟨t.val / 4, by have := hN t; omega⟩ 2 ⟨j.val, by have := j.isLt; omega⟩ p) := by
    blk_ext [iblk, (idx_in t).2.1]
  rw [e, mod8_apply]

/-- The modulation's block of the mixers at point `t`. -/
theorem blk_mmod (j : Fin 3) (p : Fin 1024) : (iblk m c 6 t : Vec Ideal S1x1x1x8x1024 .f32) (ix5 0 0 0 ⟨j.val, by have := j.isLt; omega⟩ p)
    = modOf m c ⟨t.val / 4, by have := hN t; omega⟩ 1 j p := by
  have e : (iblk m c 6 t : Vec Ideal S1x1x1x8x1024 .f32) (ix5 0 0 0 ⟨j.val, by have := j.isLt; omega⟩ p)
      = (V m c main_v7 : Vec Ideal S2x4x3x8x1024 .f32) (ix5 0 ⟨t.val / 4, by have := hN t; omega⟩ 1 ⟨j.val, by have := j.isLt; omega⟩ p) := by
    blk_ext [iblk, (idx_in t).2.2.2.2.2.2.1]
  rw [e, mod8_apply]

/-- The gain's block. -/
theorem blk_g (p : Fin 1024) : (iblk m c 2 t : Vec Ideal S1x1x1024 .f32) (ix3 0 0 p) = gOf m c p := by
  blk_ext! [iblk, V, (idx_in t).2.2.1]

/-- The first weight matrix's block. -/
theorem blk_wi (p : Fin 1024) (k : Fin 5632) : (iblk m c 3 t : Vec Ideal S1x1x1024x5632 .bf16) (ix4 0 0 p k) = wiOf m c p k := by
  blk_ext! [iblk, V, (idx_in t).2.2.2.1]

/-- The second weight matrix's block. -/
theorem blk_wo (k : Fin 2816) (p : Fin 1024) : (iblk m c 4 t : Vec Ideal S1x1x2816x1024 .bf16) (ix4 0 0 k p) = woOf m c k p := by
  blk_ext! [iblk, V, (idx_in t).2.2.2.2.1]

/-- The mixers' rows' blocks. -/
theorem blk_yg (r : Fin 1024) (p : Fin 512) : (iblk m c 7 t : Vec Ideal S1x1024x512 .bf16) (ix3 0 r p) = ygOf m c ⟨t.val / 4, by have := hN t; omega⟩ ⟨1024 * (t.val % 4) + r.val, by have := r.isLt; omega⟩ p := by
  blk_ext! [iblk, V, (idx_in t).2.2.2.2.2.2.2.1]

/-- The mixers' rows' blocks. -/
theorem blk_yn (r : Fin 1024) (p : Fin 512) : (iblk m c 8 t : Vec Ideal S1x1024x512 .bf16) (ix3 0 r p) = ynOf m c ⟨t.val / 4, by have := hN t; omega⟩ ⟨1024 * (t.val % 4) + r.val, by have := r.isLt; omega⟩ p := by
  blk_ext! [iblk, V, (idx_in t).2.2.2.2.2.2.2.2.1]

/-- The mixers' weight's block. -/
theorem blk_wm (p q : Fin 1024) : (iblk m c 9 t : Vec Ideal S1x1024x1024 .bf16) (ix3 0 p q) = wmOf m c p q := by
  blk_ext! [iblk, V, (idx_in t).2.2.2.2.2.2.2.2.2.1]

/-- The result array as one function: the half-step of each row. -/
def result (c : Dev nD) : Vec Ideal S4x4096x1024 .f32 := fun y =>
  Half.step (gOf m c) (modOf m c (y 0) 2 1) (modOf m c (y 0) 2 0) (modOf m c (y 0) 2 2) (wiOf m c) (woOf m c)
    (Half.mixed (modOf m c (y 0) 1 2) (ygOf m c (y 0) (y 1)) (ynOf m c (y 0) (y 1)) (wmOf m c) (xOf m c (y 0) (y 1))) (y 2)

/-- What the launch leaves in the result array. -/
theorem arr_eq : (dats m 0 c).arrAt 10 cfg0.N = result m c := by
  refine (dats m 0 c).arrAt_eq_of_covers 10 (result m c) (by decide +kernel) fun t hf y => ?_
  blk_simp
  rw [after0_10]
  revert y
  intro (y : S1x1024x1024.Idx)
  idx_vars y
  have hy : y0 = 0 := Subsingleton.elim _ _
  subst hy
  have e0 : ∀ p : Fin 1024, (iblk m c 1 t : Vec Ideal S1x1x1x8x1024 .f32) (ix5 0 0 0 0 p) = _ := blk_mod m c t 0
  have e1 : ∀ p : Fin 1024, (iblk m c 1 t : Vec Ideal S1x1x1x8x1024 .f32) (ix5 0 0 0 1 p) = _ := blk_mod m c t 1
  have e2 : ∀ p : Fin 1024, (iblk m c 1 t : Vec Ideal S1x1x1x8x1024 .f32) (ix5 0 0 0 2 p) = _ := blk_mod m c t 2
  have e3 : ∀ p : Fin 1024, (iblk m c 6 t : Vec Ideal S1x1x1x8x1024 .f32) (ix5 0 0 0 2 p) = _ := blk_mmod m c t 2
  have e : (win0_10.blk t).view.emb (ix3 0 y1 y2)
      = ix3 (⟨t.val / 4, by have := hN t; omega⟩ : Fin 4) (⟨1024 * (t.val % 4) + y1.val, by have := y1.isLt; omega⟩ : Fin 4096) y2 := by
    blk_ext [(idx_in t).2.2.2.2.2.2.2.2.2.2]
  refine Eq.trans ?_ (congrArg (result m c) e).symm
  unfold outsAt0
  refine (out_apply _ _ _ _ _ _ _ _ _ _ _ _ _ _ _ _ _ _ _ _ _ _ _ _ _ _ _ _ _ _ _ _ _ _ _ _ y1 y2).trans ?_
  unfold mixRow
  simp only [blk_x, e0, e1, e2, e3, blk_g, blk_wi, blk_wo, blk_yg, blk_yn, blk_wm]
  rfl

end Run

end Cert.MixIdeal.Block
-- ==== Proof.MixRef.lean ====
module

public import proofs.«01_k».proof.Proof.Gen.MixRefIdeal.Run
public import proofs.«01_k».proof.Proof.Gen.MixRefIdeal.Read
public import proofs.«01_k».proof.Proof.HalfMath
public import Idealize.ShloMosaic.Lib.Pointwise

/-! The reference of the mixers' projection and the second half-step of layer 0 at the extended reals, read at an index. -/

@[expose] public section

set_option maxRecDepth 16384

noncomputable section

namespace Cert.MixRefIdeal.Row

open Cert.MixRefIdeal Cert.MixRefIdeal.Gen Cert.MixRefIdeal.Read Idealize.ShloMosaic Idealize.ShloMosaic.TcCoe Idealize.SL.Sem Idealize.ShloMosaic.StableHlo

variable (x0 : Vec Ideal S4x4096x1024 .f32) (x1 : Vec Ideal S2x4x9216 .f32) (x2 : Vec Ideal S2x3x1024 .f32)
  (x3 : Vec Ideal S2x2x1024x5632 .f32) (x4 : Vec Ideal S2x2x2816x1024 .f32) (x6 x7 : Vec Ideal S4x4096x512 .bf16) (x8 : Vec Ideal S2x1024x1024 .f32)

/-- Vector `q` of sub-layer `j` of the modulation of sample `b`. -/
abbrev modR (l : Fin 2) (b : Fin 4) (j q : Fin 3) (p : Fin 1024) : EReal :=
  x1 (ix3 l b ⟨3072 * j.val + 1024 * q.val + p.val, by have := j.isLt; have := q.isLt; have := p.isLt; omega⟩)

/-- The reference's modulation at an index. -/
theorem mod_apply (b : Fin 4) (j q : Fin 3) (p : Fin 1024) : val_main_v2 (F := Ideal) x1 (ix4 b j q p) = modR x1 0 b j q p := by
  unfold val_main_v2 val_main_v1 val_main_v0
  pointwise
  exact congrArg (fun r => x1 (ix3 0 b r)) (Fin.ext (by show j.val * 3072 + q.val * 1024 + p.val = 3072 * j.val + 1024 * q.val + p.val; omega))

/-- The mixers' rows side by side. -/
theorem cat_lo (b : Fin 4) (s : Fin 4096) (p : Fin 512) : val_main_v5 (F := Ideal) x6 x7 (ix3 b s (Half.lo512 p)) = x6 (ix3 b s p) := by
  unfold val_main_v5 val_main_v4 val_main_v3
  pointwise
@[inherit_doc cat_lo] theorem cat_hi (b : Fin 4) (s : Fin 4096) (p : Fin 512) : val_main_v5 (F := Ideal) x6 x7 (ix3 b s (Half.hi512 p)) = x7 (ix3 b s p) := by
  unfold val_main_v5 val_main_v4 val_main_v3
  pointwise

/-- The mixers' projection. -/
theorem proj_apply (b : Fin 4) (s : Fin 4096) (i : Fin 1024) : val_main_v8 (F := Ideal) x6 x7 x8 (ix3 b s i)
    = (∑ p : Fin 512, x6 (ix3 b s p) * x8 (ix3 0 (Half.lo512 p) i)) + ∑ p : Fin 512, x7 (ix3 b s p) * x8 (ix3 0 (Half.hi512 p) i) := by
  have e : val_main_v8 (F := Ideal) x6 x7 x8 (ix3 b s i) = ∑ p : Fin 1024, val_main_v5 (F := Ideal) x6 x7 (ix3 b s p) * x8 (ix3 0 p i) := by
    unfold val_main_v8 val_main_v7 val_main_v6
    generalize val_main_v5 (F := Ideal) x6 x7 = X
    pointwise
  rw [e, Half.sum_halves]
  simp only [cat_lo, cat_hi]

/-- The row with the mixers' projection added. -/
theorem mix_apply (b : Fin 4) (s : Fin 4096) (i : Fin 1024) : val_main_v14 (F := Ideal) x0 x1 x6 x7 x8 (ix3 b s i)
    = Half.mixed (modR x1 0 b 1 2) (fun p => x6 (ix3 b s p)) (fun p => x7 (ix3 b s p)) (fun p q => x8 (ix3 0 p q)) (fun p => x0 (ix3 b s p)) i := by
  unfold val_main_v14 val_main_v13 val_main_v12 val_main_v11 val_main_v10 val_main_v9
  pointwise [mod_apply, proj_apply]
  unfold Half.mixed
  rfl

/-- The modulated row. -/
theorem hid_apply (b : Fin 4) (s : Fin 4096) (i : Fin 1024) : val_main_v41 (F := Ideal) x0 x1 x2 x6 x7 x8 (ix3 b s i)
    = Half.modulated (fun p => x2 (ix3 0 2 p)) (fun p => modR x1 0 b 2 1 p) (fun p => modR x1 0 b 2 0 p)
        (Half.mixed (modR x1 0 b 1 2) (fun p => x6 (ix3 b s p)) (fun p => x7 (ix3 b s p)) (fun p q => x8 (ix3 0 p q)) (fun p => x0 (ix3 b s p))) i := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_cst val_main_cst_0 val_main_cst_1 val_main_cst_2
  pointwise [mod_apply, mix_apply]
  unfold Half.modulated Half.norm
  rfl

/-- The product with the first weight matrix. -/
theorem prod_apply (b : Fin 4) (s : Fin 4096) (k : Fin 5632) : val_main_v51 (F := Ideal) x0 x1 x2 x3 x6 x7 x8 (ix3 b s k)
    = ∑ p : Fin 1024, Half.modulated (fun p => x2 (ix3 0 2 p)) (fun p => modR x1 0 b 2 1 p) (fun p => modR x1 0 b 2 0 p)
        (Half.mixed (modR x1 0 b 1 2) (fun p => x6 (ix3 b s p)) (fun p => x7 (ix3 b s p)) (fun p q => x8 (ix3 0 p q)) (fun p => x0 (ix3 b s p))) p * x3 (ix4 0 1 p k) := by
  unfold val_main_v51 val_main_v48 val_main_v47
  pointwise [hid_apply]

/-- The gated product. -/
theorem act_apply (b : Fin 4) (s : Fin 4096) (k : Fin 2816) : val_main_v55 (F := Ideal) x0 x1 x2 x3 x6 x7 x8 (ix3 b s k)
    = Half.act (fun p k => x3 (ix4 0 1 p k)) (Half.modulated (fun p => x2 (ix3 0 2 p)) (fun p => modR x1 0 b 2 1 p) (fun p => modR x1 0 b 2 0 p)
        (Half.mixed (modR x1 0 b 1 2) (fun p => x6 (ix3 b s p)) (fun p => x7 (ix3 b s p)) (fun p q => x8 (ix3 0 p q)) (fun p => x0 (ix3 b s p)))) k := by
  unfold val_main_v55 val_main_v54 val_main_call0_v5 val_main_call0_v4 val_main_call0_cst_0 val_main_call0_v3 val_main_call0_v2 val_main_call0_cst val_main_call0_v1 val_main_call0_v0 val_main_v53 val_main_v52
  pointwise [prod_apply]
  unfold Half.act Half.gate
  rfl

/-- The half-step of each row. -/
theorem step_apply (b : Fin 4) (s : Fin 4096) (i : Fin 1024) : val_main_v59 (F := Ideal) x0 x1 x2 x3 x4 x6 x7 x8 (ix3 b s i)
    = Half.step (fun p => x2 (ix3 0 2 p)) (fun p => modR x1 0 b 2 1 p) (fun p => modR x1 0 b 2 0 p) (fun p => modR x1 0 b 2 2 p)
        (fun p k => x3 (ix4 0 1 p k)) (fun k p => x4 (ix4 0 1 k p))
        (Half.mixed (modR x1 0 b 1 2) (fun p => x6 (ix3 b s p)) (fun p => x7 (ix3 b s p)) (fun p q => x8 (ix3 0 p q)) (fun p => x0 (ix3 b s p))) i := by
  unfold val_main_v59 val_main_v58 val_main_v57 val_main_v56 val_main_v50 val_main_v49 val_main_v46 val_main_v45 val_main_cst_3 val_main_v44 val_main_v43 val_main_v42
  pointwise [act_apply, mod_apply, mix_apply]
  unfold Half.step
  rfl

end Cert.MixRefIdeal.Row
-- ==== Proof.FinBlock.lean ====
module

public import proofs.«01_k».proof.Proof.HalfMath
public import proofs.«01_k».proof.Proof.Gen.FinIdeal.Value
public import Idealize.ShloMosaic.Lib.Pointwise
public import Idealize.ShloMosaic.Lib.Pipeline.Value
public import Idealize.ShloMosaic.Lib.Pipeline.CanonAppend
public import Idealize.ShloMosaic.Lib.Pipeline.ValueKit

/-! One grid point of the mixers' projection and the second feed-forward half-step of layer 1, with the final norm: the block of rows it
stores, row by row. -/

@[expose] public section

set_option maxRecDepth 16384

noncomputable section

namespace Cert.FinIdeal.Block

open Cert.FinIdeal Cert.FinIdeal.Gen Idealize.ShloMosaic Idealize.ShloMosaic.TcCoe Idealize.SL.Sem

/-- The rows with the mixers' projection added, at an index. -/
theorem mix_apply (yg : Vec Ideal S1x1024x512 .bf16) (w0 : Vec Ideal S1x512x1024 .bf16) (yn : Vec Ideal S1x1024x512 .bf16) (w1 : Vec Ideal S1x512x1024 .bf16)
    (x : Vec Ideal S1x1024x1024 .f32) (ga : Vec Ideal S1x1x1x1x1024 .f32) (r i : Fin 1024) :
    k0_pay2 yg w0 yn w1 x ga (ix2 r i) = x (ix3 0 r i) + ga (ix5 0 0 0 0 i) * ((∑ p : Fin 512, yg (ix3 0 r p) * w0 (ix3 0 p i)) + ∑ p : Fin 512, yn (ix3 0 r p) * w1 (ix3 0 p i)) := by
  unfold k0_pay2
  pointwise

/-- Those rows over their root mean square, at an index. -/
theorem rms_apply (yg : Vec Ideal S1x1024x512 .bf16) (w0 : Vec Ideal S1x512x1024 .bf16) (yn : Vec Ideal S1x1024x512 .bf16) (w1 : Vec Ideal S1x512x1024 .bf16)
    (x : Vec Ideal S1x1024x1024 .f32) (ga : Vec Ideal S1x1x1x1x1024 .f32) (r i : Fin 1024) (R : Fin 1024 → EReal) (hR : ∀ p, k0_pay2 yg w0 yn w1 x ga (ix2 r p) = R p) :
    k0_pay4 yg w0 yn w1 x ga (ix2 r i) = R i * Ideal.rsqrt (Ideal.div (∑ p : Fin 1024, R p * R p) (Ideal.ofBits .f32 0x44800000#32) + Ideal.ofBits .f32 0x358637BD#32) := by
  unfold k0_pay4
  generalize k0_pay2 yg w0 yn w1 x ga = X at hR ⊢
  pointwise [hR]

/-- The modulated rows at an index. -/
theorem mod_apply (g : Vec Ideal S1x1x1024 .f32) (y : FVec Ideal S1024x1024 .f32) (sc sh : Vec Ideal S1x1x1x1x1024 .f32) (r i : Fin 1024) :
    k0_pay5 (k0_pay3 g) y sc sh (ix2 r i) = y (ix2 r i) * g (ix3 0 0 i) * (1 + sc (ix5 0 0 0 0 i)) + sh (ix5 0 0 0 0 i) := by
  unfold k0_pay5 k0_pay3
  pointwise

/-- One tile of the gated product at an index. -/
theorem tile_apply (h : FVec Ideal S1024x1024 .bf16) (a u : Vec Ideal S1x1x1024x256 .bf16) (r : Fin 1024) (k : Fin 256) :
    k0_pay7 h a u (ix2 r k) = Half.gate (∑ p : Fin 1024, h (ix2 r p) * a (ix4 0 0 p k)) * ∑ p : Fin 1024, h (ix2 r p) * u (ix4 0 0 p k) := by
  unfold k0_pay7 Half.gate
  pointwise
  rw [zero_sub]

/-- The gain at an index. -/
theorem gain_apply (ga : Vec Ideal S1x1x1x1x1024 .f32) (i : Fin 1024) :
    k0_pay27 ga (ix2 0 i) = Ideal.ofBits .f32 0x3F000000#32 * ga (ix5 0 0 0 0 i) := by
  unfold k0_pay27
  pointwise

/-- The stored rows at an index. -/
theorem out_pay_apply (x : FVec Ideal S1024x1024 .f32) (ga : FVec Ideal S1x1024 .f32) (a : Vec Ideal S1024x2816 .bf16) (wo : Vec Ideal S1x1x2816x1024 .bf16)
    (fg : Vec Ideal S1x1024 .f32) (o : Fin 1) (r i : Fin 1024) :
    k0_pay1 x ga a wo fg (ix3 o r i)
      = Half.norm (fun p => fg (ix2 0 p)) (fun q => x (ix2 r q) + ga (ix2 0 q) * ∑ k : Fin 2816, a (ix2 r k) * wo (ix4 0 0 k q)) i := by
  unfold k0_pay1 Half.norm
  pointwise

/-- The rectangle of this load or store lies inside its block. -/
theorem inbT (k : ℕ) (hk : k ≤ 5376) : ∀ a, (![0, 0, 0, k] : Fin 4 → ℕ) a + (![1, 1, 1024, 256] : Fin 4 → ℕ) a ≤ S1x1x1024x5632.size a := by
  intro a; fin_cases a <;> simp <;> omega
/-- The rectangle of this load or store lies inside its block. -/
theorem inbC (j : Fin 11) : ∀ a, (![0, 256 * j.val] : Fin 2 → ℕ) a + (![1024, 256] : Fin 2 → ℕ) a ≤ S1024x2816.size a := by
  revert j; decide
/-- The rectangle of this load or store lies inside its block. -/
theorem inbM (j : Fin 3) : ∀ a, (![0, 0, 0, j.val, 0] : Fin 5 → ℕ) a + (![1, 1, 1, 1, 1024] : Fin 5 → ℕ) a ≤ S1x1x1x8x1024.size a := by
  revert j; decide
/-- The rectangle of this load or store lies inside its block. -/
theorem inbX : ∀ a, (![0, 0, 0] : Fin 3 → ℕ) a + (![1, 1024, 1024] : Fin 3 → ℕ) a ≤ S1x1024x1024.size a := by decide
/-- The rectangle of this load or store lies inside its block. -/
theorem inbG : ∀ a, (![0, 0, 0] : Fin 3 → ℕ) a + (![1, 1, 1024] : Fin 3 → ℕ) a ≤ S1x1x1024.size a := by decide
/-- The rectangle of this load or store lies inside its block. -/
theorem inbA : ∀ a, (![0, 0] : Fin 2 → ℕ) a + (![1024, 2816] : Fin 2 → ℕ) a ≤ S1024x2816.size a := by decide
/-- The rectangle of this load or store lies inside its block. -/
theorem inbO : ∀ a, (![0, 0, 0, 0] : Fin 4 → ℕ) a + (![1, 1, 2816, 1024] : Fin 4 → ℕ) a ≤ S1x1x2816x1024.size a := by decide

/-- The rectangle of this load or store lies inside its block. -/
theorem inbY : ∀ a, (![0, 0, 0] : Fin 3 → ℕ) a + (![1, 1024, 512] : Fin 3 → ℕ) a ≤ S1x1024x512.size a := by decide
/-- The rectangle of this load or store lies inside its block. -/
theorem inbW (j : Fin 2) : ∀ a, (![0, 512 * j.val, 0] : Fin 3 → ℕ) a + (![1, 512, 1024] : Fin 3 → ℕ) a ≤ S1x1024x1024.size a := by
  revert j; decide
/-- The rectangle of this load or store lies inside its block. -/
theorem inbF : ∀ a, (![0, 0] : Fin 2 → ℕ) a + (![1, 1024] : Fin 2 → ℕ) a ≤ S1x1024.size a := by decide

section Point

variable (c : Dev nD) (i : grid0.Coords) (arg2 : Memref sig .tc .vmem S1x1024x1024 .f32) (harg2 : arg2.IsWhole) (arg3 : Memref sig .tc .vmem S1x1x1x8x1024 .f32) (harg3 : arg3.IsWhole) (arg4 : Memref sig .tc .vmem S1x1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024 .f32) (harg7 : arg7.IsWhole) (arg8 : Memref sig .tc .vmem S1x1x1x8x1024 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x1024 .bf16) (harg11 : arg11.IsWhole) (arg12 : Memref sig .tc .vmem S1x1024x1024 .f32) (harg12 : arg12.IsWhole) (arg13 : Memref sig .tc .vmem S1024x2816 .bf16) (harg13 : arg13.IsWhole)
variable {F : FTy → Type} [FloatOps F]
variable (x0 : Vec F S1x1024x1024 .f32) (x1 : Vec F S1x1x1x8x1024 .f32) (x2 : Vec F S1x1x1024 .f32) (x3 : Vec F S1x1x1024x5632 .bf16) (x4 : Vec F S1x1x2816x1024 .bf16) (x5 : Vec F S1x1024 .f32) (x6 : Vec F S1x1x1x8x1024 .f32) (x7 : Vec F S1x1024x512 .bf16) (x8 : Vec F S1x1024x512 .bf16) (x9 : Vec F S1x1024x1024 .bf16)

/-- The point's loads: a tile of the first weight matrix, a row of the modulation, the rows, the gain, the second weight
matrix, the mixers' gain, their rows and the two halves of their weight. -/
def ldT (k : ℕ) (hk : k ≤ 5376) : Vec F S1x1x1024x256 .bf16 :=
  (View.readAt (Elt F) arg5.view (Rect.unit ![0, 0, 0, k] ![1, 1, 1024, 256] (inbT k hk)).toLoadRect (harg5.unread x3) :)
@[inherit_doc ldT] def ldM (j : Fin 3) : Vec F S1x1x1x1x1024 .f32 :=
  (View.readAt (Elt F) arg3.view (Rect.unit ![0, 0, 0, j.val, 0] ![1, 1, 1, 1, 1024] (inbM j)).toLoadRect (harg3.unread x1) :)
@[inherit_doc ldT] def ldX : Vec F S1x1024x1024 .f32 :=
  (View.readAt (Elt F) arg2.view (Rect.unit ![0, 0, 0] ![1, 1024, 1024] inbX).toLoadRect (harg2.unread x0) :)
@[inherit_doc ldT] def ldG : Vec F S1x1x1024 .f32 :=
  (View.readAt (Elt F) arg4.view (Rect.unit ![0, 0, 0] ![1, 1, 1024] inbG).toLoadRect (harg4.unread x2) :)
@[inherit_doc ldT] def ldO : Vec F S1x1x2816x1024 .bf16 :=
  (View.readAt (Elt F) arg6.view (Rect.unit ![0, 0, 0, 0] ![1, 1, 2816, 1024] inbO).toLoadRect (harg6.unread x4) :)
@[inherit_doc ldT] def ldK : Vec F S1x1x1x1x1024 .f32 :=
  (View.readAt (Elt F) arg8.view (Rect.unit ![0, 0, 0, 2, 0] ![1, 1, 1, 1, 1024] (inbM 2)).toLoadRect (harg8.unread x6) :)
@[inherit_doc ldT] def ldP : Vec F S1x1024x512 .bf16 :=
  (View.readAt (Elt F) arg9.view (Rect.unit ![0, 0, 0] ![1, 1024, 512] inbY).toLoadRect (harg9.unread x7) :)
@[inherit_doc ldT] def ldQ : Vec F S1x1024x512 .bf16 :=
  (View.readAt (Elt F) arg10.view (Rect.unit ![0, 0, 0] ![1, 1024, 512] inbY).toLoadRect (harg10.unread x8) :)
@[inherit_doc ldT] def ldW (j : Fin 2) : Vec F S1x512x1024 .bf16 :=
  (View.readAt (Elt F) arg11.view (Rect.unit ![0, 512 * j.val, 0] ![1, 512, 1024] (inbW j)).toLoadRect (harg11.unread x9) :)
@[inherit_doc ldT] def ldF : Vec F S1x1024 .f32 :=
  (View.readAt (Elt F) arg7.view (Rect.unit ![0, 0] ![1, 1024] inbF).toLoadRect (harg7.unread x5) :)

/-- The rows of the point with the mixers' projection added. -/
def mix : FVec F S1024x1024 .f32 :=
  k0_pay2 (ldP arg9 harg9 x7) (ldW arg11 harg11 x9 0) (ldQ arg10 harg10 x8) (ldW arg11 harg11 x9 1) (ldX arg2 harg2 x0) (ldK arg8 harg8 x6)

/-- The modulated rows of the point. -/
def hid : FVec F S1024x1024 .bf16 :=
  k0_pay5 (k0_pay3 (ldG arg4 harg4 x2)) (k0_pay4 (ldP arg9 harg9 x7) (ldW arg11 harg11 x9 0) (ldQ arg10 harg10 x8) (ldW arg11 harg11 x9 1) (ldX arg2 harg2 x0) (ldK arg8 harg8 x6)) (ldM arg3 harg3 x1 1) (ldM arg3 harg3 x1 0)

/-- The pieces of the gated product: one per tile of 256 columns, the last first. -/
def actPieces : List (View.Piece (Elt F) S1024x2816 .bf16) :=
  ([10, 9, 8, 7, 6, 5, 4, 3, 2, 1, 0] : List (Fin 11)).map fun j =>
    ⟨Rect.unit ![0, 256 * j.val] ![1024, 256] (inbC j),
      k0_pay7 (hid arg2 harg2 arg3 harg3 arg4 harg4 arg8 harg8 arg9 harg9 arg10 harg10 arg11 harg11 x0 x1 x2 x6 x7 x8 x9) (ldT arg5 harg5 x3 (256 * j.val) (by have := j.isLt; omega))
        (ldT arg5 harg5 x3 (2816 + 256 * j.val) (by have := j.isLt; omega))⟩

/-- The gated product as the point reads it back. -/
def ldA : Vec F S1024x2816 .bf16 :=
  (arg13.view.readCov (actPieces arg2 harg2 arg3 harg3 arg4 harg4 arg5 harg5 arg8 harg8 arg9 harg9 arg10 harg10 arg11 harg11 x0 x1 x2 x3 x6 x7 x8 x9) (Rect.unit ![0, 0] ![1024, 2816] inbA).toLoadRect :)

/-- The point's one store. -/
theorem pieces :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1
      = [⟨Rect.unit ![0, 0, 0] ![1, 1024, 1024] inbX, k0_pay1 (mix arg2 harg2 arg8 harg8 arg9 harg9 arg10 harg10 arg11 harg11 x0 x6 x7 x8 x9) (k0_pay27 (ldM arg3 harg3 x1 2))
          (ldA arg2 harg2 arg3 harg3 arg4 harg4 arg5 harg5 arg8 harg8 arg9 harg9 arg10 harg10 arg11 harg11 arg13 x0 x1 x2 x3 x6 x7 x8 x9) (ldO arg6 harg6 x4) (ldF arg7 harg7 x5)⟩] := by
  sl_kernel_rfl

end Point

section Values

variable (c : Dev nD) (i : grid0.Coords) (arg2 : Memref sig .tc .vmem S1x1024x1024 .f32) (harg2 : arg2.IsWhole) (arg3 : Memref sig .tc .vmem S1x1x1x8x1024 .f32) (harg3 : arg3.IsWhole) (arg4 : Memref sig .tc .vmem S1x1x1024 .f32) (harg4 : arg4.IsWhole) (arg5 : Memref sig .tc .vmem S1x1x1024x5632 .bf16) (harg5 : arg5.IsWhole) (arg6 : Memref sig .tc .vmem S1x1x2816x1024 .bf16) (harg6 : arg6.IsWhole) (arg7 : Memref sig .tc .vmem S1x1024 .f32) (harg7 : arg7.IsWhole) (arg8 : Memref sig .tc .vmem S1x1x1x8x1024 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x1024 .bf16) (harg11 : arg11.IsWhole) (arg12 : Memref sig .tc .vmem S1x1024x1024 .f32) (harg12 : arg12.IsWhole) (arg13 : Memref sig .tc .vmem S1024x2816 .bf16) (harg13 : arg13.IsWhole)
variable (x0 : Vec Ideal S1x1024x1024 .f32) (x1 : Vec Ideal S1x1x1x8x1024 .f32) (x2 : Vec Ideal S1x1x1024 .f32) (x3 : Vec Ideal S1x1x1024x5632 .bf16) (x4 : Vec Ideal S1x1x2816x1024 .bf16) (x5 : Vec Ideal S1x1024 .f32) (x6 : Vec Ideal S1x1x1x8x1024 .f32) (x7 : Vec Ideal S1x1024x512 .bf16) (x8 : Vec Ideal S1x1024x512 .bf16) (x9 : Vec Ideal S1x1024x1024 .bf16)

/-- The load of a tile of the first weight matrix. -/
theorem ldT_apply (k : ℕ) (hk : k ≤ 5376) (p : Fin 1024) (q : Fin 256) :
    ldT arg5 harg5 x3 k hk (ix4 0 0 p q) = x3 (ix4 0 0 p ⟨k + q.val, by have := q.isLt; omega⟩) := by
  have e : ldT arg5 harg5 x3 k hk = View.ld x3 (Rect.unit ![0, 0, 0, k] ![1, 1, 1024, 256] (inbT k hk)) :=
    (View.readAt_eq_ld ..).trans (congrArg (fun X => View.ld X _) (harg5.read_unread x3))
  rw [e]
  show x3 _ = _
  congr 1
  pointwise

/-- The load of a row of the modulation. -/
theorem ldM_apply (j : Fin 3) (p : Fin 1024) : ldM arg3 harg3 x1 j (ix5 0 0 0 0 p) = x1 (ix5 0 0 0 ⟨j.val, by have := j.isLt; omega⟩ p) := by
  have e : ldM arg3 harg3 x1 j = View.ld x1 (Rect.unit ![0, 0, 0, j.val, 0] ![1, 1, 1, 1, 1024] (inbM j)) :=
    (View.readAt_eq_ld ..).trans (congrArg (fun X => View.ld X _) (harg3.read_unread x1))
  rw [e]
  show x1 _ = _
  congr 1
  pointwise

/-- The load of the rows. -/
theorem ldX_apply (r p : Fin 1024) : ldX arg2 harg2 x0 (ix3 0 r p) = x0 (ix3 0 r p) := by
  have e : ldX arg2 harg2 x0 = View.ld x0 (Rect.unit ![0, 0, 0] ![1, 1024, 1024] inbX) :=
    (View.readAt_eq_ld ..).trans (congrArg (fun X => View.ld X _) (harg2.read_unread x0))
  rw [e]
  show x0 _ = _
  congr 1
  pointwise

/-- The load of the gain. -/
theorem ldG_apply (p : Fin 1024) : ldG arg4 harg4 x2 (ix3 0 0 p) = x2 (ix3 0 0 p) := by
  have e : ldG arg4 harg4 x2 = View.ld x2 (Rect.unit ![0, 0, 0] ![1, 1, 1024] inbG) :=
    (View.readAt_eq_ld ..).trans (congrArg (fun X => View.ld X _) (harg4.read_unread x2))
  rw [e]
  show x2 _ = _
  congr 1
  pointwise

/-- The load of the second weight matrix. -/
theorem ldO_apply (k : Fin 2816) (p : Fin 1024) : ldO arg6 harg6 x4 (ix4 0 0 k p) = x4 (ix4 0 0 k p) := by
  have e : ldO arg6 harg6 x4 = View.ld x4 (Rect.unit ![0, 0, 0, 0] ![1, 1, 2816, 1024] inbO) :=
    (View.readAt_eq_ld ..).trans (congrArg (fun X => View.ld X _) (harg6.read_unread x4))
  rw [e]
  show x4 _ = _
  congr 1
  pointwise

/-- The load of the mixers' gain. -/
theorem ldK_apply (p : Fin 1024) : ldK arg8 harg8 x6 (ix5 0 0 0 0 p) = x6 (ix5 0 0 0 2 p) := by
  have e : ldK arg8 harg8 x6 = View.ld x6 (Rect.unit ![0, 0, 0, 2, 0] ![1, 1, 1, 1, 1024] (inbM 2)) :=
    (View.readAt_eq_ld ..).trans (congrArg (fun X => View.ld X _) (harg8.read_unread x6))
  rw [e]
  show x6 _ = _
  congr 1
  pointwise

/-- The loads of the mixers' rows. -/
theorem ldP_apply (r : Fin 1024) (p : Fin 512) : ldP arg9 harg9 x7 (ix3 0 r p) = x7 (ix3 0 r p) := by
  have e : ldP arg9 harg9 x7 = View.ld x7 (Rect.unit ![0, 0, 0] ![1, 1024, 512] inbY) :=
    (View.readAt_eq_ld ..).trans (congrArg (fun X => View.ld X _) (harg9.read_unread x7))
  rw [e]
  show x7 _ = _
  congr 1
  pointwise

/-- The loads of the mixers' rows. -/
theorem ldQ_apply (r : Fin 1024) (p : Fin 512) : ldQ arg10 harg10 x8 (ix3 0 r p) = x8 (ix3 0 r p) := by
  have e : ldQ arg10 harg10 x8 = View.ld x8 (Rect.unit ![0, 0, 0] ![1, 1024, 512] inbY) :=
    (View.readAt_eq_ld ..).trans (congrArg (fun X => View.ld X _) (harg10.read_unread x8))
  rw [e]
  show x8 _ = _
  congr 1
  pointwise

/-- The load of a half of the mixers' weight. -/
theorem ldW0_apply (p : Fin 512) (q : Fin 1024) : ldW arg11 harg11 x9 0 (ix3 0 p q) = x9 (ix3 0 (Half.lo512 p) q) := by
  have e : ldW arg11 harg11 x9 0 = View.ld x9 (Rect.unit ![0, 512 * ((0 : Fin 2)).val, 0] ![1, 512, 1024] (inbW 0)) :=
    (View.readAt_eq_ld ..).trans (congrArg (fun X => View.ld X _) (harg11.read_unread x9))
  rw [e]
  show x9 _ = _
  congr 1
  pointwise

/-- The load of a half of the mixers' weight. -/
theorem ldW1_apply (p : Fin 512) (q : Fin 1024) : ldW arg11 harg11 x9 1 (ix3 0 p q) = x9 (ix3 0 (Half.hi512 p) q) := by
  have e : ldW arg11 harg11 x9 1 = View.ld x9 (Rect.unit ![0, 512 * ((1 : Fin 2)).val, 0] ![1, 512, 1024] (inbW 1)) :=
    (View.readAt_eq_ld ..).trans (congrArg (fun X => View.ld X _) (harg11.read_unread x9))
  rw [e]
  show x9 _ = _
  congr 1
  pointwise

/-- The load of the final gain. -/
theorem ldF_apply (p : Fin 1024) : ldF arg7 harg7 x5 (ix2 0 p) = x5 (ix2 0 p) := by
  have e : ldF arg7 harg7 x5 = View.ld x5 (Rect.unit ![0, 0] ![1, 1024] inbF) :=
    (View.readAt_eq_ld ..).trans (congrArg (fun X => View.ld X _) (harg7.read_unread x5))
  rw [e]
  show x5 _ = _
  congr 1
  pointwise

/-- Row `r` of the point with the mixers' projection added. -/
def mixRow (r : Fin 1024) : Fin 1024 → EReal :=
  Half.mixed (fun p => x6 (ix5 0 0 0 2 p)) (fun p => x7 (ix3 0 r p)) (fun p => x8 (ix3 0 r p)) (fun p q => x9 (ix3 0 p q)) (fun p => x0 (ix3 0 r p))

/-- The row with the mixers' projection added, at an index. -/
theorem mixRow_apply (r p : Fin 1024) : mix arg2 harg2 arg8 harg8 arg9 harg9 arg10 harg10 arg11 harg11 x0 x6 x7 x8 x9 (ix2 r p) = mixRow x0 x6 x7 x8 x9 r p := by
  unfold mix mixRow Half.mixed
  rw [mix_apply]
  simp only [ldX_apply, ldK_apply, ldP_apply, ldQ_apply, ldW0_apply, ldW1_apply]

/-- The modulated row `r` of the point. -/
def hidRow (r : Fin 1024) : Fin 1024 → EReal :=
  Half.modulated (fun p => x2 (ix3 0 0 p)) (fun p => x1 (ix5 0 0 0 1 p)) (fun p => x1 (ix5 0 0 0 0 p)) (mixRow x0 x6 x7 x8 x9 r)

/-- The modulated, normed rows at an index. -/
theorem hid_apply (r p : Fin 1024) : hid arg2 harg2 arg3 harg3 arg4 harg4 arg8 harg8 arg9 harg9 arg10 harg10 arg11 harg11 x0 x1 x2 x6 x7 x8 x9 (ix2 r p) = hidRow x0 x1 x2 x6 x7 x8 x9 r p := by
  unfold hid hidRow
  rw [mod_apply, rms_apply (R := mixRow x0 x6 x7 x8 x9 r) (hR := fun p => mixRow_apply arg2 harg2 arg8 harg8 arg9 harg9 arg10 harg10 arg11 harg11 x0 x6 x7 x8 x9 r p)]
  simp only [ldG_apply, ldM_apply]
  rfl

/-- The gated product of the point as one function of its index. -/
def actAt : Vec Ideal S1024x2816 .bf16 := fun y => Half.act (fun p k => x3 (ix4 0 0 p k)) (hidRow x0 x1 x2 x6 x7 x8 x9 (y 0)) (y 1)

/-- The tiles cover the gated product. -/
theorem act_cover (y : S1024x2816.Idx) : ∃ p ∈ actPieces arg2 harg2 arg3 harg3 arg4 harg4 arg5 harg5 arg8 harg8 arg9 harg9 arg10 harg10 arg11 harg11 x0 x1 x2 x3 x6 x7 x8 x9, y ∈ p.1.set := by
  idx_vars y
  have h0 := y0.isLt
  have h1 := y1.isLt
  have hm : ∀ j : Fin 11, j ∈ ([10, 9, 8, 7, 6, 5, 4, 3, 2, 1, 0] : List (Fin 11)) := by decide
  refine ⟨_, List.mem_map.mpr ⟨⟨y1.val / 256, by omega⟩, hm _, rfl⟩, ?_⟩
  rw [Rect.mem_set_unit]
  intro a
  fin_cases a <;> simp <;> omega

/-- Each tile holds the gated product's values. -/
theorem act_spec : ∀ p ∈ actPieces arg2 harg2 arg3 harg3 arg4 harg4 arg5 harg5 arg8 harg8 arg9 harg9 arg10 harg10 arg11 harg11 x0 x1 x2 x3 x6 x7 x8 x9, ∀ z : p.1.shape.Idx,
    p.2 z = actAt x0 x1 x2 x3 x6 x7 x8 x9 (p.1.emb z) := by
  intro p hp
  obtain ⟨j, -, rfl⟩ := List.mem_map.mp hp
  intro (z : S1024x256.Idx)
  idx_vars z
  have hj := j.isLt
  have hz := z1.isLt
  refine (tile_apply _ _ _ z0 z1).trans ?_
  simp only [hid_apply, ldT_apply]
  have e : (Rect.unit (s := S1024x2816) ![0, 256 * j.val] ![1024, 256] (inbC j)).emb (ix2 z0 z1) = ix2 z0 ⟨256 * j.val + z1.val, by omega⟩ := by
    funext a
    fin_cases a
    · apply Fin.ext; show 0 + 1 * z0.val = z0.val; omega
    · apply Fin.ext; show 256 * j.val + 1 * z1.val = _; simp
  refine Eq.trans ?_ (congrArg (actAt x0 x1 x2 x3 x6 x7 x8 x9) e).symm
  show _ = Half.act (fun p k => x3 (ix4 0 0 p k)) (hidRow x0 x1 x2 x6 x7 x8 x9 z0) ⟨256 * j.val + z1.val, by omega⟩
  unfold Half.act Half.up Half.lo
  simp only [Nat.add_assoc]

/-- The gated product read back. -/
theorem ldA_apply (r : Fin 1024) (k : Fin 2816) :
    ldA arg2 harg2 arg3 harg3 arg4 harg4 arg5 harg5 arg8 harg8 arg9 harg9 arg10 harg10 arg11 harg11 arg13 x0 x1 x2 x3 x6 x7 x8 x9 (ix2 r k)
      = Half.act (fun p k => x3 (ix4 0 0 p k)) (hidRow x0 x1 x2 x6 x7 x8 x9 r) k := by
  unfold ldA
  rw [View.readCov_eq_canon_ld _ _ _ (act_cover arg2 harg2 arg3 harg3 arg4 harg4 arg5 harg5 arg8 harg8 arg9 harg9 arg10 harg10 arg11 harg11 x0 x1 x2 x3 x6 x7 x8 x9)]
  have e : View.canon (actPieces arg2 harg2 arg3 harg3 arg4 harg4 arg5 harg5 arg8 harg8 arg9 harg9 arg10 harg10 arg11 harg11 x0 x1 x2 x3 x6 x7 x8 x9) = actAt x0 x1 x2 x3 x6 x7 x8 x9 := by
    funext y
    exact View.canon_apply_of_pieces _ _ (act_spec arg2 harg2 arg3 harg3 arg4 harg4 arg5 harg5 arg8 harg8 arg9 harg9 arg10 harg10 arg11 harg11 x0 x1 x2 x3 x6 x7 x8 x9) y
      (act_cover arg2 harg2 arg3 harg3 arg4 harg4 arg5 harg5 arg8 harg8 arg9 harg9 arg10 harg10 arg11 harg11 x0 x1 x2 x3 x6 x7 x8 x9 y)
  rw [e]
  show actAt x0 x1 x2 x3 x6 x7 x8 x9 _ = actAt x0 x1 x2 x3 x6 x7 x8 x9 (ix2 r k)
  congr 1
  pointwise

/-- The block the point stores, at an index: the half-step of its row, normed. -/
theorem out_apply (r d : Fin 1024) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix3 0 r d)
      = Half.norm (fun p => x5 (ix2 0 p)) (Half.step (fun p => x2 (ix3 0 0 p)) (fun p => x1 (ix5 0 0 0 1 p)) (fun p => x1 (ix5 0 0 0 0 p)) (fun p => x1 (ix5 0 0 0 2 p))
          (fun p k => x3 (ix4 0 0 p k)) (fun k p => x4 (ix4 0 0 k p)) (mixRow x0 x6 x7 x8 x9 r)) d := by
  have hc := cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  unfold out0_A_10
  rw [View.read_writes_eq_canon _ _ _ hc, pieces]
  rw [View.canon_unit_zero (S := S1x1024x1024) (off := ![0, 0, 0]) (by funext a; fin_cases a <;> rfl)]
  rw [out_pay_apply]
  simp only [ldA_apply, ldO_apply, gain_apply, ldM_apply, mixRow_apply, ldF_apply]
  rfl

end Values

section Run

variable (m : (ℓ : Loc nD τ sig) → Buf (Elt Ideal) ℓ)

/-- The kernel's arguments in plain index form: the rows, the modulation vectors, the gain, the two weight matrices, the
mixers' rows and their weight, the final gain. -/
abbrev xOf (c : Dev nD) (b : Fin 4) (s : Fin 4096) (p : Fin 1024) : EReal :=
  (m ((c : Thread nD τ).loc main_arg0) : Vec Ideal S4x4096x1024 .f32) (ix3 b s p)
@[inherit_doc xOf] abbrev modOf (c : Dev nD) (b : Fin 4) (j q : Fin 3) (p : Fin 1024) : EReal :=
  (m ((c : Thread nD τ).loc main_arg1) : Vec Ideal S2x4x9216 .f32) (ix3 1 b ⟨3072 * j.val + 1024 * q.val + p.val, by have := p.isLt; have := q.isLt; have := j.isLt; omega⟩)
@[inherit_doc xOf] abbrev gOf (c : Dev nD) (p : Fin 1024) : EReal :=
  (m ((c : Thread nD τ).loc main_arg2) : Vec Ideal S2x3x1024 .f32) (ix3 1 2 p)
@[inherit_doc xOf] abbrev wiOf (c : Dev nD) (p : Fin 1024) (k : Fin 5632) : EReal :=
  (m ((c : Thread nD τ).loc main_arg3) : Vec Ideal S2x2x1024x5632 .f32) (ix4 1 1 p k)
@[inherit_doc xOf] abbrev woOf (c : Dev nD) (k : Fin 2816) (p : Fin 1024) : EReal :=
  (m ((c : Thread nD τ).loc main_arg4) : Vec Ideal S2x2x2816x1024 .f32) (ix4 1 1 k p)
@[inherit_doc xOf] abbrev ygOf (c : Dev nD) (b : Fin 4) (s : Fin 4096) (p : Fin 512) : EReal :=
  (m ((c : Thread nD τ).loc main_arg6) : Vec Ideal S4x4096x512 .bf16) (ix3 b s p)
@[inherit_doc xOf] abbrev ynOf (c : Dev nD) (b : Fin 4) (s : Fin 4096) (p : Fin 512) : EReal :=
  (m ((c : Thread nD τ).loc main_arg7) : Vec Ideal S4x4096x512 .bf16) (ix3 b s p)
@[inherit_doc xOf] abbrev wmOf (c : Dev nD) (p q : Fin 1024) : EReal :=
  (m ((c : Thread nD τ).loc main_arg8) : Vec Ideal S2x1024x1024 .f32) (ix3 1 p q)
@[inherit_doc xOf] abbrev fgOf (c : Dev nD) (p : Fin 1024) : EReal :=
  (m ((c : Thread nD τ).loc main_arg5) : Vec Ideal S1024 .f32) (ix1 p)

/-- The windows' block indices over the grid. -/
theorem idx_in : ∀ t : Fin cfg0.N, win0_0.index t = ![t.val / 4, t.val % 4, 0] ∧ win0_1.index t = ![1, t.val / 4, 2, 0, 0] ∧ win0_2.index t = ![5, 0, 0]
    ∧ win0_3.index t = ![1, 1, 0, 0] ∧ win0_4.index t = ![1, 1, 0, 0] ∧ win0_5.index t = ![0, 0]
    ∧ win0_6.index t = ![1, t.val / 4, 1, 0, 0] ∧ win0_7.index t = ![t.val / 4, t.val % 4, 0] ∧ win0_8.index t = ![t.val / 4, t.val % 4, 0]
    ∧ win0_9.index t = ![1, 0, 0] ∧ win0_10.index t = ![t.val / 4, t.val % 4, 0] :=
  (by decide +kernel : ∀ t : Fin grid0.N, win0_0.index t = ![t.val / 4, t.val % 4, 0] ∧ win0_1.index t = ![1, t.val / 4, 2, 0, 0] ∧ win0_2.index t = ![5, 0, 0]
    ∧ win0_3.index t = ![1, 1, 0, 0] ∧ win0_4.index t = ![1, 1, 0, 0] ∧ win0_5.index t = ![0, 0]
    ∧ win0_6.index t = ![1, t.val / 4, 1, 0, 0] ∧ win0_7.index t = ![t.val / 4, t.val % 4, 0] ∧ win0_8.index t = ![t.val / 4, t.val % 4, 0]
    ∧ win0_9.index t = ![1, 0, 0] ∧ win0_10.index t = ![t.val / 4, t.val % 4, 0])

variable (c : Dev nD) (t : Fin cfg0.N)

/-- The number of a grid point is below the number of points. -/
theorem hN : t.val < 16 := lt_of_lt_of_eq t.isLt N_0

/-- The rows' block at point `t`. -/
theorem blk_x (r p : Fin 1024) : (iblk m c 0 t : Vec Ideal S1x1024x1024 .f32) (ix3 0 r p)
    = xOf m c ⟨t.val / 4, by have := hN t; omega⟩ ⟨1024 * (t.val % 4) + r.val, by have := r.isLt; omega⟩ p := by
  blk_ext! [iblk, V, (idx_in t).1]

/-- The modulation array the host prepares from `x`, at an index: three vectors of a sub-layer and five rows of zeros. -/
theorem pad_apply (x : Vec Ideal S2x4x9216 .f32) (h : _) (l : Fin 2) (b : Fin 4) (j q : Fin 3) (p : Fin 1024) :
    concatenate S2x4x3x8x1024 3
      [⟨S2x4x3x3x1024, shapeCast S2x4x3x3x1024 x shapeCasts_S2x4x9216_S2x4x3x3x1024⟩,
        ⟨S2x4x3x5x1024, broadcastInDim S2x4x3x5x1024 ![] bcast_S_S2x4x3x5x1024 (constant (F := Ideal) S_ FTy.f32 0#32)⟩]
      h (ix5 l b j ⟨q.val, by have := q.isLt; omega⟩ p)
      = x (ix3 l b ⟨3072 * j.val + 1024 * q.val + p.val, by have := j.isLt; have := q.isLt; have := p.isLt; omega⟩) := by
  pointwise
  exact congrArg (fun r => x (ix3 l b r)) (Fin.ext (by show j.val * 3072 + q.val * 1024 + p.val = 3072 * j.val + 1024 * q.val + p.val; omega))

/-- The prepared modulation array at an index. -/
theorem mod8_apply (l : Fin 2) (b : Fin 4) (j q : Fin 3) (p : Fin 1024) :
    (V m c main_v7 : Vec Ideal S2x4x3x8x1024 .f32) (ix5 l b j ⟨q.val, by have := q.isLt; omega⟩ p)
      = (m ((c : Thread nD τ).loc main_arg1) : Vec Ideal S2x4x9216 .f32) (ix3 l b ⟨3072 * j.val + 1024 * q.val + p.val, by have := j.isLt; have := q.isLt; have := p.isLt; omega⟩) := by
  unfold V
  entry_read
  exact pad_apply (m ((c : Thread nD τ).loc main_arg1)) _ l b j q p

/-- The modulation's block at point `t`. -/
theorem blk_mod (j : Fin 3) (p : Fin 1024) : (iblk m c 1 t : Vec Ideal S1x1x1x8x1024 .f32) (ix5 0 0 0 ⟨j.val, by have := j.isLt; omega⟩ p)
    = modOf m c ⟨t.val / 4, by have := hN t; omega⟩ 2 j p := by
  have e : (iblk m c 1 t : Vec Ideal S1x1x1x8x1024 .f32) (ix5 0 0 0 ⟨j.val, by have := j.isLt; omega⟩ p)
      = (V m c main_v7 : Vec Ideal S2x4x3x8x1024 .f32) (ix5 1 ⟨t.val / 4, by have := hN t; omega⟩ 2 ⟨j.val, by have := j.isLt; omega⟩ p) := by
    blk_ext [iblk, (idx_in t).2.1]
  rw [e, mod8_apply]

/-- The modulation's block of the mixers at point `t`. -/
theorem blk_mmod (j : Fin 3) (p : Fin 1024) : (iblk m c 6 t : Vec Ideal S1x1x1x8x1024 .f32) (ix5 0 0 0 ⟨j.val, by have := j.isLt; omega⟩ p)
    = modOf m c ⟨t.val / 4, by have := hN t; omega⟩ 1 j p := by
  have e : (iblk m c 6 t : Vec Ideal S1x1x1x8x1024 .f32) (ix5 0 0 0 ⟨j.val, by have := j.isLt; omega⟩ p)
      = (V m c main_v7 : Vec Ideal S2x4x3x8x1024 .f32) (ix5 1 ⟨t.val / 4, by have := hN t; omega⟩ 1 ⟨j.val, by have := j.isLt; omega⟩ p) := by
    blk_ext [iblk, (idx_in t).2.2.2.2.2.2.1]
  rw [e, mod8_apply]

/-- The gain's block. -/
theorem blk_g (p : Fin 1024) : (iblk m c 2 t : Vec Ideal S1x1x1024 .f32) (ix3 0 0 p) = gOf m c p := by
  blk_ext! [iblk, V, (idx_in t).2.2.1]

/-- The first weight matrix's block. -/
theorem blk_wi (p : Fin 1024) (k : Fin 5632) : (iblk m c 3 t : Vec Ideal S1x1x1024x5632 .bf16) (ix4 0 0 p k) = wiOf m c p k := by
  blk_ext! [iblk, V, (idx_in t).2.2.2.1]

/-- The second weight matrix's block. -/
theorem blk_wo (k : Fin 2816) (p : Fin 1024) : (iblk m c 4 t : Vec Ideal S1x1x2816x1024 .bf16) (ix4 0 0 k p) = woOf m c k p := by
  blk_ext! [iblk, V, (idx_in t).2.2.2.2.1]

/-- The mixers' rows' blocks. -/
theorem blk_yg (r : Fin 1024) (p : Fin 512) : (iblk m c 7 t : Vec Ideal S1x1024x512 .bf16) (ix3 0 r p) = ygOf m c ⟨t.val / 4, by have := hN t; omega⟩ ⟨1024 * (t.val % 4) + r.val, by have := r.isLt; omega⟩ p := by
  blk_ext! [iblk, V, (idx_in t).2.2.2.2.2.2.2.1]

/-- The mixers' rows' blocks. -/
theorem blk_yn (r : Fin 1024) (p : Fin 512) : (iblk m c 8 t : Vec Ideal S1x1024x512 .bf16) (ix3 0 r p) = ynOf m c ⟨t.val / 4, by have := hN t; omega⟩ ⟨1024 * (t.val % 4) + r.val, by have := r.isLt; omega⟩ p := by
  blk_ext! [iblk, V, (idx_in t).2.2.2.2.2.2.2.2.1]

/-- The mixers' weight's block. -/
theorem blk_wm (p q : Fin 1024) : (iblk m c 9 t : Vec Ideal S1x1024x1024 .bf16) (ix3 0 p q) = wmOf m c p q := by
  blk_ext! [iblk, V, (idx_in t).2.2.2.2.2.2.2.2.2.1]

/-- The final gain's block. -/
theorem blk_fg (p : Fin 1024) : (iblk m c 5 t : Vec Ideal S1x1024 .f32) (ix2 0 p) = fgOf m c p := by
  blk_ext! [iblk, V, (idx_in t).2.2.2.2.2.1]

/-- The result array as one function: the half-step of each row, normed. -/
def result (c : Dev nD) : Vec Ideal S4x4096x1024 .f32 := fun y =>
  Half.norm (fgOf m c) (Half.step (gOf m c) (modOf m c (y 0) 2 1) (modOf m c (y 0) 2 0) (modOf m c (y 0) 2 2) (wiOf m c) (woOf m c)
    (Half.mixed (modOf m c (y 0) 1 2) (ygOf m c (y 0) (y 1)) (ynOf m c (y 0) (y 1)) (wmOf m c) (xOf m c (y 0) (y 1)))) (y 2)

/-- What the launch leaves in the result array. -/
theorem arr_eq : (dats m 0 c).arrAt 10 cfg0.N = result m c := by
  refine (dats m 0 c).arrAt_eq_of_covers 10 (result m c) (by decide +kernel) fun t hf y => ?_
  blk_simp
  rw [after0_10]
  revert y
  intro (y : S1x1024x1024.Idx)
  idx_vars y
  have hy : y0 = 0 := Subsingleton.elim _ _
  subst hy
  have e0 : ∀ p : Fin 1024, (iblk m c 1 t : Vec Ideal S1x1x1x8x1024 .f32) (ix5 0 0 0 0 p) = _ := blk_mod m c t 0
  have e1 : ∀ p : Fin 1024, (iblk m c 1 t : Vec Ideal S1x1x1x8x1024 .f32) (ix5 0 0 0 1 p) = _ := blk_mod m c t 1
  have e2 : ∀ p : Fin 1024, (iblk m c 1 t : Vec Ideal S1x1x1x8x1024 .f32) (ix5 0 0 0 2 p) = _ := blk_mod m c t 2
  have e3 : ∀ p : Fin 1024, (iblk m c 6 t : Vec Ideal S1x1x1x8x1024 .f32) (ix5 0 0 0 2 p) = _ := blk_mmod m c t 2
  have e : (win0_10.blk t).view.emb (ix3 0 y1 y2)
      = ix3 (⟨t.val / 4, by have := hN t; omega⟩ : Fin 4) (⟨1024 * (t.val % 4) + y1.val, by have := y1.isLt; omega⟩ : Fin 4096) y2 := by
    blk_ext [(idx_in t).2.2.2.2.2.2.2.2.2.2]
  refine Eq.trans ?_ (congrArg (result m c) e).symm
  unfold outsAt0
  refine (out_apply _ _ _ _ _ _ _ _ _ _ _ _ _ _ _ _ _ _ _ _ _ _ _ _ _ _ _ _ _ _ _ _ _ _ _ _ y1 y2).trans ?_
  unfold mixRow
  simp only [blk_x, e0, e1, e2, e3, blk_g, blk_wi, blk_wo, blk_yg, blk_yn, blk_wm, blk_fg]
  rfl

end Run

end Cert.FinIdeal.Block
-- ==== Proof.FinRef.lean ====
module

public import proofs.«01_k».proof.Proof.Gen.FinRefIdeal.Run
public import proofs.«01_k».proof.Proof.Gen.FinRefIdeal.Read
public import proofs.«01_k».proof.Proof.HalfMath
public import Idealize.ShloMosaic.Lib.Pointwise

/-! The reference of the mixers' projection and the second half-step of layer 1 and the final norm at the extended reals, read at an index. -/

@[expose] public section

set_option maxRecDepth 16384

noncomputable section

namespace Cert.FinRefIdeal.Row

open Cert.FinRefIdeal Cert.FinRefIdeal.Gen Cert.FinRefIdeal.Read Idealize.ShloMosaic Idealize.ShloMosaic.TcCoe Idealize.SL.Sem Idealize.ShloMosaic.StableHlo

variable (x0 : Vec Ideal S4x4096x1024 .f32) (x1 : Vec Ideal S2x4x9216 .f32) (x2 : Vec Ideal S2x3x1024 .f32)
  (x3 : Vec Ideal S2x2x1024x5632 .f32) (x4 : Vec Ideal S2x2x2816x1024 .f32) (x5 : Vec Ideal S1024 .f32) (x6 x7 : Vec Ideal S4x4096x512 .bf16) (x8 : Vec Ideal S2x1024x1024 .f32)

/-- Vector `q` of sub-layer `j` of the modulation of sample `b`. -/
abbrev modR (l : Fin 2) (b : Fin 4) (j q : Fin 3) (p : Fin 1024) : EReal :=
  x1 (ix3 l b ⟨3072 * j.val + 1024 * q.val + p.val, by have := j.isLt; have := q.isLt; have := p.isLt; omega⟩)

/-- The reference's modulation at an index. -/
theorem mod_apply (b : Fin 4) (j q : Fin 3) (p : Fin 1024) : val_main_v2 (F := Ideal) x1 (ix4 b j q p) = modR x1 1 b j q p := by
  unfold val_main_v2 val_main_v1 val_main_v0
  pointwise
  exact congrArg (fun r => x1 (ix3 1 b r)) (Fin.ext (by show j.val * 3072 + q.val * 1024 + p.val = 3072 * j.val + 1024 * q.val + p.val; omega))

/-- The mixers' rows side by side. -/
theorem cat_lo (b : Fin 4) (s : Fin 4096) (p : Fin 512) : val_main_v5 (F := Ideal) x6 x7 (ix3 b s (Half.lo512 p)) = x6 (ix3 b s p) := by
  unfold val_main_v5 val_main_v4 val_main_v3
  pointwise
@[inherit_doc cat_lo] theorem cat_hi (b : Fin 4) (s : Fin 4096) (p : Fin 512) : val_main_v5 (F := Ideal) x6 x7 (ix3 b s (Half.hi512 p)) = x7 (ix3 b s p) := by
  unfold val_main_v5 val_main_v4 val_main_v3
  pointwise

/-- The mixers' projection. -/
theorem proj_apply (b : Fin 4) (s : Fin 4096) (i : Fin 1024) : val_main_v8 (F := Ideal) x6 x7 x8 (ix3 b s i)
    = (∑ p : Fin 512, x6 (ix3 b s p) * x8 (ix3 1 (Half.lo512 p) i)) + ∑ p : Fin 512, x7 (ix3 b s p) * x8 (ix3 1 (Half.hi512 p) i) := by
  have e : val_main_v8 (F := Ideal) x6 x7 x8 (ix3 b s i) = ∑ p : Fin 1024, val_main_v5 (F := Ideal) x6 x7 (ix3 b s p) * x8 (ix3 1 p i) := by
    unfold val_main_v8 val_main_v7 val_main_v6
    generalize val_main_v5 (F := Ideal) x6 x7 = X
    pointwise
  rw [e, Half.sum_halves]
  simp only [cat_lo, cat_hi]

/-- The row with the mixers' projection added. -/
theorem mix_apply (b : Fin 4) (s : Fin 4096) (i : Fin 1024) : val_main_v14 (F := Ideal) x0 x1 x6 x7 x8 (ix3 b s i)
    = Half.mixed (modR x1 1 b 1 2) (fun p => x6 (ix3 b s p)) (fun p => x7 (ix3 b s p)) (fun p q => x8 (ix3 1 p q)) (fun p => x0 (ix3 b s p)) i := by
  unfold val_main_v14 val_main_v13 val_main_v12 val_main_v11 val_main_v10 val_main_v9
  pointwise [mod_apply, proj_apply]
  unfold Half.mixed
  rfl

/-- The modulated row. -/
theorem hid_apply (b : Fin 4) (s : Fin 4096) (i : Fin 1024) : val_main_v41 (F := Ideal) x0 x1 x2 x6 x7 x8 (ix3 b s i)
    = Half.modulated (fun p => x2 (ix3 1 2 p)) (fun p => modR x1 1 b 2 1 p) (fun p => modR x1 1 b 2 0 p)
        (Half.mixed (modR x1 1 b 1 2) (fun p => x6 (ix3 b s p)) (fun p => x7 (ix3 b s p)) (fun p q => x8 (ix3 1 p q)) (fun p => x0 (ix3 b s p))) i := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_cst val_main_cst_0 val_main_cst_1 val_main_cst_2
  pointwise [mod_apply, mix_apply]
  unfold Half.modulated Half.norm
  rfl

/-- The product with the first weight matrix. -/
theorem prod_apply (b : Fin 4) (s : Fin 4096) (k : Fin 5632) : val_main_v51 (F := Ideal) x0 x1 x2 x3 x6 x7 x8 (ix3 b s k)
    = ∑ p : Fin 1024, Half.modulated (fun p => x2 (ix3 1 2 p)) (fun p => modR x1 1 b 2 1 p) (fun p => modR x1 1 b 2 0 p)
        (Half.mixed (modR x1 1 b 1 2) (fun p => x6 (ix3 b s p)) (fun p => x7 (ix3 b s p)) (fun p q => x8 (ix3 1 p q)) (fun p => x0 (ix3 b s p))) p * x3 (ix4 1 1 p k) := by
  unfold val_main_v51 val_main_v48 val_main_v47
  pointwise [hid_apply]

/-- The gated product. -/
theorem act_apply (b : Fin 4) (s : Fin 4096) (k : Fin 2816) : val_main_v55 (F := Ideal) x0 x1 x2 x3 x6 x7 x8 (ix3 b s k)
    = Half.act (fun p k => x3 (ix4 1 1 p k)) (Half.modulated (fun p => x2 (ix3 1 2 p)) (fun p => modR x1 1 b 2 1 p) (fun p => modR x1 1 b 2 0 p)
        (Half.mixed (modR x1 1 b 1 2) (fun p => x6 (ix3 b s p)) (fun p => x7 (ix3 b s p)) (fun p q => x8 (ix3 1 p q)) (fun p => x0 (ix3 b s p)))) k := by
  unfold val_main_v55 val_main_v54 val_main_call0_v5 val_main_call0_v4 val_main_call0_cst_0 val_main_call0_v3 val_main_call0_v2 val_main_call0_cst val_main_call0_v1 val_main_call0_v0 val_main_v53 val_main_v52
  pointwise [prod_apply]
  unfold Half.act Half.gate
  rfl

/-- The half-step of each row. -/
theorem step_apply (b : Fin 4) (s : Fin 4096) (i : Fin 1024) : val_main_v59 (F := Ideal) x0 x1 x2 x3 x4 x6 x7 x8 (ix3 b s i)
    = Half.step (fun p => x2 (ix3 1 2 p)) (fun p => modR x1 1 b 2 1 p) (fun p => modR x1 1 b 2 0 p) (fun p => modR x1 1 b 2 2 p)
        (fun p k => x3 (ix4 1 1 p k)) (fun k p => x4 (ix4 1 1 k p))
        (Half.mixed (modR x1 1 b 1 2) (fun p => x6 (ix3 b s p)) (fun p => x7 (ix3 b s p)) (fun p q => x8 (ix3 1 p q)) (fun p => x0 (ix3 b s p))) i := by
  unfold val_main_v59 val_main_v58 val_main_v57 val_main_v56 val_main_v50 val_main_v49 val_main_v46 val_main_v45 val_main_cst_3 val_main_v44 val_main_v43 val_main_v42
  pointwise [act_apply, mod_apply, mix_apply]
  unfold Half.step
  rfl

/-- The reference's result: the half-step of each row, normed. -/
theorem out_apply (b : Fin 4) (s : Fin 4096) (i : Fin 1024) : val_main_v72 (F := Ideal) x0 x1 x2 x3 x4 x5 x6 x7 x8 (ix3 b s i)
    = Half.norm (fun p => x5 (ix1 p)) (Half.step (fun p => x2 (ix3 1 2 p)) (fun p => modR x1 1 b 2 1 p) (fun p => modR x1 1 b 2 0 p) (fun p => modR x1 1 b 2 2 p)
        (fun p k => x3 (ix4 1 1 p k)) (fun k p => x4 (ix4 1 1 k p))
        (Half.mixed (modR x1 1 b 1 2) (fun p => x6 (ix3 b s p)) (fun p => x7 (ix3 b s p)) (fun p q => x8 (ix3 1 p q)) (fun p => x0 (ix3 b s p)))) i := by
  unfold val_main_v72 val_main_v71 val_main_v70 val_main_v69 val_main_v68 val_main_v67 val_main_v66 val_main_v65 val_main_v64 val_main_v63 val_main_v62 val_main_v61 val_main_v60 val_main_cst_4 val_main_cst_5 val_main_cst_6
  pointwise [step_apply]
  unfold Half.norm
  rfl

end Cert.FinRefIdeal.Row
-- ==== Proof.InpMath.lean ====
module

public import proofs.«01_k».proof.Proof.HalfMath

/-! The input projection of one token over the extended reals: the columns of the modulated row times the weight, and the
rotary turn of the heads. Columns and lanes are natural numbers here, so that the two programs' layouts compare by arithmetic. -/

@[expose] public section

noncomputable section

namespace Cert.Half

open Idealize.ShloMosaic

/-- A conditional whose two branches have one value has that value. -/
theorem branches {p : Prop} [Decidable p] {a : p → EReal} {b : ¬ p → EReal} {R : EReal} (h1 : ∀ h, a h = R) (h2 : ∀ h, b h = R) :
    dite p a b = R := by
  by_cases h : p
  · rw [dif_pos h]; exact h1 h
  · rw [dif_neg h]; exact h2 h

/-- Column `j` of a row `h` times a matrix `w` of `n` columns; zero past the last column. -/
def col {n : ℕ} (h : Fin 1024 → EReal) (w : Fin 1024 → Fin n → EReal) (j : ℕ) : EReal :=
  if hj : j < n then ∑ p : Fin 1024, h p * w p ⟨j, hj⟩ else 0

/-- A product column within the weights. -/
theorem col_of_lt {n : ℕ} (h : Fin 1024 → EReal) (w : Fin 1024 → Fin n → EReal) (j : ℕ) (hj : j < n) :
    col h w j = ∑ p : Fin 1024, h p * w p ⟨j, hj⟩ := dif_pos hj

/-- A product column past the weights is zero. -/
theorem col_of_ge {n : ℕ} (h : Fin 1024 → EReal) (w : Fin 1024 → Fin n → EReal) (j : ℕ) (hj : n ≤ j) :
    col h w j = 0 := dif_neg (by omega)

/-- The column of the model's weight that stands at column `j` of the kernel's; 3360, past the last, for a zero column. -/
def source (j : ℕ) : ℕ :=
  if j < 2048 then j else if j < 3328 then j + 8 else if j < 3336 then j - 1280 else if j < 3360 then j
  else if j < 3400 then 3360 else if j < 3424 then j - 64 else 3360

/-- The rotary turn of one head `t` by cosines `co` and sines `si`: the first 16 of its entries turn in pairs 8 apart, the
others stay. -/
def turn (co si t : ℕ → EReal) (d : ℕ) : EReal :=
  if d < 8 then t d * co d - t (d + 8) * si d
  else if d < 16 then t d * co (d - 8) + t (d - 8) * si (d - 8) else t d

/-- The turn of a head reads its first 64 entries only. -/
theorem turn_congr (co si t t' : ℕ → EReal) (d : ℕ) (hd : d < 64) (h : ∀ e, e < 64 → t e = t' e) :
    turn co si t d = turn co si t' d := by
  unfold turn
  split
  · rw [h d hd, h (d + 8) (by omega)]
  · split
    · rw [h d hd, h (d - 8) (by omega)]
    · exact h d hd

/-- A table over the 128 lanes of two heads: `co` at the lanes that turn, `e` at the others. -/
def lanes (e : EReal) (co : ℕ → EReal) (l : ℕ) : EReal := if l % 64 < 16 then co (l % 64 % 8) else e

/-- The turn as the kernel takes it over the 128 lanes of two heads: every lane times its cosine, and the lane eight further
or eight back, negated in the first case, times its sine. -/
theorem turn_lanes (co si T : ℕ → EReal) (l : ℕ) (hl : l < 128) :
    T l * lanes 1 co l
      + (if l % 64 < 8 then 0 - T ((l + 128 - 120) % 128) else T ((l + 128 - 8) % 128)) * lanes 0 si l
      = turn co si (fun d => T (64 * (l / 64) + d)) (l % 64) := by
  have e0 : 64 * (l / 64) + l % 64 = l := by omega
  unfold lanes turn
  by_cases h8 : l % 64 < 8
  · have h16 : l % 64 < 16 := by omega
    have e1 : (l + 128 - 120) % 128 = 64 * (l / 64) + (l % 64 + 8) := by omega
    have e2 : l % 64 % 8 = l % 64 := by omega
    rw [if_pos h16, if_pos h8, if_pos h16, if_pos h8, e1, e2, zero_sub, EReal.neg_mul, ← sub_eq_add_neg]
    simp only [e0]
  · by_cases h16 : l % 64 < 16
    · have e1 : (l + 128 - 8) % 128 = 64 * (l / 64) + (l % 64 - 8) := by omega
      have e2 : l % 64 % 8 = l % 64 - 8 := by omega
      rw [if_pos h16, if_neg h8, if_pos h16, if_neg h8, if_pos h16, e1, e2]
      simp only [e0]
    · rw [if_neg h16, if_neg h8, if_neg h16, if_neg h8, if_neg h16, mul_one, mul_zero, add_zero]
      simp only [e0]

/-- The inverse frequency of pair `d`: 500000 to the power of `-d / 8`. -/
def invFreq (d : ℕ) : EReal :=
  Ideal.pow (Ideal.ofBits .f32 0x48F42400#32)
    (-(FloatOps.sitofp (F := Ideal) .f32 (BitVec.ofNat 32 d)) * Ideal.ofBits .f32 0x3E000000#32)

/-- The cosine, and the sine, of the angle of pair `d` at position `p`. -/
def cosAt (p : BitVec 32) (d : ℕ) : EReal := Ideal.cos (FloatOps.sitofp (F := Ideal) .f32 p * invFreq d)
@[inherit_doc cosAt] def sinAt (p : BitVec 32) (d : ℕ) : EReal := Ideal.sin (FloatOps.sitofp (F := Ideal) .f32 p * invFreq d)

/-- The cosines over the lanes: one on the lanes that do not turn. -/
theorem cos_lanes (x : EReal) (f : ℕ → EReal) (l : ℕ) : Ideal.cos (x * lanes 0 f l) = lanes 1 (fun d => Ideal.cos (x * f d)) l := by
  unfold lanes
  split
  · rfl
  · rw [mul_zero]
    show ((Real.cos 0 : ℝ) : EReal) = 1
    rw [Real.cos_zero]; rfl

/-- The sines over the lanes: zero on the lanes that do not turn. -/
theorem sin_lanes (x : EReal) (f : ℕ → EReal) (l : ℕ) : Ideal.sin (x * lanes 0 f l) = lanes 0 (fun d => Ideal.sin (x * f d)) l := by
  unfold lanes
  split
  · rfl
  · rw [mul_zero]
    show ((Real.sin 0 : ℝ) : EReal) = 0
    rw [Real.sin_zero]; rfl

/-- The scale of the queries: the inverse root of 64 times the binary logarithm of e, rounded. -/
def qScale : EReal := Ideal.ofBits .f32 0x3E38AA3B#32

/-- Lane `l` of the query of head `n` from the columns `T` of the eight heads: the head's own half of the 128 lanes carries
the scaled turn, the other half is zero. -/
def queryLane (co si T : ℕ → EReal) (n l : ℕ) : EReal :=
  if l / 64 = n / 4 then turn co si (fun d => T (64 * n + d)) (l % 64) * qScale else 0

/-- Lane `l` of the two heads' turned keys from their columns `T`. -/
def keyLane (co si T : ℕ → EReal) (l : ℕ) : EReal := turn co si (fun d => T (64 * (l / 64) + d)) (l % 64)

/-- Lane `l` of the selection's key of head `n` at token `s`: the head's own half carries the turned key, the other half the
mark of the token's block of 64 tokens. -/
def markLane (co si T : ℕ → EReal) (s n l : ℕ) : EReal :=
  if l / 64 = n then keyLane co si T l else if l % 64 = s / 64 % 16 then 1 else 0

/-- The query of head `n` out of the turned tile of two heads it stands in. -/
theorem queryLane_of (co si T : ℕ → EReal) (n l : ℕ) (q : EReal)
    (h1 : l / 64 = n / 4 → q = keyLane co si (fun j => T (128 * (n / 2) + j)) (64 * (n % 2) + l % 64) * qScale)
    (h0 : ¬ l / 64 = n / 4 → q = 0) : q = queryLane co si T n l := by
  unfold queryLane
  by_cases h : l / 64 = n / 4
  · rw [if_pos h, h1 h]
    unfold keyLane
    have e1 : (64 * (n % 2) + l % 64) % 64 = l % 64 := by omega
    have e2 : ∀ d, 128 * (n / 2) + (64 * ((64 * (n % 2) + l % 64) / 64) + d) = 64 * n + d := fun d => by omega
    simp only [e1, e2]
  · rw [if_neg h, h0 h]

/-- The lanes of two heads read the first 128 entries of their columns only. -/
theorem keyLane_congr (co si T T' : ℕ → EReal) (l : ℕ) (hl : l < 128) (h : ∀ j, j < 128 → T j = T' j) :
    keyLane co si T l = keyLane co si T' l := by
  unfold keyLane
  exact turn_congr co si _ _ _ (by omega) fun e he => h _ (by omega)
@[inherit_doc keyLane_congr]
theorem markLane_congr (co si T T' : ℕ → EReal) (s n l : ℕ) (hl : l < 128) (h : ∀ j, j < 128 → T j = T' j) :
    markLane co si T s n l = markLane co si T' s n l := by
  unfold markLane
  rw [keyLane_congr co si T T' l hl h]
/-- The lanes of one of eight heads read the first 512 entries of their columns only. -/
theorem queryLane_congr (co si T T' : ℕ → EReal) (n l : ℕ) (hn : n < 8) (h : ∀ j, j < 512 → T j = T' j) :
    queryLane co si T n l = queryLane co si T' n l := by
  unfold queryLane
  rw [turn_congr co si (fun d => T (64 * n + d)) (fun d => T' (64 * n + d)) (l % 64) (by omega) fun e he => h _ (by omega)]

end Cert.Half
-- ==== Proof.InpTile.lean ====
module

public import proofs.«01_k».proof.Proof.InpMath
public import proofs.«01_k».proof.Proof.Gen.InpIdeal.Skeleton
public import Idealize.ShloMosaic.Lib.Pointwise

/-! The values the projection's kernel stores, read at one token and one lane, over any row of the modulated input, any
weight columns and any rotary tables. -/

@[expose] public section

set_option maxRecDepth 16384

noncomputable section

namespace Cert.InpIdeal.Tile

open Cert.InpIdeal Cert.InpIdeal.Gen Idealize.ShloMosaic Idealize.ShloMosaic.TcCoe Idealize.SL.Sem Cert.Half

local notation "FV" => FVec Idealize.ShloMosaic.Ideal S512x128 FTy.f32

/-! ## The masks -/

/-- The lanes whose pair stands eight further. -/
theorem first_apply (r : Fin 512) (l : Fin 128) :
    k1_pay5 (iota .tc S512x128 32 [1] iota_S512x128_d1_w32) (ix2 r l) = if l.val % 64 < 8 then 1 else 0 := by
  unfold k1_pay5
  pointwise
  revert l; decide

/-- The lanes of the first of two heads. -/
theorem low_apply (r : Fin 512) (l : Fin 128) :
    k1_pay6 (iota .tc S512x128 32 [1] iota_S512x128_d1_w32) (ix2 r l) = if l.val < 64 then 1 else 0 := by
  unfold k1_pay6
  pointwise
  revert l; decide

/-- A choice by a mask written as a condition is the conditional. -/
theorem pick {p : Prop} [Decidable p] (a b : EReal) :
    Scalar.select (if p then (1 : BitVec 1) else 0) a b = if p then a else b := by
  by_cases h : p
  · rw [if_pos h, if_pos h]; rfl
  · rw [if_neg h, if_neg h]; rfl

/-! ## The plain products -/

section products
variable (h : FVec Ideal S512x1024 .bf16) (r : Fin 512) (o : Fin 1)

/-- The body's value 7 at an index. -/
theorem pay7_apply (w : Vec Ideal S1024x512 .bf16) (l : Fin 512) :
    k1_pay7 h w (ix3 o r l) = ∑ p : Fin 1024, h (ix2 r p) * w (ix2 p l) := by
  unfold k1_pay7; pointwise
/-- The body's value 8 at an index. -/
theorem pay8_apply (w : Vec Ideal S1024x512 .bf16) (l : Fin 512) :
    k1_pay8 h w (ix3 o r l) = ∑ p : Fin 1024, h (ix2 r p) * w (ix2 p l) := by
  unfold k1_pay8; pointwise
/-- The body's value 10 at an index. -/
theorem pay10_apply (w : Vec Ideal S1024x512 .bf16) (l : Fin 512) :
    k1_pay10 (k1_pay9 h w) (ix3 o r l) = ∑ p : Fin 1024, h (ix2 r p) * w (ix2 p l) := by
  unfold k1_pay10 k1_pay9; pointwise
/-- The body's value 11 at an index. -/
theorem pay11_apply (w : Vec Ideal S1024x512 .bf16) (l : Fin 512) :
    k1_pay11 h w (ix3 o r l) = ∑ p : Fin 1024, h (ix2 r p) * w (ix2 p l) := by
  unfold k1_pay11; pointwise
/-- The body's value 13 at an index. -/
theorem pay13_apply (w : Vec Ideal S1024x128 .bf16) (l : Fin 128) :
    k1_pay13 h w (ix3 o r l) = ∑ p : Fin 1024, h (ix2 r p) * w (ix2 p l) := by
  unfold k1_pay13 k1_pay12; pointwise
/-- The body's value 14 at an index. -/
theorem pay14_apply (w : Vec Ideal S1024x128 .bf16) (l : Fin 32) :
    k1_pay14 h w (ix3 o l r) = ∑ p : Fin 1024, h (ix2 r p) * w (ix2 p ⟨l.val, by have := l.isLt; omega⟩) := by
  unfold k1_pay14 k1_pay12; pointwise
/-- The body's value 16 at an index. -/
theorem pay16_apply (w : Vec Ideal S1024x256 .bf16) (l : Fin 128) :
    k1_pay16 h w (ix2 r l) = ∑ p : Fin 1024, h (ix2 r p) * w (ix2 p ⟨l.val, by have := l.isLt; omega⟩) := by
  unfold k1_pay16 k1_pay15; pointwise
/-- The body's value 17 at an index. -/
theorem pay17_apply (w : Vec Ideal S1024x256 .bf16) (l : Fin 128) :
    k1_pay17 h w (ix2 r l) = ∑ p : Fin 1024, h (ix2 r p) * w (ix2 p ⟨128 + l.val, by have := l.isLt; omega⟩) := by
  unfold k1_pay17 k1_pay15; pointwise
/-- The body's value 19 at an index. -/
theorem pay19_apply (w : Vec Ideal S1024x256 .bf16) (l : Fin 128) :
    k1_pay19 h w (ix2 r l) = ∑ p : Fin 1024, h (ix2 r p) * w (ix2 p ⟨l.val, by have := l.isLt; omega⟩) := by
  unfold k1_pay19 k1_pay18; pointwise
/-- The body's value 20 at an index. -/
theorem pay20_apply (w : Vec Ideal S1024x256 .bf16) (l : Fin 128) :
    k1_pay20 h w (ix2 r l) = ∑ p : Fin 1024, h (ix2 r p) * w (ix2 p ⟨128 + l.val, by have := l.isLt; omega⟩) := by
  unfold k1_pay20 k1_pay18; pointwise
/-- The body's value 41 at an index. -/
theorem pay41_apply (w : Vec Ideal S1024x256 .bf16) (l : Fin 128) :
    k1_pay41 (k1_pay38 h w) (ix3 o r l) = ∑ p : Fin 1024, h (ix2 r p) * w (ix2 p ⟨128 + l.val, by have := l.isLt; omega⟩) := by
  unfold k1_pay41 k1_pay38 k1_pay37; pointwise
/-- The body's value 48 at an index. -/
theorem pay48_apply (w : Vec Ideal S1024x256 .bf16) (l : Fin 128) :
    k1_pay48 (k1_pay43 h w) (ix3 o r l) = ∑ p : Fin 1024, h (ix2 r p) * w (ix2 p ⟨128 + l.val, by have := l.isLt; omega⟩) := by
  unfold k1_pay48 k1_pay43 k1_pay42; pointwise
/-- The body's value 1 at an index. -/
theorem pay1_apply (w : Vec Ideal S1024x256 .bf16) (l : Fin 128) :
    k1_pay1 (k1_pay51 h w) (ix3 o r l) = ∑ p : Fin 1024, h (ix2 r p) * w (ix2 p ⟨128 + l.val, by have := l.isLt; omega⟩) := by
  unfold k1_pay1 k1_pay51 k1_pay49; pointwise

end products

/-! ## The turned heads -/

section turned
variable (c s : FV) (m : IVec S512x128 1) (r : Fin 512) (co si : ℕ → EReal)

/-- The tables and the mask of row `r`, lane by lane. -/
structure Tables : Prop where
  cos : ∀ l : Fin 128, c (ix2 r l) = lanes 1 co l.val
  sin : ∀ l : Fin 128, s (ix2 r l) = lanes 0 si l.val
  first : ∀ l : Fin 128, m (ix2 r l) = if l.val % 64 < 8 then 1 else 0

variable {c s m r co si} (tb : Tables c s m r co si)
include tb

/-- The kernel's turn at one lane. -/
theorem turned (T : ℕ → EReal) (t : Fin 128 → EReal) (hT : ∀ l, t l = T l.val) (l : Fin 128) :
    t l * c (ix2 r l) + Scalar.select (m (ix2 r l)) (0 - t ⟨(l.val + 128 - 120) % 128, Nat.mod_lt _ (by decide)⟩)
        (t ⟨(l.val + 128 - 8) % 128, Nat.mod_lt _ (by decide)⟩) * s (ix2 r l) = keyLane co si T l.val := by
  rw [tb.cos, tb.sin, tb.first, pick, hT, hT, hT]
  exact turn_lanes co si T l.val l.isLt

/-- The body's value 22 at an index. -/
theorem pay22_apply (T : ℕ → EReal) (t : FV) (hT : ∀ l : Fin 128, t (ix2 r l) = T l.val) (l : Fin 128) :
    k1_pay22 c s m t (dynamicRotate 1 8#32 none t rotates_S512x128_d1) (ix2 r l) = keyLane co si T l.val * qScale := by
  unfold k1_pay22; pointwise
  exact congrArg (· * qScale) (turned tb T (fun l => t (ix2 r l)) hT l)
/-- The body's value 25 at an index. -/
theorem pay25_apply (T : ℕ → EReal) (t : FV) (hT : ∀ l : Fin 128, t (ix2 r l) = T l.val) (l : Fin 128) :
    k1_pay25 c s m t (ix2 r l) = keyLane co si T l.val * qScale := by
  unfold k1_pay25; pointwise
  exact congrArg (· * qScale) (turned tb T (fun l => t (ix2 r l)) hT l)
/-- The body's value 30 at an index. -/
theorem pay30_apply (T : ℕ → EReal) (t : FV) (hT : ∀ l : Fin 128, t (ix2 r l) = T l.val) (l : Fin 128) :
    k1_pay30 c s m t (ix2 r l) = keyLane co si T l.val * qScale := by
  unfold k1_pay30; pointwise
  exact congrArg (· * qScale) (turned tb T (fun l => t (ix2 r l)) hT l)
/-- The body's value 34 at an index. -/
theorem pay34_apply (T : ℕ → EReal) (t : FV) (hT : ∀ l : Fin 128, t (ix2 r l) = T l.val) (l : Fin 128) :
    k1_pay34 c s m t (k1_pay33 t) (ix2 r l) = keyLane co si T l.val * qScale := by
  unfold k1_pay34 k1_pay33; pointwise
  exact congrArg (· * qScale) (turned tb T (fun l => t (ix2 r l)) hT l)

variable (h : FVec Ideal S512x1024 .bf16) (wt : Vec Ideal S1024x256 .bf16) (T : ℕ → EReal)
  (hT : ∀ l : Fin 128, ∑ p : Fin 1024, h (ix2 r p) * wt (ix2 p ⟨l.val, by have := l.isLt; omega⟩) = T l.val)
include hT

/-- The body's value 40 at an index. -/
theorem pay40_apply (o : Fin 1) (l : Fin 128) :
    k1_pay40 (k1_pay39 h c s m wt) (ix3 o r l) = keyLane co si T l.val := by
  unfold k1_pay40 k1_pay39 k1_pay37; pointwise
  exact turned tb T (fun l => ∑ p : Fin 1024, h (ix2 r p) * wt (ix2 p ⟨l.val, by have := l.isLt; omega⟩)) hT l
/-- The body's value 50 at an index. -/
theorem pay50_apply (o : Fin 1) (l : Fin 128) :
    k1_pay50 h c s m wt (ix3 o r l) = keyLane co si T l.val := by
  unfold k1_pay50 k1_pay49; pointwise
  exact turned tb T (fun l => ∑ p : Fin 1024, h (ix2 r p) * wt (ix2 p ⟨l.val, by have := l.isLt; omega⟩)) hT l
/-- The body's value 44 at an index. -/
theorem pay44_apply (l : Fin 128) :
    k1_pay44 h c s m wt (ix2 r l) = keyLane co si T l.val := by
  unfold k1_pay44 k1_pay42; pointwise
  exact turned tb T (fun l => ∑ p : Fin 1024, h (ix2 r p) * wt (ix2 p ⟨l.val, by have := l.isLt; omega⟩)) hT l

end turned

/-! ## The heads of the queries -/

section queries
variable {c s : FV} {m w : IVec S512x128 1} {r : Fin 512} {co si : ℕ → EReal} (tb : Tables c s m r co si)
  (hw : ∀ l : Fin 128, w (ix2 r l) = if l.val < 64 then 1 else 0) (T : ℕ → EReal) (t : FV)
include tb hw

/-- The body's value 23 at an index. -/
theorem pay23_apply (hT : ∀ l : Fin 128, t (ix2 r l) = T (128 * 0 + l.val)) (o o' : Fin 1) (l : Fin 128) :
    k1_pay23 c s m w t (dynamicRotate 1 8#32 none t rotates_S512x128_d1) (ix4 o o' r l) = queryLane co si T 0 l.val := by
  have hl := l.isLt
  unfold k1_pay23; pointwise
  rw [pay22_apply tb (fun j => T (128 * 0 + j)) t hT, hw, pick]
  refine queryLane_of co si T 0 l.val _ (fun e => ?_) fun e => ?_
  · rw [if_pos (by omega)]
    exact congrArg (fun j => keyLane co si (fun j => T (128 * 0 + j)) j * qScale) (by show l.val = _; omega)
  · rw [if_neg (by omega)]
/-- The body's value 24 at an index. -/
theorem pay24_apply (hT : ∀ l : Fin 128, t (ix2 r l) = T (128 * 0 + l.val)) (o o' : Fin 1) (l : Fin 128) :
    k1_pay24 c s m w t (dynamicRotate 1 8#32 none t rotates_S512x128_d1) (ix4 o o' r l) = queryLane co si T 1 l.val := by
  have hl := l.isLt
  unfold k1_pay24; pointwise
  rw [pay22_apply tb (fun j => T (128 * 0 + j)) t hT, hw, pick]
  refine queryLane_of co si T 1 l.val _ (fun e => ?_) fun e => ?_
  · rw [if_pos (by omega)]
    exact congrArg (fun j => keyLane co si (fun j => T (128 * 0 + j)) j * qScale) (by show (l.val + 128 - 64) % 128 = _; omega)
  · rw [if_neg (by omega)]
/-- The body's value 28 at an index. -/
theorem pay28_apply (hT : ∀ l : Fin 128, t (ix2 r l) = T (128 * 1 + l.val)) (o o' : Fin 1) (l : Fin 128) :
    k1_pay28 (k1_pay26 c s m w t) (ix4 o o' r l) = queryLane co si T 2 l.val := by
  have hl := l.isLt
  unfold k1_pay28 k1_pay26; pointwise
  rw [pay25_apply tb (fun j => T (128 * 1 + j)) t hT, hw, pick]
  refine queryLane_of co si T 2 l.val _ (fun e => ?_) fun e => ?_
  · rw [if_pos (by omega)]
    exact congrArg (fun j => keyLane co si (fun j => T (128 * 1 + j)) j * qScale) (by show l.val = _; omega)
  · rw [if_neg (by omega)]
/-- The body's value 29 at an index. -/
theorem pay29_apply (hT : ∀ l : Fin 128, t (ix2 r l) = T (128 * 1 + l.val)) (o o' : Fin 1) (l : Fin 128) :
    k1_pay29 (k1_pay27 c s m w t) (ix4 o o' r l) = queryLane co si T 3 l.val := by
  have hl := l.isLt
  unfold k1_pay29 k1_pay27; pointwise
  rw [pay25_apply tb (fun j => T (128 * 1 + j)) t hT, hw, pick]
  refine queryLane_of co si T 3 l.val _ (fun e => ?_) fun e => ?_
  · rw [if_pos (by omega)]
    exact congrArg (fun j => keyLane co si (fun j => T (128 * 1 + j)) j * qScale) (by show (l.val + 128 - 64) % 128 = _; omega)
  · rw [if_neg (by omega)]
/-- The body's value 31 at an index. -/
theorem pay31_apply (hT : ∀ l : Fin 128, t (ix2 r l) = T (128 * 2 + l.val)) (o o' : Fin 1) (l : Fin 128) :
    k1_pay31 c s m w t (ix4 o o' r l) = queryLane co si T 4 l.val := by
  have hl := l.isLt
  unfold k1_pay31; pointwise
  rw [pay30_apply tb (fun j => T (128 * 2 + j)) t hT, hw, pick]
  refine queryLane_of co si T 4 l.val _ (fun e => ?_) fun e => ?_
  · rw [if_neg (by omega)]
    exact congrArg (fun j => keyLane co si (fun j => T (128 * 2 + j)) j * qScale) (by show (l.val + 128 - 64) % 128 = _; omega)
  · rw [if_pos (by omega)]
/-- The body's value 32 at an index. -/
theorem pay32_apply (hT : ∀ l : Fin 128, t (ix2 r l) = T (128 * 2 + l.val)) (o o' : Fin 1) (l : Fin 128) :
    k1_pay32 c s m w t (ix4 o o' r l) = queryLane co si T 5 l.val := by
  have hl := l.isLt
  unfold k1_pay32; pointwise
  rw [pay30_apply tb (fun j => T (128 * 2 + j)) t hT, hw, pick]
  refine queryLane_of co si T 5 l.val _ (fun e => ?_) fun e => ?_
  · rw [if_neg (by omega)]
    exact congrArg (fun j => keyLane co si (fun j => T (128 * 2 + j)) j * qScale) (by show l.val = _; omega)
  · rw [if_pos (by omega)]
/-- The body's value 35 at an index. -/
theorem pay35_apply (hT : ∀ l : Fin 128, t (ix2 r l) = T (128 * 3 + l.val)) (o o' : Fin 1) (l : Fin 128) :
    k1_pay35 c s m w t (k1_pay33 t) (ix4 o o' r l) = queryLane co si T 6 l.val := by
  have hl := l.isLt
  unfold k1_pay35; pointwise
  rw [pay34_apply tb (fun j => T (128 * 3 + j)) t hT, hw, pick]
  refine queryLane_of co si T 6 l.val _ (fun e => ?_) fun e => ?_
  · rw [if_neg (by omega)]
    exact congrArg (fun j => keyLane co si (fun j => T (128 * 3 + j)) j * qScale) (by show (l.val + 128 - 64) % 128 = _; omega)
  · rw [if_pos (by omega)]
/-- The body's value 36 at an index. -/
theorem pay36_apply (hT : ∀ l : Fin 128, t (ix2 r l) = T (128 * 3 + l.val)) (o o' : Fin 1) (l : Fin 128) :
    k1_pay36 c s m w t (k1_pay33 t) (ix4 o o' r l) = queryLane co si T 7 l.val := by
  have hl := l.isLt
  unfold k1_pay36; pointwise
  rw [pay34_apply tb (fun j => T (128 * 3 + j)) t hT, hw, pick]
  refine queryLane_of co si T 7 l.val _ (fun e => ?_) fun e => ?_
  · rw [if_neg (by omega)]
    exact congrArg (fun j => keyLane co si (fun j => T (128 * 3 + j)) j * qScale) (by show l.val = _; omega)
  · rw [if_pos (by omega)]

end queries

/-! ## The keys of the selection -/

/-- The number of the block of 64 tokens that token `r` of tile `a` stands in, as the kernel computes it. -/
theorem block_apply (a : Fin 8) (r : Fin 512) (l : Fin 128) :
    k1_pay45 (BitVec.ofNat 32 a.val) (ix2 r l) = BitVec.ofNat 32 ((512 * a.val + r.val) / 64 % 16) := by
  unfold k1_pay45; pointwise
  clear l
  revert r; fin_cases a <;> decide +kernel

/-- A lane's number within the second of two heads, compared with a block number below 16. -/
theorem hi_mark (b : Fin 16) (l : Fin 128) : l.val < 64 ∨
    IntOp.cmpi .eq (IntOp.subi (BitVec.ofNat 32 l.val) 64#32) (BitVec.ofNat 32 b.val) = if l.val % 64 = b.val then 1 else 0 := by
  revert l b; decide +kernel
/-- The same within the first. -/
theorem lo_mark (b : Fin 16) (l : Fin 128) : ¬ l.val < 64 ∨
    IntOp.cmpi .eq (IntOp.subi (BitVec.ofNat 32 l.val) 0#32) (BitVec.ofNat 32 b.val) = if l.val % 64 = b.val then 1 else 0 := by
  revert l b; decide +kernel

section marks
variable {c s : FV} {m w : IVec S512x128 1} {r : Fin 512} {co si : ℕ → EReal} (tb : Tables c s m r co si)
  (hw : ∀ l : Fin 128, w (ix2 r l) = if l.val < 64 then 1 else 0)
  (h : FVec Ideal S512x1024 .bf16) (wt : Vec Ideal S1024x256 .bf16) (T : ℕ → EReal)
  (hT : ∀ l : Fin 128, ∑ p : Fin 1024, h (ix2 r p) * wt (ix2 p ⟨l.val, by have := l.isLt; omega⟩) = T l.val)
include tb hw hT

/-- The body's value 46 at an index. -/
theorem pay46_apply (a : Fin 8) (o o' : Fin 1) (l : Fin 128) :
    k1_pay46 (BitVec.ofNat 32 a.val) h c s (iota .tc S512x128 32 [1] iota_S512x128_d1_w32) m w wt (ix4 o o' r l)
      = markLane co si T (512 * a.val + r.val) 0 l.val := by
  have hl := l.isLt
  unfold k1_pay46; pointwise
  rw [pay44_apply tb h wt T hT, block_apply, hw, pick]
  unfold markLane
  by_cases hlo : l.val < 64
  · rw [if_pos hlo, if_pos (by omega)]
  · rw [if_neg hlo, if_neg (by omega)]
    rw [(hi_mark ⟨(512 * a.val + r.val) / 64 % 16, Nat.mod_lt _ (by decide)⟩ l).resolve_left (by omega), pick]

/-- The body's value 47 at an index. -/
theorem pay47_apply (a : Fin 8) (o o' : Fin 1) (l : Fin 128) :
    k1_pay47 (iota .tc S512x128 32 [1] iota_S512x128_d1_w32) w (k1_pay44 h c s m wt) (k1_pay45 (BitVec.ofNat 32 a.val)) (ix4 o o' r l)
      = markLane co si T (512 * a.val + r.val) 1 l.val := by
  have hl := l.isLt
  unfold k1_pay47; pointwise
  rw [pay44_apply tb h wt T hT, block_apply, hw, pick]
  unfold markLane
  by_cases hlo : l.val < 64
  · rw [if_pos hlo, if_neg (by omega)]
    rw [(lo_mark ⟨(512 * a.val + r.val) / 64 % 16, Nat.mod_lt _ (by decide)⟩ l).resolve_left (by omega), pick]
  · rw [if_neg hlo, if_pos (by omega)]

end marks

section row
variable (x : Vec Ideal S1x512x1024 .f32) (g : Vec Ideal S1x1x1024 .f32) (sc sh : Vec Ideal S1x1x1x1x1024 .f32)

/-- The body's value 2 at an index. -/
theorem pay2_apply (r : Fin 512) (p : Fin 1024) :
    k1_pay2 x g sc sh (ix2 r p) = modulated (fun i => g (ix3 0 0 i)) (fun i => sc (ix5 0 0 0 0 i)) (fun i => sh (ix5 0 0 0 0 i))
      (fun i => x (ix3 0 r i)) p := by
  unfold k1_pay2; pointwise; rfl

end row

end Cert.InpIdeal.Tile
-- ==== Proof.InpPoint.lean ====
module

public import proofs.«01_k».proof.Proof.InpTile
public import proofs.«01_k».proof.Proof.Gen.InpIdeal.Frame
public import Idealize.ShloMosaic.Lib.Claim
public import Idealize.ShloMosaic.Lib.Pointwise
public import Idealize.ShloMosaic.Lib.Pipeline.Value
public import Idealize.ShloMosaic.Lib.Pipeline.CanonAppend
public import Idealize.ShloMosaic.Lib.Pipeline.ValueKit

/-! What the projection's call stores at one grid point, in terms of the blocks it reads: columns of the modulated rows times
the weights, turned or marked. -/

@[expose] public section

set_option maxRecDepth 16384

noncomputable section

namespace Cert.InpIdeal.Point

open Cert.InpIdeal Cert.InpIdeal.Gen Cert.InpIdeal.Tile Idealize.ShloMosaic Idealize.ShloMosaic.TcCoe Idealize.SL.Sem Cert.Half

variable (i : grid1.Coords) (x0 : Vec Ideal S1x512x1024 .f32) (x1 : Vec Ideal S1x1x1x8x1024 .f32) (x2 : Vec Ideal S1x1x1024 .f32) (x3 : Vec Ideal S1024x3456 .bf16) (x4 : Vec Ideal S1x512x128 .f32) (x5 : Vec Ideal S1x512x128 .f32)

/-- The modulated row `r` of the point. -/
def hRow (r : Fin 512) : Fin 1024 → EReal :=
  modulated (fun p => x2 (ix3 0 0 p)) (fun p => x1 (ix5 0 0 0 1 p)) (fun p => x1 (ix5 0 0 0 0 p)) (fun p => x0 (ix3 0 r p))

/-- Column `j` of row `r` times the weights. -/
def column (r : Fin 512) (j : ℕ) : EReal := col (hRow x0 x1 x2 r) (fun p k => x3 (ix2 p k)) j

/-- The modulated rows as the body computes them. -/
theorem hid_apply (r : Fin 512) (p : Fin 1024) : k1_pay53 i x0 x1 x2 x3 x4 x5 (ix2 r p) = hRow x0 x1 x2 r p := by
  unfold k1_pay53 hRow
  rw [pay2_apply]
  have e0 : ∀ p : Fin 1024, View.ld x0 r1_0 (ix3 0 r p) = x0 (ix3 0 r p) := fun p => by show x0 _ = _; congr 1; pointwise
  have e1 : ∀ p : Fin 1024, View.ld x2 r1_1 (ix3 0 0 p) = x2 (ix3 0 0 p) := fun p => by show x2 _ = _; congr 1; pointwise
  have e2 : ∀ p : Fin 1024, View.ld x1 r1_2 (ix5 0 0 0 0 p) = x1 (ix5 0 0 0 1 p) := fun p => by show x1 _ = _; congr 1; pointwise
  have e3 : ∀ p : Fin 1024, View.ld x1 r1_3 (ix5 0 0 0 0 p) = x1 (ix5 0 0 0 0 p) := fun p => by show x1 _ = _; congr 1; pointwise
  simp only [e0, e1, e2, e3]

/-- The load of some columns of the weights. -/
theorem ldw_apply (off n : ℕ) (hb : ∀ a, (![0, off] : Fin 2 → ℕ) a + (![1024, n] : Fin 2 → ℕ) a ≤ S1024x3456.size a)
    (p : Fin 1024) (l : Fin n) (hl : off + l.val < 3456) :
    View.ld x3 (Rect.unit (s := S1024x3456) ![0, off] ![1024, n] hb) (ix2 p l) = x3 (ix2 p ⟨off + l.val, hl⟩) := by
  show x3 _ = _
  congr 1
  pointwise

/-- A row times a loaded column of the weights. -/
theorem sum_apply (r : Fin 512) (off n : ℕ) (hb : ∀ a, (![0, off] : Fin 2 → ℕ) a + (![1024, n] : Fin 2 → ℕ) a ≤ S1024x3456.size a)
    (l : Fin n) (j : ℕ) (hj : off + l.val = j) :
    (∑ p : Fin 1024, k1_pay53 i x0 x1 x2 x3 x4 x5 (ix2 r p) * View.ld x3 (Rect.unit (s := S1024x3456) ![0, off] ![1024, n] hb) (ix2 p l))
      = column x0 x1 x2 x3 r j := by
  have h1 : off + n ≤ 3456 := hb 1
  have hl := l.isLt
  have hlt : off + l.val < 3456 := by omega
  subst hj
  unfold column
  rw [col_of_lt _ _ _ hlt]
  simp only [hid_apply, ldw_apply x3 off n hb _ l hlt]

/-- The mask of the pairs' first lanes, and the one of the first head's. -/
theorem first_mask (r : Fin 512) (l : Fin 128) : k1_pay56 i x0 x1 x2 x3 x4 x5 (ix2 r l) = if l.val % 64 < 8 then 1 else 0 :=
  first_apply r l
@[inherit_doc first_mask]
theorem low_mask (r : Fin 512) (l : Fin 128) : k1_pay57 i x0 x1 x2 x3 x4 x5 (ix2 r l) = if l.val < 64 then 1 else 0 :=
  low_apply r l

/-- The tables the body loads. -/
theorem cos_load (r : Fin 512) (l : Fin 128) : k1_pay54 i x0 x1 x2 x3 x4 x5 (ix2 r l) = x4 (ix3 0 r l) := by
  have e : ∀ l : Fin 128, View.ld x4 r1_4 (ix3 0 r l) = x4 (ix3 0 r l) := fun l => by show x4 _ = _; congr 1; pointwise
  unfold k1_pay54 k1_pay3
  pointwise [e]
@[inherit_doc cos_load]
theorem sin_load (r : Fin 512) (l : Fin 128) : k1_pay55 i x0 x1 x2 x3 x4 x5 (ix2 r l) = x5 (ix3 0 r l) := by
  have e : ∀ l : Fin 128, View.ld x5 r1_4 (ix3 0 r l) = x5 (ix3 0 r l) := fun l => by show x5 _ = _; congr 1; pointwise
  unfold k1_pay55 k1_pay4
  pointwise [e]

/-- The rows for the recurrence, stored in three parts, as one function of the index. -/
def rows6 : Vec Ideal S1x512x1536 .f32 := fun y => column x0 x1 x2 x3 (y 1) (y 2).val

/-- Where one part stands. -/
theorem emb6 (off : ℕ) (hb : ∀ a, (![0, 0, off] : Fin 3 → ℕ) a + S1x512x512.size a ≤ S1x512x1536.size a) (o : Fin 1) (r l : Fin 512)
    (hl : off + l.val < 1536) :
    (Rect.unit (s := S1x512x1536) ![0, 0, off] S1x512x512.size hb).emb (ix3 o r l) = ix3 o r ⟨off + l.val, hl⟩ := by
  funext a
  fin_cases a
  · apply Fin.ext; show 0 + 1 * o.val = o.val; omega
  · apply Fin.ext; show 0 + 1 * r.val = r.val; omega
  · apply Fin.ext; show off + 1 * l.val = off + l.val; omega

/-- The rows for the recurrence. -/
theorem out6_apply (y : S1x512x1536.Idx) : out1_6 i x0 x1 x2 x3 x4 x5 y = rows6 x0 x1 x2 x3 y := by
  unfold out1_6
  refine View.canon_apply_of_pieces (rows6 x0 x1 x2 x3) _ ?_ y (cover1_6 _ _ _ y)
  refine List.forall_mem_cons.mpr ⟨?_, List.forall_mem_cons.mpr ⟨?_, List.forall_mem_cons.mpr ⟨?_, List.forall_mem_nil _⟩⟩⟩
  · intro (z : S1x512x512.Idx)
    idx_vars z
    have hl := z2.isLt
    refine Eq.trans ?_ (congrArg (rows6 x0 x1 x2 x3) (emb6 1024 _ z0 z1 z2 (by omega))).symm
    exact (pay10_apply _ z1 z0 _ z2).trans (sum_apply i x0 x1 x2 x3 x4 x5 z1 1024 512 _ z2 _ rfl)
  · intro (z : S1x512x512.Idx)
    idx_vars z
    have hl := z2.isLt
    refine Eq.trans ?_ (congrArg (rows6 x0 x1 x2 x3) (emb6 512 _ z0 z1 z2 (by omega))).symm
    exact (pay8_apply _ z1 z0 _ z2).trans (sum_apply i x0 x1 x2 x3 x4 x5 z1 512 512 _ z2 _ rfl)
  · intro (z : S1x512x512.Idx)
    idx_vars z
    have hl := z2.isLt
    refine Eq.trans ?_ (congrArg (rows6 x0 x1 x2 x3) (emb6 0 _ z0 z1 z2 (by omega))).symm
    exact (pay7_apply _ z1 z0 _ z2).trans (sum_apply i x0 x1 x2 x3 x4 x5 z1 0 512 _ z2 _ rfl)

/-- The gate's rows. -/
theorem out7_apply (o : Fin 1) (r : Fin 512) (l : Fin 512) :
    out1_7 i x0 x1 x2 x3 x4 x5 (ix3 o r l) = column x0 x1 x2 x3 r (1536 + l.val) := by
  unfold out1_7
  rw [View.canon_unit_zero (S := S1x512x512) (off := ![0, 0, 0]) (by funext a; fin_cases a <;> rfl)]
  exact (pay11_apply _ r o _ l).trans (sum_apply i x0 x1 x2 x3 x4 x5 r 1536 512 _ l _ rfl)

/-- The small gates. -/
theorem out8_apply (o : Fin 1) (r : Fin 512) (l : Fin 128) :
    out1_8 i x0 x1 x2 x3 x4 x5 (ix3 o r l) = column x0 x1 x2 x3 r (3328 + l.val) := by
  unfold out1_8
  rw [View.canon_unit_zero (S := S1x512x128) (off := ![0, 0, 0]) (by funext a; fin_cases a <;> rfl)]
  exact (pay13_apply _ r o _ l).trans (sum_apply i x0 x1 x2 x3 x4 x5 r 3328 128 _ l _ rfl)

/-- The small gates again, turned. -/
theorem out9_apply (o : Fin 1) (l : Fin 32) (r : Fin 512) :
    out1_9 i x0 x1 x2 x3 x4 x5 (ix3 o l r) = column x0 x1 x2 x3 r (3328 + l.val) := by
  unfold out1_9
  rw [View.canon_unit_zero (S := S1x32x512) (off := ![0, 0, 0]) (by funext a; fin_cases a <;> rfl)]
  exact (pay14_apply _ r o _ l).trans (sum_apply i x0 x1 x2 x3 x4 x5 r 3328 128 _ ⟨l.val, by have := l.isLt; omega⟩ _ rfl)

/-- The values of the compressed branch. -/
theorem out12_apply (o : Fin 1) (r : Fin 512) (l : Fin 128) :
    out1_12 i x0 x1 x2 x3 x4 x5 (ix3 o r l) = column x0 x1 x2 x3 r (2688 + l.val) := by
  unfold out1_12
  rw [View.canon_unit_zero (S := S1x512x128) (off := ![0, 0, 0]) (by funext a; fin_cases a <;> rfl)]
  exact (pay41_apply _ r o _ l).trans (sum_apply i x0 x1 x2 x3 x4 x5 r 2560 256 _ ⟨128 + l.val, by have := l.isLt; omega⟩ _ (by show 2560 + (128 + l.val) = _; omega))

/-- The values of the selected branch. -/
theorem out14_apply (o : Fin 1) (r : Fin 512) (l : Fin 128) :
    out1_14 i x0 x1 x2 x3 x4 x5 (ix3 o r l) = column x0 x1 x2 x3 r (2944 + l.val) := by
  unfold out1_14
  rw [View.canon_unit_zero (S := S1x512x128) (off := ![0, 0, 0]) (by funext a; fin_cases a <;> rfl)]
  exact (pay48_apply _ r o _ l).trans (sum_apply i x0 x1 x2 x3 x4 x5 r 2816 256 _ ⟨128 + l.val, by have := l.isLt; omega⟩ _ (by show 2816 + (128 + l.val) = _; omega))

/-- The values of the window. -/
theorem out16_apply (o : Fin 1) (r : Fin 512) (l : Fin 128) :
    out1_16 i x0 x1 x2 x3 x4 x5 (ix3 o r l) = column x0 x1 x2 x3 r (3200 + l.val) := by
  unfold out1_16
  rw [View.canon_unit_zero (S := S1x512x128) (off := ![0, 0, 0]) (by funext a; fin_cases a <;> rfl)]
  exact (pay1_apply _ r o _ l).trans (sum_apply i x0 x1 x2 x3 x4 x5 r 3072 256 _ ⟨128 + l.val, by have := l.isLt; omega⟩ _ (by show 3072 + (128 + l.val) = _; omega))

section turned

variable (co si : Fin 512 → ℕ → EReal) (hc : ∀ (r : Fin 512) (l : Fin 128), x4 (ix3 0 r l) = lanes 1 (co r) l.val)
  (hs : ∀ (r : Fin 512) (l : Fin 128), x5 (ix3 0 r l) = lanes 0 (si r) l.val)
include hc hs

/-- The tables of the point. -/
theorem tables (r : Fin 512) : Tables (k1_pay54 i x0 x1 x2 x3 x4 x5) (k1_pay55 i x0 x1 x2 x3 x4 x5) (k1_pay56 i x0 x1 x2 x3 x4 x5) r (co r) (si r) where
  cos l := (cos_load i x0 x1 x2 x3 x4 x5 r l).trans (hc r l)
  sin l := (sin_load i x0 x1 x2 x3 x4 x5 r l).trans (hs r l)
  first l := first_mask i x0 x1 x2 x3 x4 x5 r l

/-- The keys of the compressed branch. -/
theorem out11_apply (o : Fin 1) (r : Fin 512) (l : Fin 128) :
    out1_11 i x0 x1 x2 x3 x4 x5 (ix3 o r l) = keyLane (co r) (si r) (fun j => column x0 x1 x2 x3 r (2560 + j)) l.val := by
  unfold out1_11
  rw [View.canon_unit_zero (S := S1x512x128) (off := ![0, 0, 0]) (by funext a; fin_cases a <;> rfl)]
  exact pay40_apply (tables i x0 x1 x2 x3 x4 x5 co si hc hs r) _ _ (fun j => column x0 x1 x2 x3 r (2560 + j))
    (fun l => sum_apply i x0 x1 x2 x3 x4 x5 r 2560 256 _ ⟨l.val, by have := l.isLt; omega⟩ _ rfl) o l

/-- The keys of the window. -/
theorem out15_apply (o : Fin 1) (r : Fin 512) (l : Fin 128) :
    out1_15 i x0 x1 x2 x3 x4 x5 (ix3 o r l) = keyLane (co r) (si r) (fun j => column x0 x1 x2 x3 r (3072 + j)) l.val := by
  unfold out1_15
  rw [View.canon_unit_zero (S := S1x512x128) (off := ![0, 0, 0]) (by funext a; fin_cases a <;> rfl)]
  exact pay50_apply (tables i x0 x1 x2 x3 x4 x5 co si hc hs r) _ _ (fun j => column x0 x1 x2 x3 r (3072 + j))
    (fun l => sum_apply i x0 x1 x2 x3 x4 x5 r 3072 256 _ ⟨l.val, by have := l.isLt; omega⟩ _ rfl) o l

omit hc hs in
/-- Where the keys of one head stand. -/
theorem emb13 (k : Fin 2) (hb : ∀ a, (![0, k.val, 0, 0] : Fin 4 → ℕ) a + S1x1x512x128.size a ≤ S1x2x512x128.size a) (o o' : Fin 1) (r : Fin 512) (l : Fin 128) :
    (Rect.unit (s := S1x2x512x128) ![0, k.val, 0, 0] S1x1x512x128.size hb).emb (ix4 o o' r l) = ix4 o k r l := by
  funext a
  fin_cases a
  · apply Fin.ext; show 0 + 1 * o.val = o.val; omega
  · apply Fin.ext; show k.val + 1 * o'.val = k.val; omega
  · apply Fin.ext; show 0 + 1 * r.val = r.val; omega
  · apply Fin.ext; show 0 + 1 * l.val = l.val; omega

omit hc hs in
/-- Where the queries of one head stand. -/
theorem emb10 (k : Fin 8) (hb : ∀ a, (![0, k.val, 0, 0] : Fin 4 → ℕ) a + S1x1x512x128.size a ≤ S1x8x512x128.size a) (o o' : Fin 1) (r : Fin 512) (l : Fin 128) :
    (Rect.unit (s := S1x8x512x128) ![0, k.val, 0, 0] S1x1x512x128.size hb).emb (ix4 o o' r l) = ix4 o k r l := by
  funext a
  fin_cases a
  · apply Fin.ext; show 0 + 1 * o.val = o.val; omega
  · apply Fin.ext; show k.val + 1 * o'.val = k.val; omega
  · apply Fin.ext; show 0 + 1 * r.val = r.val; omega
  · apply Fin.ext; show 0 + 1 * l.val = l.val; omega

/-- The keys of the selection as one function of the index. -/
def marks : Vec Ideal S1x2x512x128 .bf16 := fun y =>
  markLane (co (y 2)) (si (y 2)) (fun j => column x0 x1 x2 x3 (y 2) (2816 + j)) (512 * (i 1).val + (y 2).val) (y 1).val (y 3).val

/-- The keys of the selection, marked by their blocks. -/
theorem out13_apply (y : S1x2x512x128.Idx) : out1_13 i x0 x1 x2 x3 x4 x5 y = marks i x0 x1 x2 x3 co si y := by
  unfold out1_13
  refine View.canon_apply_of_pieces (marks i x0 x1 x2 x3 co si) _ ?_ y (cover1_13 _ _ y)
  refine List.forall_mem_cons.mpr ⟨?_, List.forall_mem_cons.mpr ⟨?_, List.forall_mem_nil _⟩⟩
  · intro (z : S1x1x512x128.Idx)
    idx_vars z
    refine Eq.trans ?_ (congrArg (marks i x0 x1 x2 x3 co si) (emb13 1 _ z0 z1 z2 z3)).symm
    exact pay47_apply (tables i x0 x1 x2 x3 x4 x5 co si hc hs z2) (low_mask i x0 x1 x2 x3 x4 x5 z2) _ _ (fun j => column x0 x1 x2 x3 z2 (2816 + j))
      (fun l => sum_apply i x0 x1 x2 x3 x4 x5 z2 2816 256 _ ⟨l.val, by have := l.isLt; omega⟩ _ rfl) (i 1) z0 z1 z3
  · intro (z : S1x1x512x128.Idx)
    idx_vars z
    refine Eq.trans ?_ (congrArg (marks i x0 x1 x2 x3 co si) (emb13 0 _ z0 z1 z2 z3)).symm
    exact pay46_apply (tables i x0 x1 x2 x3 x4 x5 co si hc hs z2) (low_mask i x0 x1 x2 x3 x4 x5 z2) _ _ (fun j => column x0 x1 x2 x3 z2 (2816 + j))
      (fun l => sum_apply i x0 x1 x2 x3 x4 x5 z2 2816 256 _ ⟨l.val, by have := l.isLt; omega⟩ _ rfl) (i 1) z0 z1 z3

/-- The queries as one function of the index. -/
def queries : Vec Ideal S1x8x512x128 .bf16 := fun y =>
  queryLane (co (y 2)) (si (y 2)) (fun j => column x0 x1 x2 x3 (y 2) (2048 + j)) (y 1).val (y 3).val

/-- The queries, each head in the half of the lanes of its group, the other half zero. -/
theorem out10_apply (y : S1x8x512x128.Idx) : out1_10 i x0 x1 x2 x3 x4 x5 y = queries x0 x1 x2 x3 co si y := by
  unfold out1_10
  refine View.canon_apply_of_pieces (queries x0 x1 x2 x3 co si) _ ?_ y (cover1_10 _ _ _ _ _ _ _ _ y)
  have t0 : ∀ (r : Fin 512) (l : Fin 128), k1_pay58 i x0 x1 x2 x3 x4 x5 (ix2 r l) = column x0 x1 x2 x3 r (2048 + (128 * 0 + l.val)) := fun r l =>
    (pay16_apply _ r _ l).trans (sum_apply i x0 x1 x2 x3 x4 x5 r 2048 256 _ ⟨l.val, by have := l.isLt; omega⟩ _ (by show 2048 + l.val = _; omega))
  have t1 : ∀ (r : Fin 512) (l : Fin 128), k1_pay59 i x0 x1 x2 x3 x4 x5 (ix2 r l) = column x0 x1 x2 x3 r (2048 + (128 * 1 + l.val)) := fun r l =>
    (pay17_apply _ r _ l).trans (sum_apply i x0 x1 x2 x3 x4 x5 r 2048 256 _ ⟨128 + l.val, by have := l.isLt; omega⟩ _ (by show 2048 + (128 + l.val) = _; omega))
  have t2 : ∀ (r : Fin 512) (l : Fin 128), k1_pay60 i x0 x1 x2 x3 x4 x5 (ix2 r l) = column x0 x1 x2 x3 r (2048 + (128 * 2 + l.val)) := fun r l =>
    (pay19_apply _ r _ l).trans (sum_apply i x0 x1 x2 x3 x4 x5 r 2304 256 _ ⟨l.val, by have := l.isLt; omega⟩ _ (by show 2304 + l.val = _; omega))
  have t3 : ∀ (r : Fin 512) (l : Fin 128), k1_pay61 i x0 x1 x2 x3 x4 x5 (ix2 r l) = column x0 x1 x2 x3 r (2048 + (128 * 3 + l.val)) := fun r l =>
    (pay20_apply _ r _ l).trans (sum_apply i x0 x1 x2 x3 x4 x5 r 2304 256 _ ⟨128 + l.val, by have := l.isLt; omega⟩ _ (by show 2304 + (128 + l.val) = _; omega))
  refine List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_, List.forall_mem_nil _⟩⟩⟩⟩⟩⟩⟩⟩
  · intro (z : S1x1x512x128.Idx)
    idx_vars z
    refine Eq.trans ?_ (congrArg (queries x0 x1 x2 x3 co si) (emb10 7 _ z0 z1 z2 z3)).symm
    exact pay36_apply (tables i x0 x1 x2 x3 x4 x5 co si hc hs z2) (low_mask i x0 x1 x2 x3 x4 x5 z2) (fun j => column x0 x1 x2 x3 z2 (2048 + j)) _ (t3 z2) z0 z1 z3
  · intro (z : S1x1x512x128.Idx)
    idx_vars z
    refine Eq.trans ?_ (congrArg (queries x0 x1 x2 x3 co si) (emb10 6 _ z0 z1 z2 z3)).symm
    exact pay35_apply (tables i x0 x1 x2 x3 x4 x5 co si hc hs z2) (low_mask i x0 x1 x2 x3 x4 x5 z2) (fun j => column x0 x1 x2 x3 z2 (2048 + j)) _ (t3 z2) z0 z1 z3
  · intro (z : S1x1x512x128.Idx)
    idx_vars z
    refine Eq.trans ?_ (congrArg (queries x0 x1 x2 x3 co si) (emb10 5 _ z0 z1 z2 z3)).symm
    exact pay32_apply (tables i x0 x1 x2 x3 x4 x5 co si hc hs z2) (low_mask i x0 x1 x2 x3 x4 x5 z2) (fun j => column x0 x1 x2 x3 z2 (2048 + j)) _ (t2 z2) z0 z1 z3
  · intro (z : S1x1x512x128.Idx)
    idx_vars z
    refine Eq.trans ?_ (congrArg (queries x0 x1 x2 x3 co si) (emb10 4 _ z0 z1 z2 z3)).symm
    exact pay31_apply (tables i x0 x1 x2 x3 x4 x5 co si hc hs z2) (low_mask i x0 x1 x2 x3 x4 x5 z2) (fun j => column x0 x1 x2 x3 z2 (2048 + j)) _ (t2 z2) z0 z1 z3
  · intro (z : S1x1x512x128.Idx)
    idx_vars z
    refine Eq.trans ?_ (congrArg (queries x0 x1 x2 x3 co si) (emb10 3 _ z0 z1 z2 z3)).symm
    exact pay29_apply (tables i x0 x1 x2 x3 x4 x5 co si hc hs z2) (low_mask i x0 x1 x2 x3 x4 x5 z2) (fun j => column x0 x1 x2 x3 z2 (2048 + j)) _ (t1 z2) z0 z1 z3
  · intro (z : S1x1x512x128.Idx)
    idx_vars z
    refine Eq.trans ?_ (congrArg (queries x0 x1 x2 x3 co si) (emb10 2 _ z0 z1 z2 z3)).symm
    exact pay28_apply (tables i x0 x1 x2 x3 x4 x5 co si hc hs z2) (low_mask i x0 x1 x2 x3 x4 x5 z2) (fun j => column x0 x1 x2 x3 z2 (2048 + j)) _ (t1 z2) z0 z1 z3
  · intro (z : S1x1x512x128.Idx)
    idx_vars z
    refine Eq.trans ?_ (congrArg (queries x0 x1 x2 x3 co si) (emb10 1 _ z0 z1 z2 z3)).symm
    exact pay24_apply (tables i x0 x1 x2 x3 x4 x5 co si hc hs z2) (low_mask i x0 x1 x2 x3 x4 x5 z2) (fun j => column x0 x1 x2 x3 z2 (2048 + j)) _ (t0 z2) z0 z1 z3
  · intro (z : S1x1x512x128.Idx)
    idx_vars z
    refine Eq.trans ?_ (congrArg (queries x0 x1 x2 x3 co si) (emb10 0 _ z0 z1 z2 z3)).symm
    exact pay23_apply (tables i x0 x1 x2 x3 x4 x5 co si hc hs z2) (low_mask i x0 x1 x2 x3 x4 x5 z2) (fun j => column x0 x1 x2 x3 z2 (2048 + j)) _ (t0 z2) z0 z1 z3

end turned

end Cert.InpIdeal.Point
-- ==== Proof.InpRope.lean ====
module

public import proofs.«01_k».proof.Proof.InpMath
public import proofs.«01_k».proof.Proof.Gen.InpIdeal.Frame
public import Idealize.ShloMosaic.Lib.Claim
public import Idealize.ShloMosaic.Lib.Pointwise
public import Idealize.ShloMosaic.Lib.Pipeline.Value
public import Idealize.ShloMosaic.Lib.Pipeline.CanonAppend
public import Idealize.ShloMosaic.Lib.Pipeline.ValueKit

/-! The rotary tables: the positions and inverse frequencies the host prepares, and the two arrays the first call leaves. -/

@[expose] public section

set_option maxRecDepth 16384

noncomputable section

namespace Cert.InpIdeal.Rope

open Cert.InpIdeal Cert.InpIdeal.Gen Idealize.ShloMosaic Idealize.ShloMosaic.TcCoe Idealize.SL.Sem Cert.Half

/-! ## The gather of the frequencies -/

/-- The gather of a list of eight at 128 places: the entry at the place, read signed and clamped. -/
theorem gather_read (x : Vec Ideal S8 .f32) (i : IVec S128x1 32) (l : Fin 128) :
    Host.gather gather_S8_S128x1_S128_n_0_n_n_0_1_1 x i (ix1 l) = x (ix1 ⟨min (i (ix2 l 0)).toInt.toNat 7, by omega⟩) := by
  unfold Host.gather
  congr 1
  funext a
  obtain rfl : a = 0 := Subsingleton.elim _ _
  refine Fin.ext ?_
  generalize hG : gather_S8_S128x1_S128_n_0_n_n_0_1_1 = G
  have hm : G.startIndexMap = [0] := by rw [← hG]; rfl
  show G.start (ix1 l) i 0 + G.batchCoord (ix1 l) 0 + G.offCoord (ix1 l) 0 = _
  rw [GatherDims.batchCoord_eq_zero _ _ _ (by rw [← hG]; exact List.not_mem_nil),
    GatherDims.offCoord_eq_zero _ _ _ (fun h => ((GatherDims.mem_sKept _ _).mp h).1 (by rw [← hG]; exact List.mem_singleton.mpr rfl))]
  simp only [Nat.add_zero]
  subst hG
  unfold GatherDims.start
  rw [dif_pos (show (0 : Fin 1) ∈ gather_S8_S128x1_S128_n_0_n_n_0_1_1.startIndexMap from List.mem_singleton.mpr rfl)]
  have hsi : gather_S8_S128x1_S128_n_0_n_n_0_1_1.siIdx (ix1 l) ⟨List.idxOf (0 : Fin 1) gather_S8_S128x1_S128_n_0_n_n_0_1_1.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  rfl

/-- The inverse frequencies, at a pair. -/
theorem freq_read (d : Fin 8) : (Host.powf (broadcastInDim S8 ![] bcast_S_S8 (constant (F := Ideal) S_ .f32 0x48F42400#32))
    (mulf (Host.negf (sitofp (F := Ideal) .f32 (iotaInDim S8 32 0))) (broadcastInDim S8 ![] bcast_S_S8 (constant (F := Ideal) S_ .f32 0x3E000000#32))))
    (ix1 d) = invFreq d.val := by
  pointwise
  rfl

/-- The place in the list of frequencies each lane reads. -/
theorem place_read (l : Fin 128) :
    (broadcastInDim S128x1 ![0] bcast_S128_S128x1_0
        (select (constantI S128 1 0#1)
          (addi (fun i => lit1 (S128.rowMajor i)) (broadcastInDim S128 ![] bcast_S_S128 (constantI S_ 32 8#32)))
          fun i => lit1 (S128.rowMajor i)) : IVec S128x1 32) (ix2 l 0) = BitVec.ofNat 32 (l.val % 64 % 8) := by
  pointwise
  have h : ∀ l : Fin 128, lit1 (S128.rowMajor (ix1 l)) = BitVec.ofNat 32 (l.val % 64 % 8) := by decide +kernel
  exact h l

/-- The lanes that turn. -/
theorem mask_read (l : Fin 128) : lit0 (S128.rowMajor (ix1 l)) = if l.val % 64 < 16 then 1 else 0 := by
  revert l; decide +kernel

section reads
variable (σ : Valuation τ sig (Elt Ideal))

/-- What the host code leaves in the array 14. -/
theorem read_14 : (StableHlo.after hostOps0_2 σ (Proc.devRef .tc main_v14) : Vec Ideal S4x4096x1 .f32)
    = shapeCast S4x4096x1 (sitofp (F := Ideal) .f32 (σ (Proc.devRef .tc main_arg4) : IVec S4x4096 32)) shapeCasts_S4x4096_S4x4096x1 := by
  entry_read
  try rfl
/-- What the host code leaves in the array 12. -/
theorem read_12 : (StableHlo.after hostOps0_2 σ (Proc.devRef .tc main_v12) : Vec Ideal S1x128 .f32)
    = shapeCast S1x128 (σ (Proc.devRef .tc main_v11) : Vec Ideal S128 .f32) shapeCasts_S128_S1x128 := by
  entry_read
  try rfl
/-- What the host code leaves in the array 11. -/
theorem read_11 : (StableHlo.after hostOps0_1 σ (Proc.devRef .tc main_v11) : Vec Ideal S128 .f32)
    = select (σ (Proc.devRef .tc main_c) : IVec S128 1) (σ (Proc.devRef .tc main_v10) : Vec Ideal S128 .f32)
        (broadcastInDim S128 ![] bcast_S_S128 (σ (Proc.devRef .tc main_cst_4) : Vec Ideal S_ .f32)) := by
  entry_read
  try rfl
/-- What the host code leaves in the array 10. -/
theorem read_10 : (StableHlo.after hostOps0 σ (Proc.devRef .tc main_v10) : Vec Ideal S128 .f32)
    = Host.gather gather_S8_S128x1_S128_n_0_n_n_0_1_1
      (Host.powf (broadcastInDim S8 ![] bcast_S_S8 (constant (F := Ideal) S_ FTy.f32 1223959552#32))
        (mulf (Host.negf (sitofp (F := Ideal) FTy.f32 (iotaInDim S8 32 0)))
          (broadcastInDim S8 ![] bcast_S_S8 (constant (F := Ideal) S_ FTy.f32 1040187392#32))))
      (broadcastInDim S128x1 ![0] bcast_S128_S128x1_0
        (select (constantI S128 1 0#1)
          (addi (fun i => lit1 (S128.rowMajor i)) (broadcastInDim S128 ![] bcast_S_S128 (constantI S_ 32 8#32)))
          fun i => lit1 (S128.rowMajor i))) := by
  entry_read
  try rfl
/-- What the host code leaves in the array c. -/
theorem read_c : (StableHlo.after hostOps0 σ (Proc.devRef .tc main_c) : IVec S128 1) = fun i => lit0 (S128.rowMajor i) := by
  entry_read
  try rfl
/-- What the host code leaves in the array cst. -/
theorem read_cst : (StableHlo.after hostOps0 σ (Proc.devRef .tc main_cst_4) : Vec Ideal S_ .f32) = constant (F := Ideal) S_ .f32 0x00000000#32 := by
  entry_read
  try rfl

end reads

/-! ## The tables -/

variable (m : (ℓ : Loc nD τ sig) → Buf (Elt Ideal) ℓ) (ρ : Dev nD → PrngReg) (c : Dev nD)

/-- The position of a token. -/
abbrev posOf (b : Fin 4) (s : Fin 4096) : BitVec 32 := (m ((c : Thread nD τ).loc main_arg4) : IVec S4x4096 32) (ix2 b s)

/-- The positions the first call reads. -/
theorem pos_apply (b : Fin 4) (s : Fin 4096) :
    (V3 m ρ c main_v14 : Vec Ideal S4x4096x1 .f32) (ix3 b s 0) = FloatOps.sitofp (F := Ideal) .f32 (posOf m c b s) := by
  have e : (W2 m ρ c (Proc.devRef .tc main_arg4) : IVec S4x4096 32) = m ((c : Thread nD τ).loc main_arg4) :=
    W2_args m ρ c main_arg4 (by decide)
  refine (congrFun (read_14 (W2 m ρ c)) (ix3 b s 0)).trans ?_
  rw [e]
  unfold posOf
  generalize (m ((c : Thread nD τ).loc main_arg4) : IVec S4x4096 32) = x
  pointwise

/-- The frequencies the first call reads: the pair's at the lanes that turn, zero at the others. -/
theorem freq_apply (l : Fin 128) : (V3 m ρ c main_v12 : Vec Ideal S1x128 .f32) (ix2 0 l) = lanes 0 invFreq l.val := by
  refine (congrFun (read_12 (W2 m ρ c)) (ix2 0 l)).trans ?_
  have e11 := read_11 (W1 m ρ c)
  have e10 := read_10 (W0 m ρ c)
  have ec := read_c (W0 m ρ c)
  have e4 := read_cst (W0 m ρ c)
  generalize hX : (Host.gather gather_S8_S128x1_S128_n_0_n_n_0_1_1 _ _ : Vec Ideal S128 .f32) = X at e10
  have hx : X (ix1 l) = invFreq (l.val % 64 % 8) := by
    subst hX
    rw [gather_read]
    have e : (⟨min (BitVec.ofNat 32 (l.val % 64 % 8)).toInt.toNat 7, by omega⟩ : Fin 8) = ⟨l.val % 64 % 8, by omega⟩ := by
      apply Fin.ext
      show min (BitVec.ofNat 32 (l.val % 64 % 8)).toInt.toNat 7 = l.val % 64 % 8
      revert l; decide +kernel
    rw [show _ = _ from congrArg (fun v : BitVec 32 => (⟨min v.toInt.toNat 7, by omega⟩ : Fin 8)) (place_read l), e]
    exact freq_read _
  have e : (W2 m ρ c (Proc.devRef .tc main_v11) : Vec Ideal S128 .f32) = select (fun i => lit0 (S128.rowMajor i)) X
      (broadcastInDim S128 ![] bcast_S_S128 (constant (F := Ideal) S_ .f32 0x00000000#32)) := by
    refine e11.trans ?_
    rw [← e10, ← e4, ← ec]
  rw [e]
  pointwise
  rw [hx, mask_read]
  unfold lanes
  by_cases h : l.val % 64 < 16
  · rw [if_pos h, if_pos h]; rfl
  · rw [if_neg h, if_neg h]; rfl

/-- The windows' block indices over the grid. -/
theorem idx_in : ∀ t : Fin cfg0.N, win0_0.index t = ![t.val / 4, t.val % 4, 0] ∧ win0_1.index t = ![0, 0]
    ∧ win0_2.index t = ![t.val / 4, t.val % 4, 0] ∧ win0_3.index t = ![t.val / 4, t.val % 4, 0] :=
  (by decide +kernel : ∀ t : Fin grid0.N, win0_0.index t = ![t.val / 4, t.val % 4, 0] ∧ win0_1.index t = ![0, 0]
    ∧ win0_2.index t = ![t.val / 4, t.val % 4, 0] ∧ win0_3.index t = ![t.val / 4, t.val % 4, 0])

/-- The first call has 16 grid points. -/
theorem hN (t : Fin cfg0.N) : t.val < 16 := lt_of_lt_of_eq t.isLt N_0

/-- The positions' block. -/
theorem blk_pos (t : Fin cfg0.N) (r : Fin 1024) : (iblk0 (V3 m ρ) c 0 t : Vec Ideal S1x1024x1 .f32) (ix3 0 r 0)
    = FloatOps.sitofp (F := Ideal) .f32 (posOf m c ⟨t.val / 4, by have := hN t; omega⟩ ⟨1024 * (t.val % 4) + r.val, by have := r.isLt; omega⟩) := by
  rw [← pos_apply m ρ c]
  generalize V3 m ρ = V
  blk_ext [iblk0, (idx_in t).1]

/-- The frequencies' block. -/
theorem blk_freq (t : Fin cfg0.N) (l : Fin 128) : (iblk0 (V3 m ρ) c 1 t : Vec Ideal S1x128 .f32) (ix2 0 l) = lanes 0 invFreq l.val := by
  rw [← freq_apply m ρ c]
  generalize V3 m ρ = V
  blk_ext [iblk0, (idx_in t).2.1]

/-- The blocks the first call stores. -/
theorem out2_apply (x0 : Vec Ideal S1x1024x1 .f32) (x1 : Vec Ideal S1x128 .f32) (o : Fin 1) (r : Fin 1024) (l : Fin 128) :
    out0_2 x0 x1 (ix3 o r l) = Ideal.cos (x0 (ix3 0 r 0) * x1 (ix2 0 l)) := by
  unfold out0_2 r0_2
  rw [View.canon_unit_zero (S := S1x1024x128) (off := ![0, 0, 0]) (by funext a; fin_cases a <;> rfl)]
  have e0 : ∀ r : Fin 1024, View.ld x0 r0_0 (ix3 0 r 0) = x0 (ix3 0 r 0) := fun r => by show x0 _ = _; congr 1; pointwise
  have e1 : ∀ l : Fin 128, View.ld x1 r0_1 (ix2 0 l) = x1 (ix2 0 l) := fun l => by show x1 _ = _; congr 1; pointwise
  unfold k0_pay2 k0_pay1
  pointwise [e0, e1]
@[inherit_doc out2_apply]
theorem out3_apply (x0 : Vec Ideal S1x1024x1 .f32) (x1 : Vec Ideal S1x128 .f32) (o : Fin 1) (r : Fin 1024) (l : Fin 128) :
    out0_3 x0 x1 (ix3 o r l) = Ideal.sin (x0 (ix3 0 r 0) * x1 (ix2 0 l)) := by
  unfold out0_3 r0_2
  rw [View.canon_unit_zero (S := S1x1024x128) (off := ![0, 0, 0]) (by funext a; fin_cases a <;> rfl)]
  have e0 : ∀ r : Fin 1024, View.ld x0 r0_0 (ix3 0 r 0) = x0 (ix3 0 r 0) := fun r => by show x0 _ = _; congr 1; pointwise
  have e1 : ∀ l : Fin 128, View.ld x1 r0_1 (ix2 0 l) = x1 (ix2 0 l) := fun l => by show x1 _ = _; congr 1; pointwise
  unfold k0_pay3 k0_pay1
  pointwise [e0, e1]

/-- The two tables as functions of their index. -/
def cosTab : Vec Ideal S4x4096x128 .f32 := fun y => lanes 1 (cosAt (posOf m c (y 0) (y 1))) (y 2).val
@[inherit_doc cosTab] def sinTab : Vec Ideal S4x4096x128 .f32 := fun y => lanes 0 (sinAt (posOf m c (y 0) (y 1))) (y 2).val

/-- What the first call leaves in the cosines' array. -/
theorem cos_eq : (dat0 (V3 m ρ) c).arrAt 2 cfg0.N = cosTab m c := by
  refine (dat0 (V3 m ρ) c).arrAt_eq_of_covers 2 (cosTab m c) (by decide +kernel) fun t hf y => ?_
  blk_simp
  rw [after0_2]
  revert y
  intro (y : S1x1024x128.Idx)
  idx_vars y
  have hy : y0 = 0 := Subsingleton.elim _ _
  subst hy
  have e : (win0_2.blk t).view.emb (ix3 0 y1 y2)
      = ix3 (⟨t.val / 4, by have := hN t; omega⟩ : Fin 4) (⟨1024 * (t.val % 4) + y1.val, by have := y1.isLt; omega⟩ : Fin 4096) y2 := by
    blk_ext [(idx_in t).2.2.1]
  refine Eq.trans ?_ (congrArg (cosTab m c) e).symm
  refine (out2_apply _ _ 0 y1 y2).trans ?_
  rw [blk_pos, blk_freq, cos_lanes]
  rfl
@[inherit_doc cos_eq]
theorem sin_eq : (dat0 (V3 m ρ) c).arrAt 3 cfg0.N = sinTab m c := by
  refine (dat0 (V3 m ρ) c).arrAt_eq_of_covers 3 (sinTab m c) (by decide +kernel) fun t hf y => ?_
  blk_simp
  rw [after0_3]
  revert y
  intro (y : S1x1024x128.Idx)
  idx_vars y
  have hy : y0 = 0 := Subsingleton.elim _ _
  subst hy
  have e : (win0_3.blk t).view.emb (ix3 0 y1 y2)
      = ix3 (⟨t.val / 4, by have := hN t; omega⟩ : Fin 4) (⟨1024 * (t.val % 4) + y1.val, by have := y1.isLt; omega⟩ : Fin 4096) y2 := by
    blk_ext [(idx_in t).2.2.2]
  refine Eq.trans ?_ (congrArg (sinTab m c) e).symm
  refine (out3_apply _ _ 0 y1 y2).trans ?_
  rw [blk_pos, blk_freq, sin_lanes]
  rfl

/-- The tables as the second call reads them. -/
theorem cos_entry : (V5 m ρ c main_v15_0 : Vec Ideal S4x4096x128 .f32) = cosTab m c :=
  (W5_of m ρ c main_v15_0 (by decide)).trans ((W4_arr m ρ c 2).trans (cos_eq m ρ c))
@[inherit_doc cos_entry] theorem sin_entry : (V5 m ρ c main_v15_1 : Vec Ideal S4x4096x128 .f32) = sinTab m c :=
  (W5_of m ρ c main_v15_1 (by decide)).trans ((W4_arr m ρ c 3).trans (sin_eq m ρ c))

end Cert.InpIdeal.Rope
-- ==== Proof.InpWeights.lean ====
module

public import proofs.«01_k».proof.Proof.InpTile
public import proofs.«01_k».proof.Proof.Gen.InpIdeal.Frame
public import Idealize.ShloMosaic.Lib.Claim

/-! The arrays the host prepares for the projection's kernel: the weight with its columns sorted and cast, read column by
column. -/

@[expose] public section

set_option maxRecDepth 16384

noncomputable section

namespace Cert.InpIdeal.Weights

open Cert.InpIdeal Cert.InpIdeal.Gen Idealize.ShloMosaic Idealize.ShloMosaic.TcCoe Idealize.SL.Sem Cert.Half

/-- The 32 columns of the gates: four, four and twenty-four columns of the weight. -/
def small (x : Vec Ideal S1024x3360 .f32) : Vec Ideal S1024x32 .f32 :=
  concatenate S1024x32 1 [⟨S1024x4, extractStridedSlice S1024x4 ![0, 2048] x slices_S1024x3360_S1024x4_0_2048⟩, ⟨S1024x4, extractStridedSlice S1024x4 ![0, 2052] x slices_S1024x3360_S1024x4_0_2052⟩, ⟨S1024x24, extractStridedSlice S1024x24 ![0, 3336] x slices_S1024x3360_S1024x24_0_3336⟩]
    concatenates_S1024x4_S1024x4_S1024x24_S1024x32_d1

/-- The weight as the kernel reads it: its columns sorted by result, zero columns between. -/
def sorted (x : Vec Ideal S1024x3360 .f32) : Vec Ideal S1024x3456 .bf16 :=
  truncf .bf16 (concatenate S1024x3456 1 [⟨S1024x1536, extractStridedSlice S1024x1536 ![0, 0] x slices_S1024x3360_S1024x1536_0_0⟩, ⟨S1024x512, extractStridedSlice S1024x512 ![0, 1536] x slices_S1024x3360_S1024x512_0_1536⟩, ⟨S1024x512, extractStridedSlice S1024x512 ![0, 2056] x slices_S1024x3360_S1024x512_0_2056⟩, ⟨S1024x128, extractStridedSlice S1024x128 ![0, 2568] x slices_S1024x3360_S1024x128_0_2568⟩, ⟨S1024x128, extractStridedSlice S1024x128 ![0, 2696] x slices_S1024x3360_S1024x128_0_2696⟩, ⟨S1024x128, extractStridedSlice S1024x128 ![0, 2824] x slices_S1024x3360_S1024x128_0_2824⟩, ⟨S1024x128, extractStridedSlice S1024x128 ![0, 2952] x slices_S1024x3360_S1024x128_0_2952⟩, ⟨S1024x128, extractStridedSlice S1024x128 ![0, 3080] x slices_S1024x3360_S1024x128_0_3080⟩, ⟨S1024x128, extractStridedSlice S1024x128 ![0, 3208] x slices_S1024x3360_S1024x128_0_3208⟩, ⟨S1024x32, small x⟩,
    ⟨S1024x40, broadcastInDim S1024x40 ![] bcast_S_S1024x40 (constant (F := Ideal) S_ .f32 0x00000000#32)⟩, ⟨S1024x24, extractStridedSlice S1024x24 ![0, 3336] x slices_S1024x3360_S1024x24_0_3336⟩,
    ⟨S1024x32, broadcastInDim S1024x32 ![] bcast_S_S1024x32 (constant (F := Ideal) S_ .f32 0x00000000#32)⟩]
    concatenates_S1024x1536_S1024x512_S1024x512_S1024x128_S1024x128_S1024x128_S1024x128_S1024x128_S1024x128_S1024x32_S1024x40_S1024x24_S1024x32_S1024x3456_d1)
    bitsLt_bf16_f32

/-- A column of the gates' 32. -/
theorem small_apply (x : Vec Ideal S1024x3360 .f32) (p : Fin 1024) (j : Fin 32) :
    small x (ix2 p j) = x (ix2 p ⟨source (3328 + j.val), by have := j.isLt; unfold source; split_ifs <;> omega⟩) := by
  have hj := j.isLt
  have e : ∀ (k : ℕ) (hk : k < 3360), source (3328 + j.val) = k → x (ix2 p ⟨k, hk⟩)
      = x (ix2 p ⟨source (3328 + j.val), by have := j.isLt; unfold source; split_ifs <;> omega⟩) := by
    rintro k hk rfl; rfl
  unfold small
  pointwise
  repeat' split
  all_goals exact e _ _ (by unfold source; split_ifs <;> omega)

/-- A column of the sorted weight: the column of the model's weight it comes from, or zero. -/
theorem sorted_apply (x : Vec Ideal S1024x3360 .f32) (p : Fin 1024) (j : Fin 3456) :
    sorted x (ix2 p j) = if h : source j.val < 3360 then x (ix2 p ⟨source j.val, h⟩) else 0 := by
  generalize hR : (if h : source j.val < 3360 then x (ix2 p ⟨source j.val, h⟩) else 0 : EReal) = R
  unfold sorted
  pointwise
  subst hR
  have hj := j.isLt
  have e : ∀ (k : ℕ) (hk : k < 3360), source j.val = k → x (ix2 p ⟨k, hk⟩)
      = if h : source j.val < 3360 then x (ix2 p ⟨source j.val, h⟩) else 0 := by
    rintro k hk rfl; rw [dif_pos hk]
  have e0 : 3360 ≤ source j.val → (0 : EReal) = if h : source j.val < 3360 then x (ix2 p ⟨source j.val, h⟩) else 0 := by
    intro h; rw [dif_neg (by omega)]
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · exact e _ _ (by unfold source; split_ifs <;> omega)
  refine branches (fun h => ?_) fun h => ?_
  · rw [small_apply]; exact e _ _ (congrArg source (by show j.val = 3328 + (j.val - 1536 - 512 - 512 - 128 - 128 - 128 - 128 - 128 - 128); omega))
  refine branches (fun h => ?_) fun h => ?_
  · exact e0 (by unfold source; split_ifs <;> omega)
  refine branches (fun h => ?_) fun h => ?_
  · exact e _ _ (by unfold source; split_ifs <;> omega)
  exact e0 (by unfold source; split_ifs <;> omega)

/-- The columns of a row times the sorted weight are the columns of the row times the weight. -/
theorem col_sorted (x : Vec Ideal S1024x3360 .f32) (h : Fin 1024 → EReal) (j : ℕ) :
    col h (fun p k => sorted x (ix2 p k)) j = col h (fun p k => x (ix2 p k)) (source j) := by
  by_cases hj : j < 3456
  · rw [col_of_lt _ _ _ hj]
    simp only [sorted_apply]
    by_cases hs : source j < 3360
    · rw [col_of_lt _ _ _ hs]
      refine Finset.sum_congr rfl fun p _ => ?_
      rw [dif_pos hs]
    · rw [col_of_ge _ _ _ (by omega)]
      refine Finset.sum_eq_zero fun p _ => ?_
      rw [dif_neg hs, mul_zero]
  · rw [col_of_ge _ _ _ (by omega), col_of_ge _ _ _ (by unfold source; split_ifs <;> omega)]

/-! ## The host's operations that build it -/

section reads
variable (σ : Valuation τ sig (Elt Ideal))

/-- What the host code leaves in the array 21. -/
theorem read_21 : (StableHlo.after ((hostOps1.drop 0).take 7) σ (Proc.devRef .tc main_v21) : Vec Ideal S1024x3360 .f32)
    = shapeCast S1024x3360 (extractStridedSlice S1x1024x3360 ![0, 0, 0] (σ (Proc.devRef .tc main_arg3) : Vec Ideal S2x1024x3360 .f32) slices_S2x1024x3360_S1x1024x3360_0_0_0) shapeCasts_S1x1024x3360_S1024x3360 := by
  simp only [hostOps1, List.drop, List.take]
  entry_read
  try rfl
/-- What the host code leaves in the array 22. -/
theorem read_22 : (StableHlo.after ((hostOps1.drop 7).take 3) σ (Proc.devRef .tc main_v22) : Vec Ideal S1024x4 .f32)
    = extractStridedSlice S1024x4 ![0, 2048] (σ (Proc.devRef .tc main_v21) : Vec Ideal S1024x3360 .f32) slices_S1024x3360_S1024x4_0_2048 := by
  simp only [hostOps1, List.drop, List.take]
  entry_read
  try rfl
/-- What the host code leaves in the array 23. -/
theorem read_23 : (StableHlo.after ((hostOps1.drop 7).take 3) σ (Proc.devRef .tc main_v23) : Vec Ideal S1024x4 .f32)
    = extractStridedSlice S1024x4 ![0, 2052] (σ (Proc.devRef .tc main_v21) : Vec Ideal S1024x3360 .f32) slices_S1024x3360_S1024x4_0_2052 := by
  simp only [hostOps1, List.drop, List.take]
  entry_read
  try rfl
/-- What the host code leaves in the array 24. -/
theorem read_24 : (StableHlo.after ((hostOps1.drop 7).take 3) σ (Proc.devRef .tc main_v24) : Vec Ideal S1024x24 .f32)
    = extractStridedSlice S1024x24 ![0, 3336] (σ (Proc.devRef .tc main_v21) : Vec Ideal S1024x3360 .f32) slices_S1024x3360_S1024x24_0_3336 := by
  simp only [hostOps1, List.drop, List.take]
  entry_read
  try rfl
/-- The array 21 of the host code is kept by the operations that follow. -/
theorem read_21_b : (StableHlo.after ((hostOps1.drop 7).take 3) σ (Proc.devRef .tc main_v21) : Vec Ideal S1024x3360 .f32)
    = (σ (Proc.devRef .tc main_v21) : Vec Ideal S1024x3360 .f32) := by
  simp only [hostOps1, List.drop, List.take]
  entry_read
  try rfl
/-- What the host code leaves in the array 25. -/
theorem read_25 : (StableHlo.after ((hostOps1.drop 10).take 1) σ (Proc.devRef .tc main_v25) : Vec Ideal S1024x32 .f32)
    = concatenate S1024x32 1 [⟨S1024x4, (σ (Proc.devRef .tc main_v22) : Vec Ideal S1024x4 .f32)⟩, ⟨S1024x4, (σ (Proc.devRef .tc main_v23) : Vec Ideal S1024x4 .f32)⟩,
      ⟨S1024x24, (σ (Proc.devRef .tc main_v24) : Vec Ideal S1024x24 .f32)⟩] concatenates_S1024x4_S1024x4_S1024x24_S1024x32_d1 := by
  simp only [hostOps1, List.drop, List.take, StableHlo.after_cons, StableHlo.after_nil]
  rw [StableHlo.nary_result]
  rfl
/-- The array 21 of the host code is kept by the operations that follow. -/
theorem read_21_c : (StableHlo.after ((hostOps1.drop 10).take 1) σ (Proc.devRef .tc main_v21) : Vec Ideal S1024x3360 .f32)
    = (σ (Proc.devRef .tc main_v21) : Vec Ideal S1024x3360 .f32) := by
  simp only [hostOps1, List.drop, List.take]
  entry_read
  try rfl
/-- What the host code leaves in the array 26. -/
theorem read_26 : (StableHlo.after ((hostOps1.drop 11).take 14) σ (Proc.devRef .tc main_v26) : Vec Ideal S1024x1536 .f32)
    = extractStridedSlice S1024x1536 ![0, 0] (σ (Proc.devRef .tc main_v21) : Vec Ideal S1024x3360 .f32) slices_S1024x3360_S1024x1536_0_0 := by
  simp only [hostOps1, List.drop, List.take]
  entry_read
  try rfl
/-- What the host code leaves in the array 27. -/
theorem read_27 : (StableHlo.after ((hostOps1.drop 11).take 14) σ (Proc.devRef .tc main_v27) : Vec Ideal S1024x512 .f32)
    = extractStridedSlice S1024x512 ![0, 1536] (σ (Proc.devRef .tc main_v21) : Vec Ideal S1024x3360 .f32) slices_S1024x3360_S1024x512_0_1536 := by
  simp only [hostOps1, List.drop, List.take]
  entry_read
  try rfl
/-- What the host code leaves in the array 28. -/
theorem read_28 : (StableHlo.after ((hostOps1.drop 11).take 14) σ (Proc.devRef .tc main_v28) : Vec Ideal S1024x512 .f32)
    = extractStridedSlice S1024x512 ![0, 2056] (σ (Proc.devRef .tc main_v21) : Vec Ideal S1024x3360 .f32) slices_S1024x3360_S1024x512_0_2056 := by
  simp only [hostOps1, List.drop, List.take]
  entry_read
  try rfl
/-- What the host code leaves in the array 29. -/
theorem read_29 : (StableHlo.after ((hostOps1.drop 11).take 14) σ (Proc.devRef .tc main_v29) : Vec Ideal S1024x128 .f32)
    = extractStridedSlice S1024x128 ![0, 2568] (σ (Proc.devRef .tc main_v21) : Vec Ideal S1024x3360 .f32) slices_S1024x3360_S1024x128_0_2568 := by
  simp only [hostOps1, List.drop, List.take]
  entry_read
  try rfl
/-- What the host code leaves in the array 30. -/
theorem read_30 : (StableHlo.after ((hostOps1.drop 11).take 14) σ (Proc.devRef .tc main_v30) : Vec Ideal S1024x128 .f32)
    = extractStridedSlice S1024x128 ![0, 2696] (σ (Proc.devRef .tc main_v21) : Vec Ideal S1024x3360 .f32) slices_S1024x3360_S1024x128_0_2696 := by
  simp only [hostOps1, List.drop, List.take]
  entry_read
  try rfl
/-- What the host code leaves in the array 31. -/
theorem read_31 : (StableHlo.after ((hostOps1.drop 11).take 14) σ (Proc.devRef .tc main_v31) : Vec Ideal S1024x128 .f32)
    = extractStridedSlice S1024x128 ![0, 2824] (σ (Proc.devRef .tc main_v21) : Vec Ideal S1024x3360 .f32) slices_S1024x3360_S1024x128_0_2824 := by
  simp only [hostOps1, List.drop, List.take]
  entry_read
  try rfl
/-- What the host code leaves in the array 32. -/
theorem read_32 : (StableHlo.after ((hostOps1.drop 11).take 14) σ (Proc.devRef .tc main_v32) : Vec Ideal S1024x128 .f32)
    = extractStridedSlice S1024x128 ![0, 2952] (σ (Proc.devRef .tc main_v21) : Vec Ideal S1024x3360 .f32) slices_S1024x3360_S1024x128_0_2952 := by
  simp only [hostOps1, List.drop, List.take]
  entry_read
  try rfl
/-- What the host code leaves in the array 33. -/
theorem read_33 : (StableHlo.after ((hostOps1.drop 11).take 14) σ (Proc.devRef .tc main_v33) : Vec Ideal S1024x128 .f32)
    = extractStridedSlice S1024x128 ![0, 3080] (σ (Proc.devRef .tc main_v21) : Vec Ideal S1024x3360 .f32) slices_S1024x3360_S1024x128_0_3080 := by
  simp only [hostOps1, List.drop, List.take]
  entry_read
  try rfl
/-- What the host code leaves in the array 34. -/
theorem read_34 : (StableHlo.after ((hostOps1.drop 11).take 14) σ (Proc.devRef .tc main_v34) : Vec Ideal S1024x128 .f32)
    = extractStridedSlice S1024x128 ![0, 3208] (σ (Proc.devRef .tc main_v21) : Vec Ideal S1024x3360 .f32) slices_S1024x3360_S1024x128_0_3208 := by
  simp only [hostOps1, List.drop, List.take]
  entry_read
  try rfl
/-- What the host code leaves in the array 36. -/
theorem read_36 : (StableHlo.after ((hostOps1.drop 11).take 14) σ (Proc.devRef .tc main_v36) : Vec Ideal S1024x24 .f32)
    = extractStridedSlice S1024x24 ![0, 3336] (σ (Proc.devRef .tc main_v21) : Vec Ideal S1024x3360 .f32) slices_S1024x3360_S1024x24_0_3336 := by
  simp only [hostOps1, List.drop, List.take]
  entry_read
  try rfl
/-- What the host code leaves in the array 35. -/
theorem read_35 : (StableHlo.after ((hostOps1.drop 11).take 14) σ (Proc.devRef .tc main_v35) : Vec Ideal S1024x40 .f32)
    = broadcastInDim S1024x40 ![] bcast_S_S1024x40 (constant (F := Ideal) S_ .f32 0x00000000#32) := by
  simp only [hostOps1, List.drop, List.take]
  entry_read
  try rfl
/-- What the host code leaves in the array 37. -/
theorem read_37 : (StableHlo.after ((hostOps1.drop 11).take 14) σ (Proc.devRef .tc main_v37) : Vec Ideal S1024x32 .f32)
    = broadcastInDim S1024x32 ![] bcast_S_S1024x32 (constant (F := Ideal) S_ .f32 0x00000000#32) := by
  simp only [hostOps1, List.drop, List.take]
  entry_read
  try rfl
/-- The array 25 of the host code is kept by the operations that follow. -/
theorem read_25_b : (StableHlo.after ((hostOps1.drop 11).take 14) σ (Proc.devRef .tc main_v25) : Vec Ideal S1024x32 .f32)
    = (σ (Proc.devRef .tc main_v25) : Vec Ideal S1024x32 .f32) := by
  simp only [hostOps1, List.drop, List.take]
  entry_read
  try rfl
/-- What the host code leaves in the array 39. -/
theorem read_39 : (StableHlo.after (hostOps1.drop 25) σ (Proc.devRef .tc main_v39) : Vec Ideal S1024x3456 .bf16)
    = (truncf .bf16 (concatenate S1024x3456 1 [⟨S1024x1536, (σ (Proc.devRef .tc main_v26) : Vec Ideal S1024x1536 .f32)⟩, ⟨S1024x512, (σ (Proc.devRef .tc main_v27) : Vec Ideal S1024x512 .f32)⟩, ⟨S1024x512, (σ (Proc.devRef .tc main_v28) : Vec Ideal S1024x512 .f32)⟩, ⟨S1024x128, (σ (Proc.devRef .tc main_v29) : Vec Ideal S1024x128 .f32)⟩, ⟨S1024x128, (σ (Proc.devRef .tc main_v30) : Vec Ideal S1024x128 .f32)⟩, ⟨S1024x128, (σ (Proc.devRef .tc main_v31) : Vec Ideal S1024x128 .f32)⟩, ⟨S1024x128, (σ (Proc.devRef .tc main_v32) : Vec Ideal S1024x128 .f32)⟩, ⟨S1024x128, (σ (Proc.devRef .tc main_v33) : Vec Ideal S1024x128 .f32)⟩, ⟨S1024x128, (σ (Proc.devRef .tc main_v34) : Vec Ideal S1024x128 .f32)⟩, ⟨S1024x32, (σ (Proc.devRef .tc main_v25) : Vec Ideal S1024x32 .f32)⟩, ⟨S1024x40, (σ (Proc.devRef .tc main_v35) : Vec Ideal S1024x40 .f32)⟩, ⟨S1024x24, (σ (Proc.devRef .tc main_v36) : Vec Ideal S1024x24 .f32)⟩, ⟨S1024x32, (σ (Proc.devRef .tc main_v37) : Vec Ideal S1024x32 .f32)⟩] concatenates_S1024x1536_S1024x512_S1024x512_S1024x128_S1024x128_S1024x128_S1024x128_S1024x128_S1024x128_S1024x32_S1024x40_S1024x24_S1024x32_S1024x3456_d1 : FVec Ideal S1024x3456 .f32) bitsLt_bf16_f32 : FVec Ideal S1024x3456 .bf16) := by
  simp only [hostOps1, List.drop, StableHlo.after_cons, StableHlo.after_nil]
  rw [StableHlo.unary_result, StableHlo.nary_result]
  rfl

end reads

/-- The weight the kernel reads is the sorted weight of the layer. -/
theorem weights_eq (σ : Valuation τ sig (Elt Ideal)) : (StableHlo.after hostOps1 σ (Proc.devRef .tc main_v39) : Vec Ideal S1024x3456 .bf16)
    = sorted (shapeCast S1024x3360 (extractStridedSlice S1x1024x3360 ![0, 0, 0] (σ (Proc.devRef .tc main_arg3) : Vec Ideal S2x1024x3360 .f32)
        slices_S2x1024x3360_S1x1024x3360_0_0_0) shapeCasts_S1x1024x3360_S1024x3360) := by
  rw [← read_21]
  generalize hA : StableHlo.after ((hostOps1.drop 0).take 7) σ = σA
  have h : StableHlo.after hostOps1 σ = StableHlo.after (hostOps1.drop 25) (StableHlo.after ((hostOps1.drop 11).take 14)
      (StableHlo.after ((hostOps1.drop 10).take 1) (StableHlo.after ((hostOps1.drop 7).take 3) (StableHlo.after ((hostOps1.drop 0).take 7) σ)))) := rfl
  rw [h, hA]
  refine (read_39 _).trans ?_
  rw [read_26, read_27, read_28, read_29, read_30, read_31, read_32, read_33, read_34, read_25_b, read_35, read_36, read_37]
  rw [read_21_c, read_25, read_22, read_23, read_24, read_21_b]
  rfl

end Cert.InpIdeal.Weights
-- ==== Proof.InpBlock.lean ====
module

public import proofs.«01_k».proof.Proof.InpPoint
public import proofs.«01_k».proof.Proof.InpRope
public import proofs.«01_k».proof.Proof.InpWeights

/-! What the projection's call leaves in its eleven arrays, in terms of the program's arguments. -/

@[expose] public section

set_option maxRecDepth 16384

noncomputable section

namespace Cert.InpIdeal.Block

open Cert.InpIdeal Cert.InpIdeal.Gen Cert.InpIdeal.Point Cert.InpIdeal.Rope Cert.InpIdeal.Weights Idealize.ShloMosaic Idealize.ShloMosaic.TcCoe Idealize.SL.Sem Cert.Half

/-! ## The arguments -/

section args
variable (m : (ℓ : Loc nD τ sig) → Buf (Elt Ideal) ℓ) (c : Dev nD)

/-- The arguments in plain index form: the rows, the modulation of the second sub-layer, its gain, the weights. -/
abbrev xOf (b : Fin 4) (s : Fin 4096) (p : Fin 1024) : EReal :=
  (m ((c : Thread nD τ).loc main_arg0) : Vec Ideal S4x4096x1024 .f32) (ix3 b s p)
@[inherit_doc xOf] abbrev modOf (b : Fin 4) (q : Fin 3) (p : Fin 1024) : EReal :=
  (m ((c : Thread nD τ).loc main_arg1) : Vec Ideal S2x4x9216 .f32) (ix3 0 b ⟨3072 * 1 + 1024 * q.val + p.val, by have := p.isLt; have := q.isLt; omega⟩)
@[inherit_doc xOf] abbrev gOf (p : Fin 1024) : EReal :=
  (m ((c : Thread nD τ).loc main_arg2) : Vec Ideal S2x3x1024 .f32) (ix3 0 1 p)
@[inherit_doc xOf] abbrev wOf (p : Fin 1024) (k : Fin 3360) : EReal :=
  (m ((c : Thread nD τ).loc main_arg3) : Vec Ideal S2x1024x3360 .f32) (ix3 0 p k)

/-- Column `j` of the projection of token `s` of batch `b`. -/
def colOf (b : Fin 4) (s : Fin 4096) (j : ℕ) : EReal :=
  col (modulated (gOf m c) (modOf m c b 1) (modOf m c b 0) (xOf m c b s)) (wOf m c) j

end args

/-! ## What the call finds in its input arrays -/

/-- The modulation array the host prepares from `x`, at an index: three vectors of a sub-layer and five rows of zeros. -/
theorem pad_apply (x : Vec Ideal S2x4x9216 .f32) (h : _) (l : Fin 2) (b : Fin 4) (j q : Fin 3) (p : Fin 1024) :
    concatenate S2x4x3x8x1024 3
      [⟨S2x4x3x3x1024, shapeCast S2x4x3x3x1024 x shapeCasts_S2x4x9216_S2x4x3x3x1024⟩,
        ⟨S2x4x3x5x1024, broadcastInDim S2x4x3x5x1024 ![] bcast_S_S2x4x3x5x1024 (constant (F := Ideal) S_ FTy.f32 0#32)⟩]
      h (ix5 l b j ⟨q.val, by have := q.isLt; omega⟩ p)
      = x (ix3 l b ⟨3072 * j.val + 1024 * q.val + p.val, by have := j.isLt; have := q.isLt; have := p.isLt; omega⟩) := by
  pointwise
  exact congrArg (fun r => x (ix3 l b r)) (Fin.ext (by show j.val * 3072 + q.val * 1024 + p.val = 3072 * j.val + 1024 * q.val + p.val; omega))

/-- The host's operations but the first five leave the modulation and the gains as they are. -/
theorem read_19 (σ : Valuation τ sig (Elt Ideal)) (l : Fin 2) (b : Fin 4) (j q : Fin 3) (p : Fin 1024) :
    (StableHlo.after hostOps1 σ (Proc.devRef .tc main_v19) : Vec Ideal S2x4x3x8x1024 .f32) (ix5 l b j ⟨q.val, by have := q.isLt; omega⟩ p)
      = (σ (Proc.devRef .tc main_arg1) : Vec Ideal S2x4x9216 .f32) (ix3 l b ⟨3072 * j.val + 1024 * q.val + p.val, by have := j.isLt; have := q.isLt; have := p.isLt; omega⟩) := by
  entry_read
  exact pad_apply (σ (Proc.devRef .tc main_arg1)) _ l b j q p
@[inherit_doc read_19]
theorem read_16 (σ : Valuation τ sig (Elt Ideal)) :
    (StableHlo.after hostOps1 σ (Proc.devRef .tc main_v16) : Vec Ideal S6x1x1024 .f32)
      = shapeCast S6x1x1024 (σ (Proc.devRef .tc main_arg2) : Vec Ideal S2x3x1024 .f32) shapeCasts_S2x3x1024_S6x1x1024 := by
  entry_read
  try rfl

/-- The gain of the second sub-layer. -/
theorem gain_apply (x : Vec Ideal S2x3x1024 .f32) (p : Fin 1024) :
    shapeCast S6x1x1024 x shapeCasts_S2x3x1024_S6x1x1024 (ix3 1 0 p) = x (ix3 0 1 p) := by
  pointwise

/-- The weights the host reads. -/
theorem first_weights (x : Vec Ideal S2x1024x3360 .f32) (p : Fin 1024) (k : Fin 3360) :
    shapeCast S1024x3360 (extractStridedSlice S1x1024x3360 ![0, 0, 0] x slices_S2x1024x3360_S1x1024x3360_0_0_0) shapeCasts_S1x1024x3360_S1024x3360 (ix2 p k)
      = x (ix3 0 p k) := by
  pointwise

/-- The windows' block indices over the grid. -/
theorem idx_in1 : ∀ t : Fin cfg1.N, win1_0.index t = ![t.val / 8, t.val % 8, 0] ∧ win1_1.index t = ![0, t.val / 8, 1, 0, 0] ∧ win1_2.index t = ![1, 0, 0]
    ∧ win1_3.index t = ![0, 0] ∧ win1_4.index t = ![t.val / 8, t.val % 8, 0] ∧ win1_5.index t = ![t.val / 8, t.val % 8, 0] :=
  (by decide +kernel : ∀ t : Fin grid1.N, win1_0.index t = ![t.val / 8, t.val % 8, 0] ∧ win1_1.index t = ![0, t.val / 8, 1, 0, 0] ∧ win1_2.index t = ![1, 0, 0]
    ∧ win1_3.index t = ![0, 0] ∧ win1_4.index t = ![t.val / 8, t.val % 8, 0] ∧ win1_5.index t = ![t.val / 8, t.val % 8, 0])

/-- The second grid coordinate. -/
theorem coord1 : ∀ t : Fin cfg1.N, ((grid1.coords t) 1).val = t.val % 8 :=
  (by decide +kernel : ∀ t : Fin grid1.N, ((grid1.coords t) 1).val = t.val % 8)

/-- The second call has 32 grid points. -/
theorem hN1 (t : Fin cfg1.N) : t.val < 32 := lt_of_lt_of_eq t.isLt N_1

/-- The batch of a grid point, and the token of row `r` of its tile. -/
abbrev batch (t : Fin cfg1.N) : Fin 4 := ⟨t.val / 8, by have := hN1 t; omega⟩
@[inherit_doc batch] abbrev token (t : Fin cfg1.N) (r : Fin 512) : Fin 4096 := ⟨512 * (t.val % 8) + r.val, by have := r.isLt; omega⟩

section generic
variable (V : (c : Dev nD) → (b : Ref sig .tc) → Buf (Elt Ideal) ((c : Thread nD τ).loc b)) (c : Dev nD) (t : Fin cfg1.N)

/-- The blocks over the arrays the call finds. -/
theorem blk_x (r : Fin 512) (p : Fin 1024) : (iblk1 V c 0 t : Vec Ideal S1x512x1024 .f32) (ix3 0 r p)
    = (V c main_arg0 : Vec Ideal S4x4096x1024 .f32) (ix3 (batch t) (token t r) p) := by
  blk_ext [iblk1, (idx_in1 t).1]
@[inherit_doc blk_x]
theorem blk_mod (q : Fin 3) (p : Fin 1024) : (iblk1 V c 1 t : Vec Ideal S1x1x1x8x1024 .f32) (ix5 0 0 0 ⟨q.val, by have := q.isLt; omega⟩ p)
    = (V c main_v19 : Vec Ideal S2x4x3x8x1024 .f32) (ix5 0 (batch t) 1 ⟨q.val, by have := q.isLt; omega⟩ p) := by
  blk_ext [iblk1, (idx_in1 t).2.1]
@[inherit_doc blk_x]
theorem blk_g (p : Fin 1024) : (iblk1 V c 2 t : Vec Ideal S1x1x1024 .f32) (ix3 0 0 p) = (V c main_v16 : Vec Ideal S6x1x1024 .f32) (ix3 1 0 p) := by
  blk_ext [iblk1, (idx_in1 t).2.2.1]
@[inherit_doc blk_x]
theorem blk_w (p : Fin 1024) (k : Fin 3456) : (iblk1 V c 3 t : Vec Ideal S1024x3456 .bf16) (ix2 p k) = (V c main_v39 : Vec Ideal S1024x3456 .bf16) (ix2 p k) := by
  blk_ext [iblk1, (idx_in1 t).2.2.2.1]
@[inherit_doc blk_x]
theorem blk_cos (r : Fin 512) (l : Fin 128) : (iblk1 V c 4 t : Vec Ideal S1x512x128 .f32) (ix3 0 r l)
    = (V c main_v15_0 : Vec Ideal S4x4096x128 .f32) (ix3 (batch t) (token t r) l) := by
  blk_ext [iblk1, (idx_in1 t).2.2.2.2.1]
@[inherit_doc blk_x]
theorem blk_sin (r : Fin 512) (l : Fin 128) : (iblk1 V c 5 t : Vec Ideal S1x512x128 .f32) (ix3 0 r l)
    = (V c main_v15_1 : Vec Ideal S4x4096x128 .f32) (ix3 (batch t) (token t r) l) := by
  blk_ext [iblk1, (idx_in1 t).2.2.2.2.2]

end generic

section entry
variable (m : (ℓ : Loc nD τ sig) → Buf (Elt Ideal) ℓ) (ρ : Dev nD → PrngReg) (c : Dev nD) (t : Fin cfg1.N)

/-- The input arrays in terms of the arguments. -/
theorem mod_entry (b : Fin 4) (q : Fin 3) (p : Fin 1024) :
    (V5 m ρ c main_v19 : Vec Ideal S2x4x3x8x1024 .f32) (ix5 0 b 1 ⟨q.val, by have := q.isLt; omega⟩ p) = modOf m c b q p := by
  have e : (W4 m ρ c (Proc.devRef .tc main_arg1) : Vec Ideal S2x4x9216 .f32) = m ((c : Thread nD τ).loc main_arg1) :=
    W4_args m ρ c main_arg1 (by decide)
  refine (read_19 (W4 m ρ c) 0 b 1 q p).trans ?_
  rw [e]
  rfl
@[inherit_doc mod_entry]
theorem gain_entry (p : Fin 1024) : (V5 m ρ c main_v16 : Vec Ideal S6x1x1024 .f32) (ix3 1 0 p) = gOf m c p := by
  have e : (W4 m ρ c (Proc.devRef .tc main_arg2) : Vec Ideal S2x3x1024 .f32) = m ((c : Thread nD τ).loc main_arg2) :=
    W4_args m ρ c main_arg2 (by decide)
  refine (congrFun (read_16 (W4 m ρ c)) (ix3 1 0 p)).trans ?_
  rw [e]
  exact gain_apply _ p
@[inherit_doc mod_entry]
theorem weights_entry : ∃ X : Vec Ideal S1024x3360 .f32, (V5 m ρ c main_v39 : Vec Ideal S1024x3456 .bf16) = sorted X
    ∧ ∀ p k, X (ix2 p k) = wOf m c p k := by
  have e : (W4 m ρ c (Proc.devRef .tc main_arg3) : Vec Ideal S2x1024x3360 .f32) = m ((c : Thread nD τ).loc main_arg3) :=
    W4_args m ρ c main_arg3 (by decide)
  refine ⟨_, weights_eq (W4 m ρ c), fun p k => ?_⟩
  rw [e]
  exact first_weights _ p k
@[inherit_doc mod_entry]
theorem rows_entry : (V5 m ρ c main_arg0 : Vec Ideal S4x4096x1024 .f32) = m ((c : Thread nD τ).loc main_arg0) :=
  W5_args m ρ c main_arg0 (by decide)

/-- The point's columns are the model's, in the order the host sorts them. -/
theorem column_eq (r : Fin 512) (j : ℕ) :
    column (iblk1 (V5 m ρ) c 0 t) (iblk1 (V5 m ρ) c 1 t) (iblk1 (V5 m ρ) c 2 t) (iblk1 (V5 m ρ) c 3 t) r j
      = colOf m c (batch t) (token t r) (source j) := by
  obtain ⟨X, hX, hx⟩ := weights_entry m ρ c
  have hw : (fun (p : Fin 1024) (k : Fin 3456) => (iblk1 (V5 m ρ) c 3 t : Vec Ideal S1024x3456 .bf16) (ix2 p k)) = fun p k => sorted X (ix2 p k) := by
    funext p k
    exact (blk_w (V5 m ρ) c t p k).trans (congrFun hX _)
  have hh : hRow (iblk1 (V5 m ρ) c 0 t) (iblk1 (V5 m ρ) c 1 t) (iblk1 (V5 m ρ) c 2 t) r
      = modulated (gOf m c) (modOf m c (batch t) 1) (modOf m c (batch t) 0) (xOf m c (batch t) (token t r)) := by
    unfold hRow
    congr 1
    · funext p; exact (blk_g (V5 m ρ) c t p).trans (gain_entry m ρ c p)
    · funext p; exact (blk_mod (V5 m ρ) c t 1 p).trans (mod_entry m ρ c (batch t) 1 p)
    · funext p; exact (blk_mod (V5 m ρ) c t 0 p).trans (mod_entry m ρ c (batch t) 0 p)
    · funext p; exact (blk_x (V5 m ρ) c t r p).trans (congrFun (rows_entry m ρ c) _)
  unfold column colOf
  rw [hw, hh, col_sorted]
  congr 1
  funext p k
  exact hx p k

/-- The point's tables. -/
theorem cos_rows (r : Fin 512) (l : Fin 128) : (iblk1 (V5 m ρ) c 4 t : Vec Ideal S1x512x128 .f32) (ix3 0 r l)
    = lanes 1 (cosAt (posOf m c (batch t) (token t r))) l.val :=
  (blk_cos (V5 m ρ) c t r l).trans (congrFun (cos_entry m ρ c) _)
@[inherit_doc cos_rows]
theorem sin_rows (r : Fin 512) (l : Fin 128) : (iblk1 (V5 m ρ) c 5 t : Vec Ideal S1x512x128 .f32) (ix3 0 r l)
    = lanes 0 (sinAt (posOf m c (batch t) (token t r))) l.val :=
  (blk_sin (V5 m ρ) c t r l).trans (congrFun (sin_entry m ρ c) _)

end entry

/-! ## The arrays -/

section arrays
variable (m : (ℓ : Loc nD τ sig) → Buf (Elt Ideal) ℓ) (ρ : Dev nD → PrngReg) (c : Dev nD)

/-- Where window 6 of the second call lies at each grid point. -/
theorem idx6 : ∀ t : Fin cfg1.N, win1_6.index t = ![t.val / 8, t.val % 8, 0] :=
  (by decide +kernel : ∀ t : Fin grid1.N, win1_6.index t = ![t.val / 8, t.val % 8, 0])
/-- The rows for the recurrence. -/
def res6 : Vec Ideal S4x4096x1536 .f32 := fun y => colOf m c (y 0) (y 1) (y 2).val
/-- What the call leaves there. -/
theorem arr6 : (dat1 (V5 m ρ) c).arrAt 6 cfg1.N = res6 m c := by
  refine (dat1 (V5 m ρ) c).arrAt_eq_of_covers 6 (res6 m c) (by decide +kernel) fun t hf y => ?_
  blk_simp
  rw [after1_6]
  revert y
  intro (y : S1x512x1536.Idx)
  idx_vars y
  have hy : y0 = 0 := Subsingleton.elim _ _
  subst hy
  have e : (win1_6.blk t).view.emb (ix3 0 y1 y2) = ix3 (batch t) (token t y1) y2 := by
    blk_ext [idx6 t]
  refine Eq.trans ?_ (congrArg (res6 m c) e).symm
  refine (out6_apply (grid1.coords t) _ _ _ _ _ _ (ix3 0 y1 y2)).trans ?_
  refine (column_eq m ρ c t y1 y2.val).trans ?_
  exact congrArg (colOf m c (batch t) (token t y1)) (by have := y2.isLt; show source y2.val = y2.val; unfold source; split_ifs <;> omega)

/-- Where window 7 of the second call lies at each grid point. -/
theorem idx7 : ∀ t : Fin cfg1.N, win1_7.index t = ![t.val / 8, t.val % 8, 0] :=
  (by decide +kernel : ∀ t : Fin grid1.N, win1_7.index t = ![t.val / 8, t.val % 8, 0])
/-- The gate's rows. -/
def res7 : Vec Ideal S4x4096x512 .f32 := fun y => colOf m c (y 0) (y 1) (1536 + (y 2).val)
/-- What the call leaves there. -/
theorem arr7 : (dat1 (V5 m ρ) c).arrAt 7 cfg1.N = res7 m c := by
  refine (dat1 (V5 m ρ) c).arrAt_eq_of_covers 7 (res7 m c) (by decide +kernel) fun t hf y => ?_
  blk_simp
  rw [after1_7]
  revert y
  intro (y : S1x512x512.Idx)
  idx_vars y
  have hy : y0 = 0 := Subsingleton.elim _ _
  subst hy
  have e : (win1_7.blk t).view.emb (ix3 0 y1 y2) = ix3 (batch t) (token t y1) y2 := by
    blk_ext [idx7 t]
  refine Eq.trans ?_ (congrArg (res7 m c) e).symm
  refine (out7_apply (grid1.coords t) _ _ _ _ _ _ 0 y1 y2).trans ?_
  refine (column_eq m ρ c t y1 (1536 + y2.val)).trans ?_
  exact congrArg (colOf m c (batch t) (token t y1)) (by have := y2.isLt; show source (1536 + y2.val) = 1536 + y2.val; unfold source; split_ifs <;> omega)

/-- Where window 8 of the second call lies at each grid point. -/
theorem idx8 : ∀ t : Fin cfg1.N, win1_8.index t = ![t.val / 8, t.val % 8, 0] :=
  (by decide +kernel : ∀ t : Fin grid1.N, win1_8.index t = ![t.val / 8, t.val % 8, 0])
/-- The small gates. -/
def res8 : Vec Ideal S4x4096x128 .f32 := fun y => colOf m c (y 0) (y 1) (source (3328 + (y 2).val))
/-- What the call leaves there. -/
theorem arr8 : (dat1 (V5 m ρ) c).arrAt 8 cfg1.N = res8 m c := by
  refine (dat1 (V5 m ρ) c).arrAt_eq_of_covers 8 (res8 m c) (by decide +kernel) fun t hf y => ?_
  blk_simp
  rw [after1_8]
  revert y
  intro (y : S1x512x128.Idx)
  idx_vars y
  have hy : y0 = 0 := Subsingleton.elim _ _
  subst hy
  have e : (win1_8.blk t).view.emb (ix3 0 y1 y2) = ix3 (batch t) (token t y1) y2 := by
    blk_ext [idx8 t]
  refine Eq.trans ?_ (congrArg (res8 m c) e).symm
  exact (out8_apply (grid1.coords t) _ _ _ _ _ _ 0 y1 y2).trans (column_eq m ρ c t y1 (3328 + y2.val))

/-- Where window 9 of the second call lies at each grid point. -/
theorem idx9 : ∀ t : Fin cfg1.N, win1_9.index t = ![t.val / 8, 0, t.val % 8] :=
  (by decide +kernel : ∀ t : Fin grid1.N, win1_9.index t = ![t.val / 8, 0, t.val % 8])
/-- The small gates, turned. -/
def res9 : Vec Ideal S4x32x4096 .f32 := fun y => colOf m c (y 0) (y 2) (source (3328 + (y 1).val))
/-- What the call leaves there. -/
theorem arr9 : (dat1 (V5 m ρ) c).arrAt 9 cfg1.N = res9 m c := by
  refine (dat1 (V5 m ρ) c).arrAt_eq_of_covers 9 (res9 m c) (by decide +kernel) fun t hf y => ?_
  blk_simp
  rw [after1_9]
  revert y
  intro (y : S1x32x512.Idx)
  idx_vars y
  have hy : y0 = 0 := Subsingleton.elim _ _
  subst hy
  have e : (win1_9.blk t).view.emb (ix3 0 y1 y2) = ix3 (batch t) y1 (token t y2) := by
    blk_ext [idx9 t]
  refine Eq.trans ?_ (congrArg (res9 m c) e).symm
  exact (out9_apply (grid1.coords t) _ _ _ _ _ _ 0 y1 y2).trans (column_eq m ρ c t y2 (3328 + y1.val))

/-- Where window 10 of the second call lies at each grid point. -/
theorem idx10 : ∀ t : Fin cfg1.N, win1_10.index t = ![t.val / 8, 0, t.val % 8, 0] :=
  (by decide +kernel : ∀ t : Fin grid1.N, win1_10.index t = ![t.val / 8, 0, t.val % 8, 0])
/-- The queries. -/
def res10 : Vec Ideal S4x8x4096x128 .bf16 := fun y => queryLane (cosAt (posOf m c (y 0) (y 2))) (sinAt (posOf m c (y 0) (y 2))) (fun j => colOf m c (y 0) (y 2) (2056 + j)) (y 1).val (y 3).val
/-- What the call leaves there. -/
theorem arr10 : (dat1 (V5 m ρ) c).arrAt 10 cfg1.N = res10 m c := by
  refine (dat1 (V5 m ρ) c).arrAt_eq_of_covers 10 (res10 m c) (by decide +kernel) fun t hf y => ?_
  blk_simp
  rw [after1_10]
  revert y
  intro (y : S1x8x512x128.Idx)
  idx_vars y
  have hy : y0 = 0 := Subsingleton.elim _ _
  subst hy
  have e : (win1_10.blk t).view.emb (ix4 0 y1 y2 y3) = ix4 (batch t) y1 (token t y2) y3 := by
    blk_ext [idx10 t]
  refine Eq.trans ?_ (congrArg (res10 m c) e).symm
  refine (out10_apply (grid1.coords t) _ _ _ _ _ _ (fun r => cosAt (posOf m c (batch t) (token t r))) (fun r => sinAt (posOf m c (batch t) (token t r))) (cos_rows m ρ c t) (sin_rows m ρ c t) (ix4 0 y1 y2 y3)).trans ?_
  unfold queries res10
  refine queryLane_congr _ _ _ _ _ _ y1.isLt fun j hj => ?_
  refine (column_eq m ρ c t y2 (2048 + j)).trans ?_
  exact congrArg (colOf m c (batch t) (token t y2)) (by unfold source; split_ifs <;> omega)

/-- Where window 11 of the second call lies at each grid point. -/
theorem idx11 : ∀ t : Fin cfg1.N, win1_11.index t = ![t.val / 8, t.val % 8, 0] :=
  (by decide +kernel : ∀ t : Fin grid1.N, win1_11.index t = ![t.val / 8, t.val % 8, 0])
/-- The keys of the compressed branch. -/
def res11 : Vec Ideal S4x4096x128 .f32 := fun y => keyLane (cosAt (posOf m c (y 0) (y 1))) (sinAt (posOf m c (y 0) (y 1))) (fun j => colOf m c (y 0) (y 1) (2568 + j)) (y 2).val
/-- What the call leaves there. -/
theorem arr11 : (dat1 (V5 m ρ) c).arrAt 11 cfg1.N = res11 m c := by
  refine (dat1 (V5 m ρ) c).arrAt_eq_of_covers 11 (res11 m c) (by decide +kernel) fun t hf y => ?_
  blk_simp
  rw [after1_11]
  revert y
  intro (y : S1x512x128.Idx)
  idx_vars y
  have hy : y0 = 0 := Subsingleton.elim _ _
  subst hy
  have e : (win1_11.blk t).view.emb (ix3 0 y1 y2) = ix3 (batch t) (token t y1) y2 := by
    blk_ext [idx11 t]
  refine Eq.trans ?_ (congrArg (res11 m c) e).symm
  refine (out11_apply (grid1.coords t) _ _ _ _ _ _ (fun r => cosAt (posOf m c (batch t) (token t r))) (fun r => sinAt (posOf m c (batch t) (token t r))) (cos_rows m ρ c t) (sin_rows m ρ c t) 0 y1 y2).trans ?_
  refine keyLane_congr _ _ _ _ _ y2.isLt fun j hj => ?_
  refine (column_eq m ρ c t y1 (2560 + j)).trans ?_
  exact congrArg (colOf m c (batch t) (token t y1)) (by unfold source; split_ifs <;> omega)

/-- Where window 12 of the second call lies at each grid point. -/
theorem idx12 : ∀ t : Fin cfg1.N, win1_12.index t = ![t.val / 8, t.val % 8, 0] :=
  (by decide +kernel : ∀ t : Fin grid1.N, win1_12.index t = ![t.val / 8, t.val % 8, 0])
/-- The values of the compressed branch. -/
def res12 : Vec Ideal S4x4096x128 .f32 := fun y => colOf m c (y 0) (y 1) (2696 + (y 2).val)
/-- What the call leaves there. -/
theorem arr12 : (dat1 (V5 m ρ) c).arrAt 12 cfg1.N = res12 m c := by
  refine (dat1 (V5 m ρ) c).arrAt_eq_of_covers 12 (res12 m c) (by decide +kernel) fun t hf y => ?_
  blk_simp
  rw [after1_12]
  revert y
  intro (y : S1x512x128.Idx)
  idx_vars y
  have hy : y0 = 0 := Subsingleton.elim _ _
  subst hy
  have e : (win1_12.blk t).view.emb (ix3 0 y1 y2) = ix3 (batch t) (token t y1) y2 := by
    blk_ext [idx12 t]
  refine Eq.trans ?_ (congrArg (res12 m c) e).symm
  refine (out12_apply (grid1.coords t) _ _ _ _ _ _ 0 y1 y2).trans ?_
  refine (column_eq m ρ c t y1 (2688 + y2.val)).trans ?_
  exact congrArg (colOf m c (batch t) (token t y1)) (by have := y2.isLt; show source (2688 + y2.val) = 2696 + y2.val; unfold source; split_ifs <;> omega)

/-- Where window 13 of the second call lies at each grid point. -/
theorem idx13 : ∀ t : Fin cfg1.N, win1_13.index t = ![t.val / 8, 0, t.val % 8, 0] :=
  (by decide +kernel : ∀ t : Fin grid1.N, win1_13.index t = ![t.val / 8, 0, t.val % 8, 0])
/-- The keys of the selected branch. -/
def res13 : Vec Ideal S4x2x4096x128 .bf16 := fun y => markLane (cosAt (posOf m c (y 0) (y 2))) (sinAt (posOf m c (y 0) (y 2))) (fun j => colOf m c (y 0) (y 2) (2824 + j)) (y 2).val (y 1).val (y 3).val
/-- What the call leaves there. -/
theorem arr13 : (dat1 (V5 m ρ) c).arrAt 13 cfg1.N = res13 m c := by
  refine (dat1 (V5 m ρ) c).arrAt_eq_of_covers 13 (res13 m c) (by decide +kernel) fun t hf y => ?_
  blk_simp
  rw [after1_13]
  revert y
  intro (y : S1x2x512x128.Idx)
  idx_vars y
  have hy : y0 = 0 := Subsingleton.elim _ _
  subst hy
  have e : (win1_13.blk t).view.emb (ix4 0 y1 y2 y3) = ix4 (batch t) y1 (token t y2) y3 := by
    blk_ext [idx13 t]
  refine Eq.trans ?_ (congrArg (res13 m c) e).symm
  refine (out13_apply (grid1.coords t) _ _ _ _ _ _ (fun r => cosAt (posOf m c (batch t) (token t r))) (fun r => sinAt (posOf m c (batch t) (token t r))) (cos_rows m ρ c t) (sin_rows m ρ c t) (ix4 0 y1 y2 y3)).trans ?_
  unfold marks res13
  rw [coord1 t]
  refine markLane_congr _ _ _ _ _ _ _ y3.isLt fun j hj => ?_
  refine (column_eq m ρ c t y2 (2816 + j)).trans ?_
  exact congrArg (colOf m c (batch t) (token t y2)) (by unfold source; split_ifs <;> omega)

/-- Where window 14 of the second call lies at each grid point. -/
theorem idx14 : ∀ t : Fin cfg1.N, win1_14.index t = ![t.val / 8, t.val % 8, 0] :=
  (by decide +kernel : ∀ t : Fin grid1.N, win1_14.index t = ![t.val / 8, t.val % 8, 0])
/-- The values of the selected branch. -/
def res14 : Vec Ideal S4x4096x128 .bf16 := fun y => colOf m c (y 0) (y 1) (2952 + (y 2).val)
/-- What the call leaves there. -/
theorem arr14 : (dat1 (V5 m ρ) c).arrAt 14 cfg1.N = res14 m c := by
  refine (dat1 (V5 m ρ) c).arrAt_eq_of_covers 14 (res14 m c) (by decide +kernel) fun t hf y => ?_
  blk_simp
  rw [after1_14]
  revert y
  intro (y : S1x512x128.Idx)
  idx_vars y
  have hy : y0 = 0 := Subsingleton.elim _ _
  subst hy
  have e : (win1_14.blk t).view.emb (ix3 0 y1 y2) = ix3 (batch t) (token t y1) y2 := by
    blk_ext [idx14 t]
  refine Eq.trans ?_ (congrArg (res14 m c) e).symm
  refine (out14_apply (grid1.coords t) _ _ _ _ _ _ 0 y1 y2).trans ?_
  refine (column_eq m ρ c t y1 (2944 + y2.val)).trans ?_
  exact congrArg (colOf m c (batch t) (token t y1)) (by have := y2.isLt; show source (2944 + y2.val) = 2952 + y2.val; unfold source; split_ifs <;> omega)

/-- Where window 15 of the second call lies at each grid point. -/
theorem idx15 : ∀ t : Fin cfg1.N, win1_15.index t = ![t.val / 8, t.val % 8, 0] :=
  (by decide +kernel : ∀ t : Fin grid1.N, win1_15.index t = ![t.val / 8, t.val % 8, 0])
/-- The keys of the window. -/
def res15 : Vec Ideal S4x4096x128 .bf16 := fun y => keyLane (cosAt (posOf m c (y 0) (y 1))) (sinAt (posOf m c (y 0) (y 1))) (fun j => colOf m c (y 0) (y 1) (3080 + j)) (y 2).val
/-- What the call leaves there. -/
theorem arr15 : (dat1 (V5 m ρ) c).arrAt 15 cfg1.N = res15 m c := by
  refine (dat1 (V5 m ρ) c).arrAt_eq_of_covers 15 (res15 m c) (by decide +kernel) fun t hf y => ?_
  blk_simp
  rw [after1_15]
  revert y
  intro (y : S1x512x128.Idx)
  idx_vars y
  have hy : y0 = 0 := Subsingleton.elim _ _
  subst hy
  have e : (win1_15.blk t).view.emb (ix3 0 y1 y2) = ix3 (batch t) (token t y1) y2 := by
    blk_ext [idx15 t]
  refine Eq.trans ?_ (congrArg (res15 m c) e).symm
  refine (out15_apply (grid1.coords t) _ _ _ _ _ _ (fun r => cosAt (posOf m c (batch t) (token t r))) (fun r => sinAt (posOf m c (batch t) (token t r))) (cos_rows m ρ c t) (sin_rows m ρ c t) 0 y1 y2).trans ?_
  refine keyLane_congr _ _ _ _ _ y2.isLt fun j hj => ?_
  refine (column_eq m ρ c t y1 (3072 + j)).trans ?_
  exact congrArg (colOf m c (batch t) (token t y1)) (by unfold source; split_ifs <;> omega)

/-- Where window 16 of the second call lies at each grid point. -/
theorem idx16 : ∀ t : Fin cfg1.N, win1_16.index t = ![t.val / 8, t.val % 8, 0] :=
  (by decide +kernel : ∀ t : Fin grid1.N, win1_16.index t = ![t.val / 8, t.val % 8, 0])
/-- The values of the window. -/
def res16 : Vec Ideal S4x4096x128 .bf16 := fun y => colOf m c (y 0) (y 1) (3208 + (y 2).val)
/-- What the call leaves there. -/
theorem arr16 : (dat1 (V5 m ρ) c).arrAt 16 cfg1.N = res16 m c := by
  refine (dat1 (V5 m ρ) c).arrAt_eq_of_covers 16 (res16 m c) (by decide +kernel) fun t hf y => ?_
  blk_simp
  rw [after1_16]
  revert y
  intro (y : S1x512x128.Idx)
  idx_vars y
  have hy : y0 = 0 := Subsingleton.elim _ _
  subst hy
  have e : (win1_16.blk t).view.emb (ix3 0 y1 y2) = ix3 (batch t) (token t y1) y2 := by
    blk_ext [idx16 t]
  refine Eq.trans ?_ (congrArg (res16 m c) e).symm
  refine (out16_apply (grid1.coords t) _ _ _ _ _ _ 0 y1 y2).trans ?_
  refine (column_eq m ρ c t y1 (3200 + y2.val)).trans ?_
  exact congrArg (colOf m c (batch t) (token t y1)) (by have := y2.isLt; show source (3200 + y2.val) = 3208 + y2.val; unfold source; split_ifs <;> omega)

end arrays

end Cert.InpIdeal.Block
-- ==== Proof.InpRun.lean ====
module

public import proofs.«01_k».proof.Proof.InpBlock

/-! The run of the projection's program: it ends with the eleven arrays at their values and the arguments unchanged. -/

@[expose] public section

set_option maxRecDepth 16384

noncomputable section

namespace Cert.InpIdeal.Run

open Cert.InpIdeal Cert.InpIdeal.Gen Idealize.ShloMosaic Idealize.ShloMosaic.TcCoe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The program runs, and every final state has the results of the second call and the arguments as launched. -/
theorem run : θ_run defs (onTc (τ := τ) (main (F := Ideal))) ⟨m, fun _ => 0, ρ⟩ (fun r => ∀ c : Dev nD,
      r.2.mem ((c.tc : Thread nD τ).loc main_v40_0) = Block.res6 m c
      ∧ r.2.mem ((c.tc : Thread nD τ).loc main_v40_1) = Block.res7 m c
      ∧ r.2.mem ((c.tc : Thread nD τ).loc main_v40_2) = Block.res8 m c
      ∧ r.2.mem ((c.tc : Thread nD τ).loc main_v40_3) = Block.res9 m c
      ∧ r.2.mem ((c.tc : Thread nD τ).loc main_v40_4) = Block.res10 m c
      ∧ r.2.mem ((c.tc : Thread nD τ).loc main_v40_5) = Block.res11 m c
      ∧ r.2.mem ((c.tc : Thread nD τ).loc main_v40_6) = Block.res12 m c
      ∧ r.2.mem ((c.tc : Thread nD τ).loc main_v40_7) = Block.res13 m c
      ∧ r.2.mem ((c.tc : Thread nD τ).loc main_v40_8) = Block.res14 m c
      ∧ r.2.mem ((c.tc : Thread nD τ).loc main_v40_9) = Block.res15 m c
      ∧ r.2.mem ((c.tc : Thread nD τ).loc main_v40_10) = Block.res16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨(h c _ (mem_uc main_v40_0 (by decide))).trans ((W6_arr m ρ c 6).trans (Block.arr6 m ρ c)),
       (h c _ (mem_uc main_v40_1 (by decide))).trans ((W6_arr m ρ c 7).trans (Block.arr7 m ρ c)),
       (h c _ (mem_uc main_v40_2 (by decide))).trans ((W6_arr m ρ c 8).trans (Block.arr8 m ρ c)),
       (h c _ (mem_uc main_v40_3 (by decide))).trans ((W6_arr m ρ c 9).trans (Block.arr9 m ρ c)),
       (h c _ (mem_uc main_v40_4 (by decide))).trans ((W6_arr m ρ c 10).trans (Block.arr10 m ρ c)),
       (h c _ (mem_uc main_v40_5 (by decide))).trans ((W6_arr m ρ c 11).trans (Block.arr11 m ρ c)),
       (h c _ (mem_uc main_v40_6 (by decide))).trans ((W6_arr m ρ c 12).trans (Block.arr12 m ρ c)),
       (h c _ (mem_uc main_v40_7 (by decide))).trans ((W6_arr m ρ c 13).trans (Block.arr13 m ρ c)),
       (h c _ (mem_uc main_v40_8 (by decide))).trans ((W6_arr m ρ c 14).trans (Block.arr14 m ρ c)),
       (h c _ (mem_uc main_v40_9 (by decide))).trans ((W6_arr m ρ c 15).trans (Block.arr15 m ρ c)),
       (h c _ (mem_uc main_v40_10 (by decide))).trans ((W6_arr m ρ c 16).trans (Block.arr16 m ρ c)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩))

end Cert.InpIdeal.Run
-- ==== Proof.InpRef.lean ====
module

public import proofs.«01_k».proof.Proof.Gen.InpRefIdeal.Run
public import proofs.«01_k».proof.Proof.Gen.InpRefIdeal.Read
public import proofs.«01_k».proof.Proof.InpMath
public import Idealize.ShloMosaic.Lib.Pointwise

/-! The reference of the input projection at the extended reals, read at an index. -/

@[expose] public section

set_option maxRecDepth 16384

noncomputable section

namespace Cert.InpRefIdeal.Row

open Cert.InpRefIdeal Cert.InpRefIdeal.Gen Cert.InpRefIdeal.Read Idealize.ShloMosaic Idealize.ShloMosaic.TcCoe Idealize.SL.Sem Idealize.ShloMosaic.StableHlo Cert.Half

variable (x0 : Vec Ideal S4x4096x1024 .f32) (x1 : Vec Ideal S2x4x9216 .f32) (x2 : Vec Ideal S2x3x1024 .f32)
  (x3 : Vec Ideal S2x1024x3360 .f32) (x4 : IVec S4x4096 32)

/-- Vector `q` of sub-layer `j` of the modulation of sample `b`. -/
abbrev modR (l : Fin 2) (b : Fin 4) (j q : Fin 3) (p : Fin 1024) : EReal :=
  x1 (ix3 l b ⟨3072 * j.val + 1024 * q.val + p.val, by have := j.isLt; have := q.isLt; have := p.isLt; omega⟩)

/-- The reshaped modulation. -/
theorem mod_apply (b : Fin 4) (j q : Fin 3) (p : Fin 1024) : val_main_v18 (F := Ideal) x1 (ix4 b j q p) = modR x1 0 b j q p := by
  unfold val_main_v18 val_main_v17 val_main_v16
  pointwise
  exact congrArg (fun r => x1 (ix3 0 b r)) (Fin.ext (by show j.val * 3072 + q.val * 1024 + p.val = 3072 * j.val + 1024 * q.val + p.val; omega))

/-- The modulated row of token `s` of sample `b`. -/
def row (b : Fin 4) (s : Fin 4096) : Fin 1024 → EReal :=
  modulated (fun p => x2 (ix3 0 1 p)) (fun p => modR x1 0 b 1 1 p) (fun p => modR x1 0 b 1 0 p) (fun p => x0 (ix3 b s p))

/-- Column `j` of its projection. -/
def colR (b : Fin 4) (s : Fin 4096) (j : ℕ) : EReal := col (row x0 x1 x2 b s) (fun p k => x3 (ix3 0 p k)) j

/-- The modulated row. -/
theorem hid_apply (b : Fin 4) (s : Fin 4096) (i : Fin 1024) : val_main_v45 (F := Ideal) x0 x1 x2 (ix3 b s i) = row x0 x1 x2 b s i := by
  unfold val_main_v45 val_main_v44 val_main_v43 val_main_v42 val_main_v41 val_main_v40 val_main_v39 val_main_cst_4 val_main_v38 val_main_v37
    val_main_v36 val_main_v35 val_main_v34 val_main_v33 val_main_v32 val_main_v31 val_main_v30 val_main_v29 val_main_v28 val_main_v27 val_main_v26
    val_main_cst_3 val_main_v25 val_main_v24 val_main_cst_2 val_main_v23 val_main_v22 val_main_cst_1 val_main_v21 val_main_v20 val_main_v19
  pointwise [mod_apply]
  unfold row modulated Half.norm
  rfl

/-- The projection. -/
theorem prod_apply (b : Fin 4) (s : Fin 4096) (k : Fin 3360) : val_main_v48 (F := Ideal) x0 x1 x2 x3 (ix3 b s k) = colR x0 x1 x2 x3 b s k.val := by
  unfold colR
  rw [col_of_lt _ _ _ k.isLt]
  unfold val_main_v48 val_main_v47 val_main_v46
  pointwise [hid_apply]

/-- The rows for the recurrence. -/
theorem s49_apply (b : Fin 4) (s : Fin 4096) (l : Fin 1536) : val_main_v49 (F := Ideal) x0 x1 x2 x3 (ix3 b s l) = colR x0 x1 x2 x3 b s (0 + l.val) := by
  unfold val_main_v49
  refine Eq.trans (b := val_main_v48 (F := Ideal) x0 x1 x2 x3 (ix3 b s ⟨0 + l.val, by have := l.isLt; omega⟩)) ?_ (prod_apply x0 x1 x2 x3 b s _)
  generalize val_main_v48 (F := Ideal) x0 x1 x2 x3 = X
  pointwise

/-- The gate's rows. -/
theorem s50_apply (b : Fin 4) (s : Fin 4096) (l : Fin 512) : val_main_v50 (F := Ideal) x0 x1 x2 x3 (ix3 b s l) = colR x0 x1 x2 x3 b s (1536 + l.val) := by
  unfold val_main_v50
  refine Eq.trans (b := val_main_v48 (F := Ideal) x0 x1 x2 x3 (ix3 b s ⟨1536 + l.val, by have := l.isLt; omega⟩)) ?_ (prod_apply x0 x1 x2 x3 b s _)
  generalize val_main_v48 (F := Ideal) x0 x1 x2 x3 = X
  pointwise

/-- The raw columns of the gates. -/
theorem s51_apply (b : Fin 4) (s : Fin 4096) (l : Fin 4) : val_main_v51 (F := Ideal) x0 x1 x2 x3 (ix3 b s l) = colR x0 x1 x2 x3 b s (2048 + l.val) := by
  unfold val_main_v51
  refine Eq.trans (b := val_main_v48 (F := Ideal) x0 x1 x2 x3 (ix3 b s ⟨2048 + l.val, by have := l.isLt; omega⟩)) ?_ (prod_apply x0 x1 x2 x3 b s _)
  generalize val_main_v48 (F := Ideal) x0 x1 x2 x3 = X
  pointwise

@[inherit_doc s51_apply]
theorem s52_apply (b : Fin 4) (s : Fin 4096) (l : Fin 4) : val_main_v52 (F := Ideal) x0 x1 x2 x3 (ix3 b s l) = colR x0 x1 x2 x3 b s (2052 + l.val) := by
  unfold val_main_v52
  refine Eq.trans (b := val_main_v48 (F := Ideal) x0 x1 x2 x3 (ix3 b s ⟨2052 + l.val, by have := l.isLt; omega⟩)) ?_ (prod_apply x0 x1 x2 x3 b s _)
  generalize val_main_v48 (F := Ideal) x0 x1 x2 x3 = X
  pointwise

@[inherit_doc s51_apply]
theorem s60_apply (b : Fin 4) (s : Fin 4096) (l : Fin 24) : val_main_v60 (F := Ideal) x0 x1 x2 x3 (ix3 b s l) = colR x0 x1 x2 x3 b s (3336 + l.val) := by
  unfold val_main_v60
  refine Eq.trans (b := val_main_v48 (F := Ideal) x0 x1 x2 x3 (ix3 b s ⟨3336 + l.val, by have := l.isLt; omega⟩)) ?_ (prod_apply x0 x1 x2 x3 b s _)
  generalize val_main_v48 (F := Ideal) x0 x1 x2 x3 = X
  pointwise

/-- The columns of the queries, of the keys and of the values. -/
theorem s53_apply (b : Fin 4) (s : Fin 4096) (l : Fin 512) : val_main_v53 (F := Ideal) x0 x1 x2 x3 (ix3 b s l) = colR x0 x1 x2 x3 b s (2056 + l.val) := by
  unfold val_main_v53
  refine Eq.trans (b := val_main_v48 (F := Ideal) x0 x1 x2 x3 (ix3 b s ⟨2056 + l.val, by have := l.isLt; omega⟩)) ?_ (prod_apply x0 x1 x2 x3 b s _)
  generalize val_main_v48 (F := Ideal) x0 x1 x2 x3 = X
  pointwise

@[inherit_doc s53_apply]
theorem s54_apply (b : Fin 4) (s : Fin 4096) (l : Fin 128) : val_main_v54 (F := Ideal) x0 x1 x2 x3 (ix3 b s l) = colR x0 x1 x2 x3 b s (2568 + l.val) := by
  unfold val_main_v54
  refine Eq.trans (b := val_main_v48 (F := Ideal) x0 x1 x2 x3 (ix3 b s ⟨2568 + l.val, by have := l.isLt; omega⟩)) ?_ (prod_apply x0 x1 x2 x3 b s _)
  generalize val_main_v48 (F := Ideal) x0 x1 x2 x3 = X
  pointwise

@[inherit_doc s53_apply]
theorem s55_apply (b : Fin 4) (s : Fin 4096) (l : Fin 128) : val_main_v55 (F := Ideal) x0 x1 x2 x3 (ix3 b s l) = colR x0 x1 x2 x3 b s (2696 + l.val) := by
  unfold val_main_v55
  refine Eq.trans (b := val_main_v48 (F := Ideal) x0 x1 x2 x3 (ix3 b s ⟨2696 + l.val, by have := l.isLt; omega⟩)) ?_ (prod_apply x0 x1 x2 x3 b s _)
  generalize val_main_v48 (F := Ideal) x0 x1 x2 x3 = X
  pointwise

@[inherit_doc s53_apply]
theorem s56_apply (b : Fin 4) (s : Fin 4096) (l : Fin 128) : val_main_v56 (F := Ideal) x0 x1 x2 x3 (ix3 b s l) = colR x0 x1 x2 x3 b s (2824 + l.val) := by
  unfold val_main_v56
  refine Eq.trans (b := val_main_v48 (F := Ideal) x0 x1 x2 x3 (ix3 b s ⟨2824 + l.val, by have := l.isLt; omega⟩)) ?_ (prod_apply x0 x1 x2 x3 b s _)
  generalize val_main_v48 (F := Ideal) x0 x1 x2 x3 = X
  pointwise

@[inherit_doc s53_apply]
theorem s57_apply (b : Fin 4) (s : Fin 4096) (l : Fin 128) : val_main_v57 (F := Ideal) x0 x1 x2 x3 (ix3 b s l) = colR x0 x1 x2 x3 b s (2952 + l.val) := by
  unfold val_main_v57
  refine Eq.trans (b := val_main_v48 (F := Ideal) x0 x1 x2 x3 (ix3 b s ⟨2952 + l.val, by have := l.isLt; omega⟩)) ?_ (prod_apply x0 x1 x2 x3 b s _)
  generalize val_main_v48 (F := Ideal) x0 x1 x2 x3 = X
  pointwise

@[inherit_doc s53_apply]
theorem s58_apply (b : Fin 4) (s : Fin 4096) (l : Fin 128) : val_main_v58 (F := Ideal) x0 x1 x2 x3 (ix3 b s l) = colR x0 x1 x2 x3 b s (3080 + l.val) := by
  unfold val_main_v58
  refine Eq.trans (b := val_main_v48 (F := Ideal) x0 x1 x2 x3 (ix3 b s ⟨3080 + l.val, by have := l.isLt; omega⟩)) ?_ (prod_apply x0 x1 x2 x3 b s _)
  generalize val_main_v48 (F := Ideal) x0 x1 x2 x3 = X
  pointwise

@[inherit_doc s53_apply]
theorem s59_apply (b : Fin 4) (s : Fin 4096) (l : Fin 128) : val_main_v59 (F := Ideal) x0 x1 x2 x3 (ix3 b s l) = colR x0 x1 x2 x3 b s (3208 + l.val) := by
  unfold val_main_v59
  refine Eq.trans (b := val_main_v48 (F := Ideal) x0 x1 x2 x3 (ix3 b s ⟨3208 + l.val, by have := l.isLt; omega⟩)) ?_ (prod_apply x0 x1 x2 x3 b s _)
  generalize val_main_v48 (F := Ideal) x0 x1 x2 x3 = X
  pointwise

/-- The cosines and the sines of a token's position. -/
theorem cos_apply (b : Fin 4) (s : Fin 4096) (e : Fin 8) : val_main_v13 (F := Ideal) x4 (ix4 b s 0 e) = cosAt (x4 (ix2 b s)) e.val := by
  unfold val_main_v13 val_main_v12 val_main_v11 val_main_v10 val_main_v9 val_main_v8 val_main_v7 val_main_v6 val_main_v5 val_main_v4 val_main_cst_0
    val_main_v3 val_main_v2 val_main_cst val_main_v1 val_main_v0
  pointwise
  rfl
@[inherit_doc cos_apply]
theorem sin_apply (b : Fin 4) (s : Fin 4096) (e : Fin 8) : val_main_v15 (F := Ideal) x4 (ix4 b s 0 e) = sinAt (x4 (ix2 b s)) e.val := by
  unfold val_main_v15 val_main_v14 val_main_v11 val_main_v10 val_main_v9 val_main_v8 val_main_v7 val_main_v6 val_main_v5 val_main_v4 val_main_cst_0
    val_main_v3 val_main_v2 val_main_cst val_main_v1 val_main_v0
  pointwise
  rfl

/-- The raw columns of the gates side by side. -/
theorem small_apply (b : Fin 4) (s : Fin 4096) (l : Fin 32) : val_main_v61 (F := Ideal) x0 x1 x2 x3 (ix3 b s l) = colR x0 x1 x2 x3 b s (source (3328 + l.val)) := by
  have hl := l.isLt
  have e51 := s51_apply x0 x1 x2 x3 b s
  have e52 := s52_apply x0 x1 x2 x3 b s
  have e60 := s60_apply x0 x1 x2 x3 b s
  unfold val_main_v61
  generalize val_main_v51 (F := Ideal) x0 x1 x2 x3 = A at *
  generalize val_main_v52 (F := Ideal) x0 x1 x2 x3 = B at *
  generalize val_main_v60 (F := Ideal) x0 x1 x2 x3 = C at *
  generalize hR : colR x0 x1 x2 x3 b s (source (3328 + l.val)) = R
  pointwise
  subst hR
  refine branches (fun h => ?_) fun h => branches (fun h' => ?_) fun h' => ?_
  · exact (e51 _).trans (congrArg (colR x0 x1 x2 x3 b s) (by show 2048 + l.val = _; unfold source; split_ifs <;> omega))
  · exact (e52 _).trans (congrArg (colR x0 x1 x2 x3 b s) (by show 2052 + (l.val - 4) = _; unfold source; split_ifs <;> omega))
  · exact (e60 _).trans (congrArg (colR x0 x1 x2 x3 b s) (by show 3336 + (l.val - 4 - 4) = _; unfold source; split_ifs <;> omega))

/-- A column past the last is zero. -/
theorem past (b : Fin 4) (s : Fin 4096) (j : ℕ) (hj : 3360 = j) : (0 : EReal) = colR x0 x1 x2 x3 b s j :=
  (col_of_ge _ _ j (by omega)).symm

/-- The gates' columns over 128 lanes. -/
theorem ba_apply (b : Fin 4) (s : Fin 4096) (l : Fin 128) : val_main_v64 (F := Ideal) x0 x1 x2 x3 (ix3 b s l) = colR x0 x1 x2 x3 b s (source (3328 + l.val)) := by
  have hl := l.isLt
  have e61 := small_apply x0 x1 x2 x3 b s
  have e60 := s60_apply x0 x1 x2 x3 b s
  unfold val_main_v64 val_main_v62 val_main_v63 val_main_cst_5 val_main_cst_6
  generalize val_main_v61 (F := Ideal) x0 x1 x2 x3 = A at *
  generalize val_main_v60 (F := Ideal) x0 x1 x2 x3 = C at *
  generalize hR : colR x0 x1 x2 x3 b s (source (3328 + l.val)) = R
  pointwise
  subst hR
  refine branches (fun h => ?_) fun h => branches (fun h' => ?_) fun h' => branches (fun h'' => ?_) fun h'' => ?_
  · exact e61 _
  · exact past x0 x1 x2 x3 b s _ (by unfold source; split_ifs <;> omega)
  · exact (e60 _).trans (congrArg (colR x0 x1 x2 x3 b s) (by show 3336 + (l.val - 32 - 40) = _; unfold source; split_ifs <;> omega))
  · exact past x0 x1 x2 x3 b s _ (by unfold source; split_ifs <;> omega)

/-- The same columns turned. -/
theorem bat_apply (b : Fin 4) (l : Fin 32) (s : Fin 4096) : val_main_v131 (F := Ideal) x0 x1 x2 x3 (ix3 b l s) = colR x0 x1 x2 x3 b s (source (3328 + l.val)) := by
  have e61 := small_apply x0 x1 x2 x3 b s
  unfold val_main_v131
  generalize val_main_v61 (F := Ideal) x0 x1 x2 x3 = A at *
  pointwise
  exact e61 l

/-- The turned heads. -/
theorem v81_apply (b : Fin 4) (s : Fin 4096) (n : Fin 8) (d : Fin 64) : val_main_v81 (F := Ideal) x0 x1 x2 x3 x4 (ix4 b s n d)
    = turn (cosAt (x4 (ix2 b s))) (sinAt (x4 (ix2 b s))) (fun j => colR x0 x1 x2 x3 b s (2056 + (64 * n.val + j))) d.val := by
  have hd := d.isLt
  have hn := n.isLt
  have ex := s53_apply x0 x1 x2 x3 b s
  have ec := cos_apply x4 b s
  have es := sin_apply x4 b s
  unfold val_main_v81 val_main_v80 val_main_v79 val_main_v78 val_main_v77 val_main_v76 val_main_v75 val_main_v74 val_main_v73 val_main_v72 val_main_v71
    val_main_v70 val_main_v69 val_main_v68 val_main_v67 val_main_v66 val_main_v65
  generalize val_main_v53 (F := Ideal) x0 x1 x2 x3 = X at *
  generalize val_main_v13 (F := Ideal) x4 = CO at *
  generalize val_main_v15 (F := Ideal) x4 = SI at *
  generalize hR : turn _ _ _ _ = R
  pointwise
  subst hR
  unfold turn
  have at_ : ∀ k e : ℕ, k = 64 * n.val + e → colR x0 x1 x2 x3 b s (2056 + k) = colR x0 x1 x2 x3 b s (2056 + (64 * n.val + e)) :=
    fun k e h => congrArg (fun j => colR x0 x1 x2 x3 b s (2056 + j)) h
  refine branches (fun h => branches (fun h' => ?_) fun h' => ?_) fun h => ?_
  · rw [if_pos h']
    exact (congrArg₂ (· - ·) (congrArg₂ (· * ·) (ex _) (ec _)) (congrArg₂ (· * ·) (ex _) (es _))).trans
      (congrArg₂ (· - ·) (congrArg₂ (· * ·) (at_ (n.val * 64 + d.val) d.val (by omega)) rfl)
        (congrArg₂ (· * ·) (at_ (n.val * 64 + (8 + d.val)) (d.val + 8) (by omega)) rfl))
  · rw [if_neg h', if_pos h]
    exact (congrArg₂ (· + ·) (congrArg₂ (· * ·) (ex _) (ec _)) (congrArg₂ (· * ·) (ex _) (es _))).trans
      (congrArg₂ (· + ·) (congrArg₂ (· * ·) (at_ (n.val * 64 + (8 + (d.val - 8))) d.val (by omega)) rfl)
        (congrArg₂ (· * ·) (at_ (n.val * 64 + (d.val - 8)) (d.val - 8) (by omega)) rfl))
  · rw [if_neg (show ¬ d.val < 8 from fun h8 => h (Nat.lt_trans h8 (by decide))), if_neg h]
    exact (ex _).trans (at_ (n.val * 64 + (16 + (d.val - 16))) d.val (by omega))

/-- The turned heads. -/
theorem v107_apply (b : Fin 4) (s : Fin 4096) (n : Fin 2) (d : Fin 64) : val_main_v107 (F := Ideal) x0 x1 x2 x3 x4 (ix4 b s n d)
    = turn (cosAt (x4 (ix2 b s))) (sinAt (x4 (ix2 b s))) (fun j => colR x0 x1 x2 x3 b s (2824 + (64 * n.val + j))) d.val := by
  have hd := d.isLt
  have hn := n.isLt
  have ex := s56_apply x0 x1 x2 x3 b s
  have ec := cos_apply x4 b s
  have es := sin_apply x4 b s
  unfold val_main_v107 val_main_v106 val_main_v105 val_main_v104 val_main_v103 val_main_v102 val_main_v101 val_main_v100 val_main_v99 val_main_v98
    val_main_v97 val_main_v96 val_main_v95 val_main_v94 val_main_v93 val_main_v92 val_main_v91
  generalize val_main_v56 (F := Ideal) x0 x1 x2 x3 = X at *
  generalize val_main_v13 (F := Ideal) x4 = CO at *
  generalize val_main_v15 (F := Ideal) x4 = SI at *
  generalize hR : turn _ _ _ _ = R
  pointwise
  subst hR
  unfold turn
  have at_ : ∀ k e : ℕ, k = 64 * n.val + e → colR x0 x1 x2 x3 b s (2824 + k) = colR x0 x1 x2 x3 b s (2824 + (64 * n.val + e)) :=
    fun k e h => congrArg (fun j => colR x0 x1 x2 x3 b s (2824 + j)) h
  refine branches (fun h => branches (fun h' => ?_) fun h' => ?_) fun h => ?_
  · rw [if_pos h']
    exact (congrArg₂ (· - ·) (congrArg₂ (· * ·) (ex _) (ec _)) (congrArg₂ (· * ·) (ex _) (es _))).trans
      (congrArg₂ (· - ·) (congrArg₂ (· * ·) (at_ (n.val * 64 + d.val) d.val (by omega)) rfl)
        (congrArg₂ (· * ·) (at_ (n.val * 64 + (8 + d.val)) (d.val + 8) (by omega)) rfl))
  · rw [if_neg h', if_pos h]
    exact (congrArg₂ (· + ·) (congrArg₂ (· * ·) (ex _) (ec _)) (congrArg₂ (· * ·) (ex _) (es _))).trans
      (congrArg₂ (· + ·) (congrArg₂ (· * ·) (at_ (n.val * 64 + (8 + (d.val - 8))) d.val (by omega)) rfl)
        (congrArg₂ (· * ·) (at_ (n.val * 64 + (d.val - 8)) (d.val - 8) (by omega)) rfl))
  · rw [if_neg (show ¬ d.val < 8 from fun h8 => h (Nat.lt_trans h8 (by decide))), if_neg h]
    exact (ex _).trans (at_ (n.val * 64 + (16 + (d.val - 16))) d.val (by omega))

/-- The turned heads. -/
theorem v149_apply (b : Fin 4) (s : Fin 4096) (n : Fin 2) (d : Fin 64) : val_main_v149 (F := Ideal) x0 x1 x2 x3 x4 (ix4 b s n d)
    = turn (cosAt (x4 (ix2 b s))) (sinAt (x4 (ix2 b s))) (fun j => colR x0 x1 x2 x3 b s (2568 + (64 * n.val + j))) d.val := by
  have hd := d.isLt
  have hn := n.isLt
  have ex := s54_apply x0 x1 x2 x3 b s
  have ec := cos_apply x4 b s
  have es := sin_apply x4 b s
  unfold val_main_v149 val_main_v148 val_main_v147 val_main_v146 val_main_v145 val_main_v144 val_main_v143 val_main_v142 val_main_v141 val_main_v140
    val_main_v139 val_main_v138 val_main_v137 val_main_v136 val_main_v135 val_main_v134 val_main_v133
  generalize val_main_v54 (F := Ideal) x0 x1 x2 x3 = X at *
  generalize val_main_v13 (F := Ideal) x4 = CO at *
  generalize val_main_v15 (F := Ideal) x4 = SI at *
  generalize hR : turn _ _ _ _ = R
  pointwise
  subst hR
  unfold turn
  have at_ : ∀ k e : ℕ, k = 64 * n.val + e → colR x0 x1 x2 x3 b s (2568 + k) = colR x0 x1 x2 x3 b s (2568 + (64 * n.val + e)) :=
    fun k e h => congrArg (fun j => colR x0 x1 x2 x3 b s (2568 + j)) h
  refine branches (fun h => branches (fun h' => ?_) fun h' => ?_) fun h => ?_
  · rw [if_pos h']
    exact (congrArg₂ (· - ·) (congrArg₂ (· * ·) (ex _) (ec _)) (congrArg₂ (· * ·) (ex _) (es _))).trans
      (congrArg₂ (· - ·) (congrArg₂ (· * ·) (at_ (n.val * 64 + d.val) d.val (by omega)) rfl)
        (congrArg₂ (· * ·) (at_ (n.val * 64 + (8 + d.val)) (d.val + 8) (by omega)) rfl))
  · rw [if_neg h', if_pos h]
    exact (congrArg₂ (· + ·) (congrArg₂ (· * ·) (ex _) (ec _)) (congrArg₂ (· * ·) (ex _) (es _))).trans
      (congrArg₂ (· + ·) (congrArg₂ (· * ·) (at_ (n.val * 64 + (8 + (d.val - 8))) d.val (by omega)) rfl)
        (congrArg₂ (· * ·) (at_ (n.val * 64 + (d.val - 8)) (d.val - 8) (by omega)) rfl))
  · rw [if_neg (show ¬ d.val < 8 from fun h8 => h (Nat.lt_trans h8 (by decide))), if_neg h]
    exact (ex _).trans (at_ (n.val * 64 + (16 + (d.val - 16))) d.val (by omega))

/-- The turned heads. -/
theorem v169_apply (b : Fin 4) (s : Fin 4096) (n : Fin 2) (d : Fin 64) : val_main_v169 (F := Ideal) x0 x1 x2 x3 x4 (ix4 b s n d)
    = turn (cosAt (x4 (ix2 b s))) (sinAt (x4 (ix2 b s))) (fun j => colR x0 x1 x2 x3 b s (3080 + (64 * n.val + j))) d.val := by
  have hd := d.isLt
  have hn := n.isLt
  have ex := s58_apply x0 x1 x2 x3 b s
  have ec := cos_apply x4 b s
  have es := sin_apply x4 b s
  unfold val_main_v169 val_main_v168 val_main_v167 val_main_v166 val_main_v165 val_main_v164 val_main_v163 val_main_v162 val_main_v161 val_main_v160
    val_main_v159 val_main_v158 val_main_v157 val_main_v156 val_main_v155 val_main_v154 val_main_v153
  generalize val_main_v58 (F := Ideal) x0 x1 x2 x3 = X at *
  generalize val_main_v13 (F := Ideal) x4 = CO at *
  generalize val_main_v15 (F := Ideal) x4 = SI at *
  generalize hR : turn _ _ _ _ = R
  pointwise
  subst hR
  unfold turn
  have at_ : ∀ k e : ℕ, k = 64 * n.val + e → colR x0 x1 x2 x3 b s (3080 + k) = colR x0 x1 x2 x3 b s (3080 + (64 * n.val + e)) :=
    fun k e h => congrArg (fun j => colR x0 x1 x2 x3 b s (3080 + j)) h
  refine branches (fun h => branches (fun h' => ?_) fun h' => ?_) fun h => ?_
  · rw [if_pos h']
    exact (congrArg₂ (· - ·) (congrArg₂ (· * ·) (ex _) (ec _)) (congrArg₂ (· * ·) (ex _) (es _))).trans
      (congrArg₂ (· - ·) (congrArg₂ (· * ·) (at_ (n.val * 64 + d.val) d.val (by omega)) rfl)
        (congrArg₂ (· * ·) (at_ (n.val * 64 + (8 + d.val)) (d.val + 8) (by omega)) rfl))
  · rw [if_neg h', if_pos h]
    exact (congrArg₂ (· + ·) (congrArg₂ (· * ·) (ex _) (ec _)) (congrArg₂ (· * ·) (ex _) (es _))).trans
      (congrArg₂ (· + ·) (congrArg₂ (· * ·) (at_ (n.val * 64 + (8 + (d.val - 8))) d.val (by omega)) rfl)
        (congrArg₂ (· * ·) (at_ (n.val * 64 + (d.val - 8)) (d.val - 8) (by omega)) rfl))
  · rw [if_neg (show ¬ d.val < 8 from fun h8 => h (Nat.lt_trans h8 (by decide))), if_neg h]
    exact (ex _).trans (at_ (n.val * 64 + (16 + (d.val - 16))) d.val (by omega))

/-- The keys of the compressed branch. -/
theorem key150_apply (b : Fin 4) (s : Fin 4096) (l : Fin 128) : val_main_v150 (F := Ideal) x0 x1 x2 x3 x4 (ix3 b s l)
    = keyLane (cosAt (x4 (ix2 b s))) (sinAt (x4 (ix2 b s))) (fun j => colR x0 x1 x2 x3 b s (2568 + j)) l.val := by
  have hl := l.isLt
  have e := v149_apply x0 x1 x2 x3 x4 b s
  unfold val_main_v150
  generalize val_main_v149 (F := Ideal) x0 x1 x2 x3 x4 = X at *
  refine Eq.trans (b := X (ix4 b s ⟨l.val / 64, by omega⟩ ⟨l.val % 64, by omega⟩)) ?_ (e _ _)
  clear e
  pointwise

/-- The keys of the window. -/
theorem key171_apply (b : Fin 4) (s : Fin 4096) (l : Fin 128) : val_main_v171 (F := Ideal) x0 x1 x2 x3 x4 (ix3 b s l)
    = keyLane (cosAt (x4 (ix2 b s))) (sinAt (x4 (ix2 b s))) (fun j => colR x0 x1 x2 x3 b s (3080 + j)) l.val := by
  have hl := l.isLt
  have e := v169_apply x0 x1 x2 x3 x4 b s
  unfold val_main_v171 val_main_v170
  generalize val_main_v169 (F := Ideal) x0 x1 x2 x3 x4 = X at *
  refine Eq.trans (b := X (ix4 b s ⟨l.val / 64, by omega⟩ ⟨l.val % 64, by omega⟩)) ?_ (e _ _)
  clear e
  pointwise

/-- The queries of eight heads. -/
theorem query_apply (b : Fin 4) (n : Fin 8) (s : Fin 4096) (l : Fin 128) : val_main_v132 (F := Ideal) x0 x1 x2 x3 x4 (ix4 b n s l)
    = queryLane (cosAt (x4 (ix2 b s))) (sinAt (x4 (ix2 b s))) (fun j => colR x0 x1 x2 x3 b s (2056 + j)) n.val l.val := by
  have hl := l.isLt
  have hn := n.isLt
  have e := v81_apply x0 x1 x2 x3 x4 b s
  unfold val_main_v132 val_main_v90 val_main_v89 val_main_v88 val_main_v87 val_main_v86 val_main_v85 val_main_cst_8 val_main_v84 val_main_v83
    val_main_v82 val_main_cst_7
  generalize val_main_v81 (F := Ideal) x0 x1 x2 x3 x4 = X at *
  generalize hR : queryLane _ _ _ _ _ = R
  pointwise
  subst hR
  unfold queryLane
  refine branches (fun h => branches (fun h' => ?_) fun h' => ?_) fun h => branches (fun h' => ?_) fun h' => ?_
  · rw [if_pos (by omega)]
    refine congrArg (· * qScale) ((e _ _).trans ?_)
    show turn _ _ _ l.val = _
    rw [Nat.mod_eq_of_lt h']
  · rw [if_neg (by omega)]
  · rw [if_neg (by omega)]
  · have h4 := Nat.le_of_not_lt h
    have h64 := Nat.le_of_not_lt h'
    have hq : l.val / 64 = n.val / 4 := by omega
    have hr : l.val - 64 = l.val % 64 := by omega
    have hs : 4 + (n.val - 4) = n.val := by omega
    refine (congrArg (· * qScale) (e _ _)).trans ?_
    show turn _ _ (fun j => colR x0 x1 x2 x3 b s (2056 + (64 * (4 + (n.val - 4)) + j))) (l.val - 64) * qScale = _
    rw [if_pos hq, hs, hr]

/-- The number of a token's block, as the reference computes it. -/
theorem block_apply (s : Fin 4096) : IntOp.remsi ArithUnit.host (IntOp.divsi ArithUnit.host (BitVec.ofNat 32 s.val) 64#32) 16#32
    = BitVec.ofNat 32 (s.val / 64 % 16) := by
  revert s; decide +kernel
/-- Two small numbers compared. -/
theorem same_apply (a : Fin 16) (d : Fin 64) : IntOp.cmpi .eq (BitVec.ofNat 32 a.val) (BitVec.ofNat 32 d.val) = if d.val = a.val then 1 else 0 := by
  revert d a; decide +kernel

/-- The mark of a token's block of 64 tokens. -/
theorem mark_apply (b : Fin 4) (s : Fin 4096) (d : Fin 64) : val_main_v121 (F := Ideal) (ix3 b s d) = if d.val = s.val / 64 % 16 then 1 else 0 := by
  unfold val_main_v121 val_main_v120 val_main_v119 val_main_v118 val_main_v117 val_main_v116 val_main_v115 val_main_v114 val_main_v113 val_main_v112
    val_main_v111 val_main_c_9 val_main_v110 val_main_v109 val_main_c val_main_v108
  pointwise
  rw [block_apply, same_apply ⟨s.val / 64 % 16, Nat.mod_lt _ (by decide)⟩ d]
  by_cases h : d.val = s.val / 64 % 16
  · rw [if_pos h, if_pos h]
    show (((1 : ℕ) : ℝ) : EReal) = 1
    simp
  · rw [if_neg h, if_neg h]
    show (((0 : ℕ) : ℝ) : EReal) = 0
    simp

/-- The keys of the selected branch. -/
theorem mark_key_apply (b : Fin 4) (n : Fin 2) (s : Fin 4096) (l : Fin 128) : val_main_v151 (F := Ideal) x0 x1 x2 x3 x4 (ix4 b n s l)
    = markLane (cosAt (x4 (ix2 b s))) (sinAt (x4 (ix2 b s))) (fun j => colR x0 x1 x2 x3 b s (2824 + j)) s.val n.val l.val := by
  have hl := l.isLt
  have hn := n.isLt
  have e := v107_apply x0 x1 x2 x3 x4 b s
  have em := mark_apply b s
  unfold val_main_v151 val_main_v130 val_main_v129 val_main_v128 val_main_v127 val_main_v126 val_main_v125 val_main_v124 val_main_v123 val_main_v122
  generalize val_main_v107 (F := Ideal) x0 x1 x2 x3 x4 = X at *
  generalize val_main_v121 (F := Ideal) = M at *
  generalize hR : markLane _ _ _ _ _ _ = R
  pointwise
  subst hR
  unfold markLane keyLane
  refine branches (fun h => branches (fun h' => ?_) fun h' => ?_) fun h => branches (fun h' => ?_) fun h' => ?_
  · have hq : l.val / 64 = n.val := by omega
    have h0 : n.val = 0 := by omega
    refine (e _ _).trans ?_
    show turn _ _ (fun j => colR x0 x1 x2 x3 b s (2824 + (64 * 0 + j))) l.val = _
    rw [if_pos hq, hq, h0, Nat.mod_eq_of_lt h']
  · have hq : ¬ l.val / 64 = n.val := by clear e em; have := Nat.le_of_not_lt h'; omega
    have hr : l.val - 64 = l.val % 64 := by clear e em; have := Nat.le_of_not_lt h'; omega
    refine (em _).trans ?_
    show (if l.val - 64 = _ then _ else _) = _
    rw [if_neg hq, hr]
  · have hq : ¬ l.val / 64 = n.val := by have := Nat.le_of_not_lt h; omega
    refine (em _).trans ?_
    show (if l.val = _ then _ else _) = _
    rw [if_neg hq, Nat.mod_eq_of_lt h']
  · have h64 := Nat.le_of_not_lt h'
    have h1 : n.val = 1 := by have := Nat.le_of_not_lt h; omega
    have hq : l.val / 64 = n.val := by omega
    have hr : l.val - 64 = l.val % 64 := by omega
    refine (e _ _).trans ?_
    show turn _ _ (fun j => colR x0 x1 x2 x3 b s (2824 + (64 * 1 + j))) (l.val - 64) = _
    rw [if_pos hq, hq, h1, hr]

/-- The values of the marked keys. -/
theorem v152_apply (b : Fin 4) (s : Fin 4096) (l : Fin 128) : val_main_v152 (F := Ideal) x0 x1 x2 x3 (ix3 b s l) = colR x0 x1 x2 x3 b s (2952 + l.val) :=
  s57_apply x0 x1 x2 x3 b s l
/-- The values of the window. -/
theorem v172_apply (b : Fin 4) (s : Fin 4096) (l : Fin 128) : val_main_v172 (F := Ideal) x0 x1 x2 x3 (ix3 b s l) = colR x0 x1 x2 x3 b s (3208 + l.val) :=
  s59_apply x0 x1 x2 x3 b s l

end Cert.InpRefIdeal.Row
-- ==== Proof.CmpMath.lean ====
module

public import proofs.«01_k».proof.Proof.HalfMath

/-! The compression of a run of 32 tokens of one head into one row, in plain index form, and the sums over the lanes of two
heads by a weight that is zero across the heads. -/

@[expose] public section

noncomputable section

namespace Cert.Compress

open Idealize.ShloMosaic

/-- Token `l` of run `n`: the runs start 16 tokens apart, and the last one goes on at token 0. -/
abbrev tok (n : Fin 256) (l : ℕ) : Fin 4096 := ⟨(16 * n.val + l) % 4096, Nat.mod_lt _ (by decide)⟩
/-- Lane `d` of head `g`. -/
abbrev lane (g d : ℕ) (hg : g < 2) (hd : d < 64) : Fin 128 := ⟨64 * g + d, by omega⟩
/-- The token's place of entry `e` of a run laid out flat. -/
abbrev place (e : Fin 2048) : Fin 32 := ⟨e.val / 64, by have := e.isLt; omega⟩
/-- The lane within its head of entry `e` of a run laid out flat. -/
abbrev part (e : Fin 2048) : Fin 64 := ⟨e.val % 64, Nat.mod_lt _ (by decide)⟩
/-- Row `e` of the first half of the first weight. -/
abbrev low (e : Fin 1024) : Fin 2048 := ⟨e.val, by have := e.isLt; omega⟩
/-- Row `e` of the second half of the first weight. -/
abbrev high (e : Fin 1024) : Fin 2048 := ⟨1024 + e.val, by have := e.isLt; omega⟩

/-- Hidden entry `h` of run `n` of head `g`: the tokens of the run with their places' vectors added, times the first weight. -/
def hidden (x : Fin 4096 → Fin 128 → EReal) (pe : Fin 32 → Fin 64 → EReal) (w1 : Fin 2048 → Fin 128 → EReal) (n : Fin 256)
    (g : Fin 2) (h : Fin 128) : EReal :=
  ∑ e : Fin 2048, (x (tok n (place e).val) (lane g.val (part e).val g.isLt (part e).isLt) + pe (place e) (part e)) * w1 e h

/-- The compressed row of run `n` of head `g`: the gated hidden entries times the second weight. -/
def row (x : Fin 4096 → Fin 128 → EReal) (pe : Fin 32 → Fin 64 → EReal) (w1 : Fin 2048 → Fin 128 → EReal)
    (w2 : Fin 128 → Fin 64 → EReal) (n : Fin 256) (g : Fin 2) (d : Fin 64) : EReal :=
  ∑ h : Fin 128, Half.gate (hidden x pe w1 n g h) * w2 h d

/-- One where the heads agree, zero elsewhere. -/
def same (a b : ℕ) : EReal := if a = b then 1 else 0

/-- A sum over 2048 rows is the sum over the two halves. -/
theorem sum_low_high (f : Fin 2048 → EReal) : ∑ e : Fin 2048, f e = (∑ e : Fin 1024, f (low e)) + ∑ e : Fin 1024, f (high e) :=
  Fin.sum_univ_add (a := 1024) (b := 1024) f

/-- A sum over 16 tokens of two heads by a weight zero across the heads is the sum over the 16 tokens of the one head. -/
theorem sum_head (g : Fin 2) (a : Fin 2048 → EReal) (w : Fin 1024 → EReal) (u : Fin 2048 → Fin 1024)
    (hu : ∀ q : Fin 2048, (u q).val = 64 * (q.val / 128) + q.val % 64) :
    ∑ q : Fin 2048, a q * (same g.val (q.val / 64 % 2) * w (u q))
      = ∑ e : Fin 1024, a ⟨128 * (e.val / 64) + 64 * g.val + e.val % 64, by have := e.isLt; have := g.isLt; omega⟩ * w e := by
  have hg := g.isLt
  symm
  refine Finset.sum_of_injOn (fun e : Fin 1024 => (⟨128 * (e.val / 64) + 64 * g.val + e.val % 64, by have := e.isLt; omega⟩ : Fin 2048)) ?_ ?_ ?_ ?_
  · intro e _ f _ h
    have h' := congrArg Fin.val h
    apply Fin.ext
    simp only at h'
    omega
  · intro e _
    simp
  · intro q _ hq
    have hne : ¬ g.val = q.val / 64 % 2 := by
      intro h
      apply hq
      have := q.isLt
      refine ⟨⟨64 * (q.val / 128) + q.val % 64, by omega⟩, by simp, ?_⟩
      apply Fin.ext
      show 128 * ((64 * (q.val / 128) + q.val % 64) / 64) + 64 * g.val + (64 * (q.val / 128) + q.val % 64) % 64 = q.val
      omega
    unfold same
    rw [if_neg hne, zero_mul, mul_zero]
  · intro e _
    have he := e.isLt
    have h1 : g.val = (128 * (e.val / 64) + 64 * g.val + e.val % 64) / 64 % 2 := by omega
    have h2 : u ⟨128 * (e.val / 64) + 64 * g.val + e.val % 64, by omega⟩ = e := by
      apply Fin.ext
      rw [hu]
      show 64 * ((128 * (e.val / 64) + 64 * g.val + e.val % 64) / 128) + (128 * (e.val / 64) + 64 * g.val + e.val % 64) % 64 = e.val
      omega
    show _ = a _ * (same g.val ((128 * (e.val / 64) + 64 * g.val + e.val % 64) / 64 % 2) * w (u ⟨128 * (e.val / 64) + 64 * g.val + e.val % 64, by omega⟩))
    rw [h2]
    unfold same
    rw [if_pos h1, one_mul]

/-- A sum over the hidden entries of two heads by a weight zero across the heads is the sum over those of the one head. -/
theorem sum_hid (g : Fin 2) (a : Fin 256 → EReal) (w : Fin 128 → EReal) :
    ∑ q : Fin 256, a q * (same g.val (q.val / 128) * w ⟨q.val % 128, Nat.mod_lt _ (by decide)⟩)
      = ∑ h : Fin 128, a ⟨128 * g.val + h.val, by have := h.isLt; have := g.isLt; omega⟩ * w h := by
  have hg := g.isLt
  symm
  refine Finset.sum_of_injOn (fun h : Fin 128 => (⟨128 * g.val + h.val, by have := h.isLt; omega⟩ : Fin 256)) ?_ ?_ ?_ ?_
  · intro e _ f _ h
    have h' := congrArg Fin.val h
    apply Fin.ext
    simp only at h'
    omega
  · intro e _
    simp
  · intro q _ hq
    have hne : ¬ g.val = q.val / 128 := by
      intro h
      apply hq
      have := q.isLt
      refine ⟨⟨q.val % 128, by omega⟩, by simp, ?_⟩
      apply Fin.ext
      show 128 * g.val + q.val % 128 = q.val
      omega
    unfold same
    rw [if_neg hne, zero_mul, mul_zero]
  · intro e _
    have he := e.isLt
    have h1 : g.val = (128 * g.val + e.val) / 128 := by omega
    have h2 : (⟨(128 * g.val + e.val) % 128, Nat.mod_lt _ (by decide)⟩ : Fin 128) = e := by
      apply Fin.ext
      show (128 * g.val + e.val) % 128 = e.val
      omega
    show _ = a _ * (same g.val ((128 * g.val + e.val) / 128) * w ⟨(128 * g.val + e.val) % 128, Nat.mod_lt _ (by decide)⟩)
    rw [h2]
    unfold same
    rw [if_pos h1, one_mul]

/-- The row of the weight that lane `q` of 16 tokens of two heads meets. -/
abbrev urow (q : Fin 2048) : Fin 1024 := ⟨64 * (q.val / 128) + q.val % 64, by have := q.isLt; omega⟩
/-- The token `k` of the 16 from run `n` on. -/
abbrev toks (n : Fin 256) (k : Fin 2048) : Fin 4096 := ⟨16 * n.val + k.val / 128, by have := n.isLt; have := k.isLt; omega⟩
/-- The run after `n`, around. -/
abbrev next (n : Fin 256) : Fin 256 := ⟨(n.val + 1) % 256, Nat.mod_lt _ (by decide)⟩
/-- The place of lane `q` in the first half of a run, and in the second. -/
abbrev first (q : Fin 2048) : Fin 32 := ⟨q.val / 128, by have := q.isLt; omega⟩
@[inherit_doc first] abbrev second (q : Fin 2048) : Fin 32 := ⟨16 + q.val / 128, by have := q.isLt; omega⟩

/-- The hidden entries as two sums over 16 tokens of two heads, the second one over the next run's tokens. -/
theorem hidden_eq (x : Fin 4096 → Fin 128 → EReal) (pe : Fin 32 → Fin 64 → EReal) (w1 : Fin 2048 → Fin 128 → EReal) (n : Fin 256)
    (g : Fin 2) (h : Fin 128) :
    (∑ q : Fin 2048, (x (toks n q) ⟨q.val % 128, Nat.mod_lt _ (by decide)⟩ + pe (first q) ⟨q.val % 64, Nat.mod_lt _ (by decide)⟩)
        * (same g.val (q.val / 64 % 2) * w1 (low (urow q)) h))
      + (∑ q : Fin 2048, (x (toks (next n) q) ⟨q.val % 128, Nat.mod_lt _ (by decide)⟩ + pe (second q) ⟨q.val % 64, Nat.mod_lt _ (by decide)⟩)
        * (same g.val (q.val / 64 % 2) * w1 (high (urow q)) h))
      = hidden x pe w1 n g h := by
  have hg := g.isLt
  have hn := n.isLt
  unfold hidden
  refine Eq.trans ?_ (sum_low_high _).symm
  refine congrArg₂ (· + ·) ?_ ?_
  · refine (sum_head g (fun q => x (toks n q) ⟨q.val % 128, Nat.mod_lt _ (by decide)⟩ + pe (first q) ⟨q.val % 64, Nat.mod_lt _ (by decide)⟩)
      (fun e => w1 (low e) h) urow (fun _ => rfl)).trans ?_
    refine Finset.sum_congr rfl fun e _ => ?_
    have he := e.isLt
    refine congrArg (· * w1 (low e) h) ?_
    refine congrArg₂ (· + ·) (congrArg₂ x (Fin.ext ?_) (Fin.ext ?_)) (congrArg₂ pe (Fin.ext ?_) (Fin.ext ?_))
    · show 16 * n.val + (128 * (e.val / 64) + 64 * g.val + e.val % 64) / 128 = (16 * n.val + e.val / 64) % 4096
      omega
    · show (128 * (e.val / 64) + 64 * g.val + e.val % 64) % 128 = 64 * g.val + e.val % 64
      omega
    · show (128 * (e.val / 64) + 64 * g.val + e.val % 64) / 128 = e.val / 64
      omega
    · show (128 * (e.val / 64) + 64 * g.val + e.val % 64) % 64 = e.val % 64
      omega
  · refine (sum_head g (fun q => x (toks (next n) q) ⟨q.val % 128, Nat.mod_lt _ (by decide)⟩ + pe (second q) ⟨q.val % 64, Nat.mod_lt _ (by decide)⟩)
      (fun e => w1 (high e) h) urow (fun _ => rfl)).trans ?_
    refine Finset.sum_congr rfl fun e _ => ?_
    have he := e.isLt
    refine congrArg (· * w1 (high e) h) ?_
    refine congrArg₂ (· + ·) (congrArg₂ x (Fin.ext ?_) (Fin.ext ?_)) (congrArg₂ pe (Fin.ext ?_) (Fin.ext ?_))
    · show 16 * ((n.val + 1) % 256) + (128 * (e.val / 64) + 64 * g.val + e.val % 64) / 128 = (16 * n.val + (1024 + e.val) / 64) % 4096
      omega
    · show (128 * (e.val / 64) + 64 * g.val + e.val % 64) % 128 = 64 * g.val + (1024 + e.val) % 64
      omega
    · show 16 + (128 * (e.val / 64) + 64 * g.val + e.val % 64) / 128 = (1024 + e.val) / 64
      omega
    · show (128 * (e.val / 64) + 64 * g.val + e.val % 64) % 64 = (1024 + e.val) % 64
      omega

/-- The compressed rows of two heads side by side, by weights zero across the heads: lane `j` is lane `j % 64` of head
`j / 64`. -/
theorem row_eq (x : Fin 4096 → Fin 128 → EReal) (pe : Fin 32 → Fin 64 → EReal) (w1 : Fin 2048 → Fin 128 → EReal)
    (w2 : Fin 128 → Fin 64 → EReal) (n : Fin 256) (j : Fin 128) :
    ∑ h : Fin 256, Half.gate
        ((∑ q : Fin 2048, (x (toks n q) ⟨q.val % 128, Nat.mod_lt _ (by decide)⟩ + pe (first q) ⟨q.val % 64, Nat.mod_lt _ (by decide)⟩)
            * (same (h.val / 128) (q.val / 64 % 2) * w1 (low (urow q)) ⟨h.val % 128, Nat.mod_lt _ (by decide)⟩))
          + ∑ q : Fin 2048, (x (toks (next n) q) ⟨q.val % 128, Nat.mod_lt _ (by decide)⟩ + pe (second q) ⟨q.val % 64, Nat.mod_lt _ (by decide)⟩)
            * (same (h.val / 128) (q.val / 64 % 2) * w1 (high (urow q)) ⟨h.val % 128, Nat.mod_lt _ (by decide)⟩))
        * (same (j.val / 64) (h.val / 128) * w2 ⟨h.val % 128, Nat.mod_lt _ (by decide)⟩ ⟨j.val % 64, Nat.mod_lt _ (by decide)⟩)
      = row x pe w1 w2 n ⟨j.val / 64, by have := j.isLt; omega⟩ ⟨j.val % 64, Nat.mod_lt _ (by decide)⟩ := by
  have hj := j.isLt
  unfold row
  have hh : ∀ h : Fin 256, _ = _ := fun h => hidden_eq x pe w1 n ⟨h.val / 128, by have := h.isLt; omega⟩ ⟨h.val % 128, Nat.mod_lt _ (by decide)⟩
  simp only [hh]
  refine (sum_hid ⟨j.val / 64, by omega⟩ (fun h => Half.gate (hidden x pe w1 n ⟨h.val / 128, by have := h.isLt; omega⟩ ⟨h.val % 128, Nat.mod_lt _ (by decide)⟩))
    (fun h => w2 h ⟨j.val % 64, Nat.mod_lt _ (by decide)⟩)).trans ?_
  refine Finset.sum_congr rfl fun h _ => ?_
  have hb := h.isLt
  have e1 : (⟨(128 * (j.val / 64) + h.val) / 128, by omega⟩ : Fin 2) = ⟨j.val / 64, by omega⟩ := Fin.ext (by show (128 * (j.val / 64) + h.val) / 128 = j.val / 64; omega)
  have e2 : (⟨(128 * (j.val / 64) + h.val) % 128, Nat.mod_lt _ (by decide)⟩ : Fin 128) = h := Fin.ext (by show (128 * (j.val / 64) + h.val) % 128 = h.val; omega)
  show Half.gate (hidden x pe w1 n ⟨(128 * (j.val / 64) + h.val) / 128, by omega⟩ ⟨(128 * (j.val / 64) + h.val) % 128, Nat.mod_lt _ (by decide)⟩) * _ = _
  rw [e1, e2]

end Cert.Compress
-- ==== Proof.CmpBlock.lean ====
module

public import proofs.«01_k».proof.Proof.CmpMath
public import proofs.«01_k».proof.Proof.Gen.CmpIdeal.Value
public import Idealize.ShloMosaic.Lib.Pointwise
public import Idealize.ShloMosaic.Lib.Pipeline.Value
public import Idealize.ShloMosaic.Lib.Pipeline.CanonAppend
public import Idealize.ShloMosaic.Lib.Pipeline.ValueKit

/-! One grid point of the compression of the keys: the block of rows it stores, run by run. -/

@[expose] public section

set_option maxRecDepth 16384

noncomputable section

namespace Cert.CmpIdeal.Block

open Cert.CmpIdeal Cert.CmpIdeal.Gen Idealize.ShloMosaic Idealize.ShloMosaic.TcCoe Idealize.SL.Sem

/-- The run's tokens side by side: lane `q` is lane `q % 128` of token `q / 128`. -/
def sideAt (X : Fin 16 → Vec Ideal S1x256x128 .f32) (n : Fin 256) (q : Fin 2048) : EReal :=
  X ⟨q.val / 128, by have := q.isLt; omega⟩ (ix3 0 n ⟨q.val % 128, Nat.mod_lt _ (by decide)⟩)

/-- The concatenation of the sixteen tokens, at an index. -/
theorem side_apply (X : Fin 16 → Vec Ideal S1x256x128 .f32) (n : Fin 256) (q : Fin 2048) :
    (concatenate S256x2048 1 [⟨S256x128, k0_pay2 (X 0)⟩, ⟨S256x128, k0_pay3 (X 1)⟩, ⟨S256x128, k0_pay4 (X 2)⟩, ⟨S256x128, k0_pay5 (X 3)⟩, ⟨S256x128, k0_pay6 (X 4)⟩, ⟨S256x128, k0_pay7 (X 5)⟩, ⟨S256x128, k0_pay8 (X 6)⟩, ⟨S256x128, k0_pay9 (X 7)⟩, ⟨S256x128, k0_pay10 (X 8)⟩, ⟨S256x128, k0_pay11 (X 9)⟩, ⟨S256x128, k0_pay12 (X 10)⟩, ⟨S256x128, shapeCast S256x128 (X 11) shapeCasts_S1x256x128_S256x128⟩, ⟨S256x128, shapeCast S256x128 (X 12) shapeCasts_S1x256x128_S256x128⟩, ⟨S256x128, shapeCast S256x128 (X 13) shapeCasts_S1x256x128_S256x128⟩, ⟨S256x128, shapeCast S256x128 (X 14) shapeCasts_S1x256x128_S256x128⟩, ⟨S256x128, shapeCast S256x128 (X 15) shapeCasts_S1x256x128_S256x128⟩]
      concatenates_S256x128_S256x128_S256x128_S256x128_S256x128_S256x128_S256x128_S256x128_S256x128_S256x128_S256x128_S256x128_S256x128_S256x128_S256x128_S256x128_S256x2048_d1 : FVec Ideal S256x2048 .f32) (ix2 n q) = sideAt X n q := by
  have hq := q.isLt
  refine (concatenate_ofFn_apply (t := S256x2048) (s₁ := S256x128) 1 (fun k : Fin 16 => (shapeCast S256x128 (X k) shapeCasts_S1x256x128_S256x128 : FVec Ideal S256x128 .f32))
    concatenates_S256x128_S256x128_S256x128_S256x128_S256x128_S256x128_S256x128_S256x128_S256x128_S256x128_S256x128_S256x128_S256x128_S256x128_S256x128_S256x128_S256x2048_d1 rfl 128 rfl (ix2 n q) ⟨q.val / 128, by omega⟩ rfl
    (ix2 n ⟨q.val % 128, Nat.mod_lt _ (by decide)⟩) rfl ?_).trans ?_
  · intro b hb
    match b with
    | ⟨0, _⟩ => rfl
    | ⟨1, _⟩ => exact absurd rfl hb
  · unfold sideAt
    pointwise

/-- The hidden entries of the point, at an index: the first half of a run by the first half of the weight, and the second
half, read off the next run, by the second. -/
theorem hid_apply (X : Fin 16 → Vec Ideal S1x256x128 .f32) (pa pb : Vec Ideal S1x2048 .f32) (wa wb : Vec Ideal S2048x256 .bf16) (n j : Fin 256) :
    k0_pay13 (k0_pay2 (X 0)) (k0_pay3 (X 1)) (k0_pay4 (X 2)) (k0_pay5 (X 3)) (k0_pay6 (X 4)) (k0_pay7 (X 5)) (k0_pay8 (X 6)) (k0_pay9 (X 7)) (k0_pay10 (X 8)) (k0_pay11 (X 9)) (k0_pay12 (X 10)) (X 11) (X 12) (X 13) (X 14) (X 15) pa wa pb wb (ix2 n j)
      = (∑ q : Fin 2048, (sideAt X n q + pa (ix2 0 q)) * wa (ix2 q j))
        + ∑ q : Fin 2048, (sideAt X ⟨(n.val + 1) % 256, Nat.mod_lt _ (by decide)⟩ q + pb (ix2 0 q)) * wb (ix2 q j) := by
  unfold k0_pay13
  dsimp only
  have hs := side_apply X
  generalize (concatenate S256x2048 1 [⟨S256x128, k0_pay2 (X 0)⟩, ⟨S256x128, k0_pay3 (X 1)⟩, ⟨S256x128, k0_pay4 (X 2)⟩, ⟨S256x128, k0_pay5 (X 3)⟩, ⟨S256x128, k0_pay6 (X 4)⟩, ⟨S256x128, k0_pay7 (X 5)⟩, ⟨S256x128, k0_pay8 (X 6)⟩, ⟨S256x128, k0_pay9 (X 7)⟩, ⟨S256x128, k0_pay10 (X 8)⟩, ⟨S256x128, k0_pay11 (X 9)⟩, ⟨S256x128, k0_pay12 (X 10)⟩, ⟨S256x128, shapeCast S256x128 (X 11) shapeCasts_S1x256x128_S256x128⟩, ⟨S256x128, shapeCast S256x128 (X 12) shapeCasts_S1x256x128_S256x128⟩, ⟨S256x128, shapeCast S256x128 (X 13) shapeCasts_S1x256x128_S256x128⟩, ⟨S256x128, shapeCast S256x128 (X 14) shapeCasts_S1x256x128_S256x128⟩, ⟨S256x128, shapeCast S256x128 (X 15) shapeCasts_S1x256x128_S256x128⟩]
      concatenates_S256x128_S256x128_S256x128_S256x128_S256x128_S256x128_S256x128_S256x128_S256x128_S256x128_S256x128_S256x128_S256x128_S256x128_S256x128_S256x128_S256x2048_d1 : FVec Ideal S256x2048 .f32) = Z at hs ⊢
  have e : (⟨(n.val + 256 - 255) % 256, Nat.mod_lt _ (by decide)⟩ : Fin 256) = ⟨(n.val + 1) % 256, Nat.mod_lt _ (by decide)⟩ := Fin.ext (by show (n.val + 256 - 255) % 256 = (n.val + 1) % 256; omega)
  pointwise [hs]
  rw [e]

/-- The stored rows at an index. -/
theorem out_pay_apply (X : Fin 16 → Vec Ideal S1x256x128 .f32) (pa pb : Vec Ideal S1x2048 .f32) (wa wb : Vec Ideal S2048x256 .bf16)
    (w : Vec Ideal S256x128 .bf16) (o : Fin 1) (n : Fin 256) (j : Fin 128) :
    k0_pay1 (k0_pay13 (k0_pay2 (X 0)) (k0_pay3 (X 1)) (k0_pay4 (X 2)) (k0_pay5 (X 3)) (k0_pay6 (X 4)) (k0_pay7 (X 5)) (k0_pay8 (X 6)) (k0_pay9 (X 7)) (k0_pay10 (X 8)) (k0_pay11 (X 9)) (k0_pay12 (X 10)) (X 11) (X 12) (X 13) (X 14) (X 15) pa wa pb wb)
        (k0_pay14 (k0_pay2 (X 0)) (k0_pay3 (X 1)) (k0_pay4 (X 2)) (k0_pay5 (X 3)) (k0_pay6 (X 4)) (k0_pay7 (X 5)) (k0_pay8 (X 6)) (k0_pay9 (X 7)) (k0_pay10 (X 8)) (k0_pay11 (X 9)) (k0_pay12 (X 10)) (X 11) (X 12) (X 13) (X 14) (X 15) pa wa pb wb) (k0_pay15 (F := Ideal)) w (ix3 o n j)
      = ∑ h : Fin 256, Half.gate ((∑ q : Fin 2048, (sideAt X n q + pa (ix2 0 q)) * wa (ix2 q h))
          + ∑ q : Fin 2048, (sideAt X ⟨(n.val + 1) % 256, Nat.mod_lt _ (by decide)⟩ q + pb (ix2 0 q)) * wb (ix2 q h)) * w (ix2 h j) := by
  unfold k0_pay1 k0_pay14 k0_pay15
  have hh := hid_apply X pa pb wa wb n
  generalize k0_pay13 (k0_pay2 (X 0)) (k0_pay3 (X 1)) (k0_pay4 (X 2)) (k0_pay5 (X 3)) (k0_pay6 (X 4)) (k0_pay7 (X 5)) (k0_pay8 (X 6)) (k0_pay9 (X 7)) (k0_pay10 (X 8)) (k0_pay11 (X 9)) (k0_pay12 (X 10)) (X 11) (X 12) (X 13) (X 14) (X 15) pa wa pb wb = H at hh ⊢
  pointwise [hh]
  unfold Half.gate
  refine Finset.sum_congr rfl fun h _ => ?_
  rw [zero_sub]

/-- The strided rectangle of a token of the runs lies inside the block. -/
theorem inbS (k : Fin 16) : ∀ a, (![1, 256, 128] : Fin 3 → ℕ) a = 0 ∨ (![0, k.val, 0] : Fin 3 → ℕ) a + (![1, 16, 1] : Fin 3 → ℕ) a * ((![1, 256, 128] : Fin 3 → ℕ) a - 1) < S1x4096x128.size a := by
  revert k; decide
/-- The rectangles of the whole blocks lie inside them. -/
theorem inbP : ∀ a, (![0, 0] : Fin 2 → ℕ) a + (![1, 2048] : Fin 2 → ℕ) a ≤ S1x2048.size a := by decide
@[inherit_doc inbP] theorem inbW : ∀ a, (![0, 0] : Fin 2 → ℕ) a + (![2048, 256] : Fin 2 → ℕ) a ≤ S2048x256.size a := by decide
@[inherit_doc inbP] theorem inbV : ∀ a, (![0, 0] : Fin 2 → ℕ) a + (![256, 128] : Fin 2 → ℕ) a ≤ S256x128.size a := by decide
@[inherit_doc inbP] theorem inbO : ∀ a, (![0, 0, 0] : Fin 3 → ℕ) a + (![1, 256, 128] : Fin 3 → ℕ) a ≤ S1x256x128.size a := by decide

section Point

variable (c : Dev nD) (i : grid0.Coords) (arg1 : Memref sig .tc .vmem S1x4096x128 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S256x128 .bf16) (harg6 : arg6.IsWhole) (arg7 : Memref sig .tc .vmem S1x256x128 .bf16) (harg7 : arg7.IsWhole)
variable {F : FTy → Type} [FloatOps F]
variable (x0 : Vec F S1x4096x128 .f32) (x1 : Vec F S1x2048 .f32) (x2 : Vec F S1x2048 .f32) (x3 : Vec F S2048x256 .bf16) (x4 : Vec F S2048x256 .bf16) (x5 : Vec F S256x128 .bf16)

/-- The point's loads: a token of the runs, the places' vectors, the two halves of the first weight, the second weight. -/
def ldX (k : Fin 16) : Vec F S1x256x128 .f32 :=
  (View.readAt (Elt F) arg1.view (⟨![0, k.val, 0], ![1, 256, 128], ![1, 16, 1], inbS k⟩ : LoadRect S1x4096x128) (harg1.unread x0) :)
@[inherit_doc ldX] def ldA : Vec F S1x2048 .f32 :=
  (View.readAt (Elt F) arg2.view (Rect.unit ![0, 0] ![1, 2048] inbP).toLoadRect (harg2.unread x1) :)
@[inherit_doc ldX] def ldB : Vec F S1x2048 .f32 :=
  (View.readAt (Elt F) arg3.view (Rect.unit ![0, 0] ![1, 2048] inbP).toLoadRect (harg3.unread x2) :)
@[inherit_doc ldX] def ldWA : Vec F S2048x256 .bf16 :=
  (View.readAt (Elt F) arg4.view (Rect.unit ![0, 0] ![2048, 256] inbW).toLoadRect (harg4.unread x3) :)
@[inherit_doc ldX] def ldWB : Vec F S2048x256 .bf16 :=
  (View.readAt (Elt F) arg5.view (Rect.unit ![0, 0] ![2048, 256] inbW).toLoadRect (harg5.unread x4) :)
@[inherit_doc ldX] def ldW : Vec F S256x128 .bf16 :=
  (View.readAt (Elt F) arg6.view (Rect.unit ![0, 0] ![256, 128] inbV).toLoadRect (harg6.unread x5) :)

/-- The point's one store. -/
theorem pieces :
    (kernelRun0_A c i arg1 harg1 arg2 harg2 arg3 harg3 arg4 harg4 arg5 harg5 arg6 harg6 arg7 harg7 x0 x1 x2 x3 x4 x5).1
      = [⟨Rect.unit ![0, 0, 0] ![1, 256, 128] inbO,
          k0_pay1 (k0_pay13 (k0_pay2 (ldX arg1 harg1 x0 0)) (k0_pay3 (ldX arg1 harg1 x0 1)) (k0_pay4 (ldX arg1 harg1 x0 2)) (k0_pay5 (ldX arg1 harg1 x0 3)) (k0_pay6 (ldX arg1 harg1 x0 4)) (k0_pay7 (ldX arg1 harg1 x0 5)) (k0_pay8 (ldX arg1 harg1 x0 6)) (k0_pay9 (ldX arg1 harg1 x0 7)) (k0_pay10 (ldX arg1 harg1 x0 8)) (k0_pay11 (ldX arg1 harg1 x0 9)) (k0_pay12 (ldX arg1 harg1 x0 10)) (ldX arg1 harg1 x0 11) (ldX arg1 harg1 x0 12) (ldX arg1 harg1 x0 13) (ldX arg1 harg1 x0 14) (ldX arg1 harg1 x0 15) (ldA arg2 harg2 x1) (ldWA arg4 harg4 x3) (ldB arg3 harg3 x2) (ldWB arg5 harg5 x4))
            (k0_pay14 (k0_pay2 (ldX arg1 harg1 x0 0)) (k0_pay3 (ldX arg1 harg1 x0 1)) (k0_pay4 (ldX arg1 harg1 x0 2)) (k0_pay5 (ldX arg1 harg1 x0 3)) (k0_pay6 (ldX arg1 harg1 x0 4)) (k0_pay7 (ldX arg1 harg1 x0 5)) (k0_pay8 (ldX arg1 harg1 x0 6)) (k0_pay9 (ldX arg1 harg1 x0 7)) (k0_pay10 (ldX arg1 harg1 x0 8)) (k0_pay11 (ldX arg1 harg1 x0 9)) (k0_pay12 (ldX arg1 harg1 x0 10)) (ldX arg1 harg1 x0 11) (ldX arg1 harg1 x0 12) (ldX arg1 harg1 x0 13) (ldX arg1 harg1 x0 14) (ldX arg1 harg1 x0 15) (ldA arg2 harg2 x1) (ldWA arg4 harg4 x3) (ldB arg3 harg3 x2) (ldWB arg5 harg5 x4))
            (k0_pay15 (F := F)) (ldW arg6 harg6 x5)⟩] := by
  sl_kernel_rfl

end Point

section Values

variable (c : Dev nD) (i : grid0.Coords) (arg1 : Memref sig .tc .vmem S1x4096x128 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S256x128 .bf16) (harg6 : arg6.IsWhole) (arg7 : Memref sig .tc .vmem S1x256x128 .bf16) (harg7 : arg7.IsWhole)
variable (x0 : Vec Ideal S1x4096x128 .f32) (x1 : Vec Ideal S1x2048 .f32) (x2 : Vec Ideal S1x2048 .f32) (x3 : Vec Ideal S2048x256 .bf16) (x4 : Vec Ideal S2048x256 .bf16) (x5 : Vec Ideal S256x128 .bf16)

/-- The load of a token of the runs. -/
theorem ldX_apply (k : Fin 16) (n : Fin 256) (q : Fin 128) :
    ldX arg1 harg1 x0 k (ix3 0 n q) = x0 (ix3 0 ⟨16 * n.val + k.val, by have := n.isLt; have := k.isLt; omega⟩ q) := by
  unfold ldX
  show arg1.view.read (Elt Ideal) (harg1.unread x0) _ = _
  rw [harg1.read_unread]
  congr 1
  funext a
  apply Fin.ext
  match a with
  | ⟨0, _⟩ => rfl
  | ⟨1, _⟩ => show k.val + 16 * n.val = 16 * n.val + k.val; omega
  | ⟨2, _⟩ => show 0 + 1 * q.val = q.val; omega

/-- The loads of the whole blocks. -/
theorem ldA_eq : ldA arg2 harg2 x1 = x1 := by
  have e : ldA arg2 harg2 x1 = View.ld x1 (Rect.unit ![0, 0] ![1, 2048] inbP) :=
    (View.readAt_eq_ld ..).trans (congrArg (fun X => View.ld X _) (harg2.read_unread x1))
  rw [e]; funext y; idx_vars y; obtain rfl : y0 = 0 := Subsingleton.elim _ _; show x1 _ = _; congr 1; pointwise
@[inherit_doc ldA_eq] theorem ldB_eq : ldB arg3 harg3 x2 = x2 := by
  have e : ldB arg3 harg3 x2 = View.ld x2 (Rect.unit ![0, 0] ![1, 2048] inbP) :=
    (View.readAt_eq_ld ..).trans (congrArg (fun X => View.ld X _) (harg3.read_unread x2))
  rw [e]; funext y; idx_vars y; obtain rfl : y0 = 0 := Subsingleton.elim _ _; show x2 _ = _; congr 1; pointwise
@[inherit_doc ldA_eq] theorem ldWA_eq : ldWA arg4 harg4 x3 = x3 := by
  have e : ldWA arg4 harg4 x3 = View.ld x3 (Rect.unit ![0, 0] ![2048, 256] inbW) :=
    (View.readAt_eq_ld ..).trans (congrArg (fun X => View.ld X _) (harg4.read_unread x3))
  rw [e]; funext y; idx_vars y; show x3 _ = _; congr 1; pointwise
@[inherit_doc ldA_eq] theorem ldWB_eq : ldWB arg5 harg5 x4 = x4 := by
  have e : ldWB arg5 harg5 x4 = View.ld x4 (Rect.unit ![0, 0] ![2048, 256] inbW) :=
    (View.readAt_eq_ld ..).trans (congrArg (fun X => View.ld X _) (harg5.read_unread x4))
  rw [e]; funext y; idx_vars y; show x4 _ = _; congr 1; pointwise
@[inherit_doc ldA_eq] theorem ldW_eq : ldW arg6 harg6 x5 = x5 := by
  have e : ldW arg6 harg6 x5 = View.ld x5 (Rect.unit ![0, 0] ![256, 128] inbV) :=
    (View.readAt_eq_ld ..).trans (congrArg (fun X => View.ld X _) (harg6.read_unread x5))
  rw [e]; funext y; idx_vars y; show x5 _ = _; congr 1; pointwise

/-- Lane `q` of the tokens of run `n` side by side, off the block of keys. -/
theorem side_ld (n : Fin 256) (q : Fin 2048) : sideAt (ldX arg1 harg1 x0) n q
    = x0 (ix3 0 ⟨16 * n.val + q.val / 128, by have := n.isLt; have := q.isLt; omega⟩ ⟨q.val % 128, Nat.mod_lt _ (by decide)⟩) := by
  unfold sideAt
  rw [ldX_apply]

/-- The block the point stores, at an index, off the point's blocks. -/
theorem out_apply (n : Fin 256) (j : Fin 128) :
    out0_A_6 c i arg1 harg1 arg2 harg2 arg3 harg3 arg4 harg4 arg5 harg5 arg6 harg6 arg7 harg7 x0 x1 x2 x3 x4 x5 (ix3 0 n j)
      = ∑ h : Fin 256, Half.gate ((∑ q : Fin 2048, (x0 (ix3 0 ⟨16 * n.val + q.val / 128, by have := n.isLt; have := q.isLt; omega⟩ ⟨q.val % 128, Nat.mod_lt _ (by decide)⟩) + x1 (ix2 0 q)) * x3 (ix2 q h))
          + ∑ q : Fin 2048, (x0 (ix3 0 ⟨16 * ((n.val + 1) % 256) + q.val / 128, by have := q.isLt; omega⟩ ⟨q.val % 128, Nat.mod_lt _ (by decide)⟩) + x2 (ix2 0 q)) * x4 (ix2 q h)) * x5 (ix2 h j) := by
  have hc := cover0_A_6 c i arg1 harg1 arg2 harg2 arg3 harg3 arg4 harg4 arg5 harg5 arg6 harg6 arg7 harg7 x0 x1 x2 x3 x4 x5
  unfold out0_A_6
  rw [View.read_writes_eq_canon _ _ _ hc, pieces]
  rw [View.canon_unit_zero (S := S1x256x128) (off := ![0, 0, 0]) (by funext a; fin_cases a <;> rfl)]
  refine (out_pay_apply (ldX arg1 harg1 x0) _ _ _ _ _ 0 n j).trans ?_
  simp only [side_ld, ldA_eq, ldB_eq, ldWA_eq, ldWB_eq, ldW_eq]

end Values

/-- One where the two heads agree, zero elsewhere, as the host code makes it. -/
theorem eye_read (a b : ℕ) (ha : a < 2) (hb : b < 2) :
    (FloatOps.uitofp .f32 (IntOp.cmpi .eq (IntOp.addi (BitVec.ofNat 32 a) 0#32) (BitVec.ofNat 32 b)) : Ideal .f32) = Compress.same b a := by
  have h1 : (FloatOps.uitofp .f32 1#1 : Ideal .f32) = (1 : EReal) := by
    show (((1#1).toNat : ℝ) : EReal) = 1
    simp
  have h0 : (FloatOps.uitofp .f32 0#1 : Ideal .f32) = (0 : EReal) := by
    show (((0#1).toNat : ℝ) : EReal) = 0
    simp
  unfold Compress.same
  interval_cases a <;> interval_cases b
  · exact h1
  · exact h0
  · exact h0
  · exact h1

section Run

variable (m : (ℓ : Loc nD τ sig) → Buf (Elt Ideal) ℓ)

/-- The kernel's arguments in plain index form: the keys, the places' vectors, the two weights of layer 0. -/
abbrev xOf (c : Dev nD) (b : Fin 4) (s : Fin 4096) (p : Fin 128) : EReal :=
  (m ((c : Thread nD τ).loc main_arg0) : Vec Ideal S4x4096x128 .f32) (ix3 b s p)
@[inherit_doc xOf] abbrev peOf (c : Dev nD) (l : Fin 32) (d : Fin 64) : EReal :=
  (m ((c : Thread nD τ).loc main_arg1) : Vec Ideal S2x32x64 .f32) (ix3 0 l d)
@[inherit_doc xOf] abbrev w1Of (c : Dev nD) (e : Fin 2048) (h : Fin 128) : EReal :=
  (m ((c : Thread nD τ).loc main_arg2) : Vec Ideal S2x2048x128 .f32) (ix3 0 e h)
@[inherit_doc xOf] abbrev w2Of (c : Dev nD) (h : Fin 128) (d : Fin 64) : EReal :=
  (m ((c : Thread nD τ).loc main_arg3) : Vec Ideal S2x128x64 .f32) (ix3 0 h d)

/-- The windows' block indices over the grid. -/
theorem idx_in : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0])

variable (c : Dev nD) (t : Fin cfg0.N)

/-- The grid has four points. -/
theorem hN : t.val < 4 := lt_of_lt_of_eq t.isLt N_0

/-- The first half of the places' vectors, over the lanes of 16 tokens of two heads. -/
theorem pa_read (q : Fin 2048) : (V m c main_v30 : Vec Ideal S1x2048 .f32) (ix2 0 q)
    = peOf m c (Compress.first q) ⟨q.val % 64, Nat.mod_lt _ (by decide)⟩ := by
  unfold V
  entry_read
  pointwise
/-- The second half of the places' vectors. -/
theorem pb_read (q : Fin 2048) : (V m c main_v34 : Vec Ideal S1x2048 .f32) (ix2 0 q)
    = peOf m c (Compress.second q) ⟨q.val % 64, Nat.mod_lt _ (by decide)⟩ := by
  unfold V
  entry_read
  pointwise
/-- The first half of the first weight, zero across the heads. -/
theorem wa_read (q : Fin 2048) (h : Fin 256) : (V m c main_v41 : Vec Ideal S2048x256 .bf16) (ix2 q h)
    = Compress.same (h.val / 128) (q.val / 64 % 2) * w1Of m c (Compress.low (Compress.urow q)) ⟨h.val % 128, Nat.mod_lt _ (by decide)⟩ := by
  unfold V
  entry_read
  pointwise
  refine congrArg₂ (· * ·) (eye_read _ _ (by omega) (by have := h.isLt; omega)) ?_
  exact congrArg (fun r => w1Of m c r ⟨h.val % 128, Nat.mod_lt _ (by decide)⟩)
    (Fin.ext (by show q.val / 128 * 64 + q.val % 64 = 64 * (q.val / 128) + q.val % 64; omega))
/-- The second half of the first weight. -/
theorem wb_read (q : Fin 2048) (h : Fin 256) : (V m c main_v42 : Vec Ideal S2048x256 .bf16) (ix2 q h)
    = Compress.same (h.val / 128) (q.val / 64 % 2) * w1Of m c (Compress.high (Compress.urow q)) ⟨h.val % 128, Nat.mod_lt _ (by decide)⟩ := by
  unfold V
  entry_read
  pointwise
  refine congrArg₂ (· * ·) (eye_read _ _ (by omega) (by have := h.isLt; omega)) ?_
  exact congrArg (fun r => w1Of m c r ⟨h.val % 128, Nat.mod_lt _ (by decide)⟩)
    (Fin.ext (by show (16 + q.val / 128) * 64 + q.val % 64 = 1024 + (64 * (q.val / 128) + q.val % 64); omega))
/-- The second weight, zero across the heads. -/
theorem w_read (h : Fin 256) (j : Fin 128) : (V m c main_v43 : Vec Ideal S256x128 .bf16) (ix2 h j)
    = Compress.same (j.val / 64) (h.val / 128) * w2Of m c ⟨h.val % 128, Nat.mod_lt _ (by decide)⟩ ⟨j.val % 64, Nat.mod_lt _ (by decide)⟩ := by
  unfold V
  entry_read
  pointwise
  exact congrArg₂ (· * ·) (eye_read _ _ (by have := h.isLt; omega) (by have := j.isLt; omega)) rfl

/-- The keys' block at point `t`. -/
theorem blk_x (s : Fin 4096) (p : Fin 128) : (iblk m c 0 t : Vec Ideal S1x4096x128 .f32) (ix3 0 s p) = xOf m c ⟨t.val, hN t⟩ s p := by
  blk_ext! [iblk, V, (idx_in t).1]

/-- The blocks of the vectors and of the weights. -/
theorem blk_pa (q : Fin 2048) : (iblk m c 1 t : Vec Ideal S1x2048 .f32) (ix2 0 q)
    = peOf m c (Compress.first q) ⟨q.val % 64, Nat.mod_lt _ (by decide)⟩ := by
  have e : (iblk m c 1 t : Vec Ideal S1x2048 .f32) (ix2 0 q) = (V m c main_v30 : Vec Ideal S1x2048 .f32) (ix2 0 q) := by
    blk_ext [iblk, (idx_in t).2.1]
  rw [e, pa_read]
@[inherit_doc blk_pa] theorem blk_pb (q : Fin 2048) : (iblk m c 2 t : Vec Ideal S1x2048 .f32) (ix2 0 q)
    = peOf m c (Compress.second q) ⟨q.val % 64, Nat.mod_lt _ (by decide)⟩ := by
  have e : (iblk m c 2 t : Vec Ideal S1x2048 .f32) (ix2 0 q) = (V m c main_v34 : Vec Ideal S1x2048 .f32) (ix2 0 q) := by
    blk_ext [iblk, (idx_in t).2.2.1]
  rw [e, pb_read]
@[inherit_doc blk_pa] theorem blk_wa (q : Fin 2048) (h : Fin 256) : (iblk m c 3 t : Vec Ideal S2048x256 .bf16) (ix2 q h)
    = Compress.same (h.val / 128) (q.val / 64 % 2) * w1Of m c (Compress.low (Compress.urow q)) ⟨h.val % 128, Nat.mod_lt _ (by decide)⟩ := by
  have e : (iblk m c 3 t : Vec Ideal S2048x256 .bf16) (ix2 q h) = (V m c main_v41 : Vec Ideal S2048x256 .bf16) (ix2 q h) := by
    blk_ext [iblk, (idx_in t).2.2.2.1]
  rw [e, wa_read]
@[inherit_doc blk_pa] theorem blk_wb (q : Fin 2048) (h : Fin 256) : (iblk m c 4 t : Vec Ideal S2048x256 .bf16) (ix2 q h)
    = Compress.same (h.val / 128) (q.val / 64 % 2) * w1Of m c (Compress.high (Compress.urow q)) ⟨h.val % 128, Nat.mod_lt _ (by decide)⟩ := by
  have e : (iblk m c 4 t : Vec Ideal S2048x256 .bf16) (ix2 q h) = (V m c main_v42 : Vec Ideal S2048x256 .bf16) (ix2 q h) := by
    blk_ext [iblk, (idx_in t).2.2.2.2.1]
  rw [e, wb_read]
@[inherit_doc blk_pa] theorem blk_w (h : Fin 256) (j : Fin 128) : (iblk m c 5 t : Vec Ideal S256x128 .bf16) (ix2 h j)
    = Compress.same (j.val / 64) (h.val / 128) * w2Of m c ⟨h.val % 128, Nat.mod_lt _ (by decide)⟩ ⟨j.val % 64, Nat.mod_lt _ (by decide)⟩ := by
  have e : (iblk m c 5 t : Vec Ideal S256x128 .bf16) (ix2 h j) = (V m c main_v43 : Vec Ideal S256x128 .bf16) (ix2 h j) := by
    blk_ext [iblk, (idx_in t).2.2.2.2.2.1]
  rw [e, w_read]

/-- The result array as one function: the compressed rows. -/
def result (c : Dev nD) : Vec Ideal S4x256x128 .bf16 := fun y =>
  Compress.row (xOf m c (y 0)) (peOf m c) (w1Of m c) (w2Of m c) (y 1) ⟨(y 2).val / 64, by have h : (y 2).val < 128 := (y 2).isLt; omega⟩
    ⟨(y 2).val % 64, Nat.mod_lt _ (by decide)⟩

/-- What the launch leaves in the result array. -/
theorem arr_eq : (dats m 0 c).arrAt 6 cfg0.N = result m c := by
  refine (dats m 0 c).arrAt_eq_of_covers 6 (result m c) (by decide +kernel) fun t hf y => ?_
  blk_simp
  rw [after0_6]
  revert y
  intro (y : S1x256x128.Idx)
  idx_vars y
  have hy : y0 = 0 := Subsingleton.elim _ _
  subst hy
  have e : (win0_6.blk t).view.emb (ix3 0 y1 y2) = ix3 (⟨t.val, hN t⟩ : Fin 4) y1 y2 := by
    blk_ext [(idx_in t).2.2.2.2.2.2]
  refine Eq.trans ?_ (congrArg (result m c) e).symm
  unfold outsAt0
  refine (out_apply _ _ _ _ _ _ _ _ _ _ _ _ _ _ _ _ _ _ _ _ _ _ y1 y2).trans ?_
  simp only [blk_x, blk_pa, blk_pb, blk_wa, blk_wb, blk_w]
  exact Compress.row_eq (xOf m c ⟨t.val, hN t⟩) (peOf m c) (w1Of m c) (w2Of m c) y1 y2

end Run

end Cert.CmpIdeal.Block
-- ==== Proof.CmpRef.lean ====
module

public import proofs.«01_k».proof.Proof.CmpMath
public import proofs.«01_k».proof.Proof.Gen.CmpRefIdeal.Read
public import Idealize.ShloMosaic.Lib.Pointwise

/-! The reference compression of the keys, run by run. -/

@[expose] public section

set_option maxRecDepth 16384

noncomputable section

namespace Cert.CmpRefIdeal.Row

open Cert.CmpRefIdeal Cert.CmpRefIdeal.Gen Cert.CmpRefIdeal.Read Idealize.ShloMosaic Idealize.ShloMosaic.TcCoe Idealize.SL.Sem Idealize.ShloMosaic.StableHlo

variable (x0 : Vec Ideal S4x4096x128 .f32) (x1 : Vec Ideal S2x32x64 .f32) (x2 : Vec Ideal S2x2048x128 .f32) (x3 : Vec Ideal S2x128x64 .f32)

/-- The gather of the runs' tokens: the token at the place, read signed and clamped. -/
theorem gather_read (x : Vec Ideal S4x4096x2x64 .f32) (i : IVec S256x32x1 32) (b : Fin 4) (n : Fin 256) (l : Fin 32) (g : Fin 2) (d : Fin 64) :
    Host.gather gather_S4x4096x2x64_S256x32x1_S4x256x32x2x64_034_1_n_n_1_2_41264 x i (ix5 b n l g d)
      = x (ix4 b ⟨min (i (ix3 n l 0)).toInt.toNat 4095, by omega⟩ g d) := by
  unfold Host.gather
  congr 1
  have hsi : gather_S4x4096x2x64_S256x32x1_S4x256x32x2x64_034_1_n_n_1_2_41264.siIdx (ix5 b n l g d) ⟨List.idxOf (1 : Fin 4) gather_S4x4096x2x64_S256x32x1_S4x256x32x2x64_034_1_n_n_1_2_41264.startIndexMap,
      List.idxOf_lt_length_iff.2 (List.mem_singleton.mpr rfl)⟩ = ix3 n l 0 := by
    funext b; refine Fin.ext ?_
    match b with
    | ⟨0, _⟩ => rfl
    | ⟨1, _⟩ => rfl
    | ⟨2, _⟩ => rfl
  funext a
  refine Fin.ext ?_
  match a with
  | ⟨0, _⟩ => show 0 + 0 + b.val = b.val; omega
  | ⟨1, _⟩ =>
    show gather_S4x4096x2x64_S256x32x1_S4x256x32x2x64_034_1_n_n_1_2_41264.start (ix5 b n l g d) i 1 + 0 + 0 = _
    unfold GatherDims.start
    rw [dif_pos (show (1 : Fin 4) ∈ gather_S4x4096x2x64_S256x32x1_S4x256x32x2x64_034_1_n_n_1_2_41264.startIndexMap from List.mem_singleton.mpr rfl), hsi]
    rfl
  | ⟨2, _⟩ => show 0 + 0 + g.val = g.val; omega
  | ⟨3, _⟩ => show 0 + 0 + d.val = d.val; omega

/-- The token each place of a run reads. -/
theorem token_apply (n : Fin 256) (l : Fin 32) : (val_main_v23 (F := Ideal) (ix3 n l 0)).toInt.toNat = (16 * n.val + l.val) % 4096 := by
  have h : ∀ n : Fin 256, ∀ l : Fin 32,
      (Scalar.select (IntOp.cmpi .slt (IntOp.remsi .host (IntOp.addi (IntOp.muli (BitVec.ofNat 32 n.val) 16#32) (BitVec.ofNat 32 l.val)) 4096#32) 0#32)
        (IntOp.addi (IntOp.remsi .host (IntOp.addi (IntOp.muli (BitVec.ofNat 32 n.val) 16#32) (BitVec.ofNat 32 l.val)) 4096#32) 4096#32)
        (IntOp.remsi .host (IntOp.addi (IntOp.muli (BitVec.ofNat 32 n.val) 16#32) (BitVec.ofNat 32 l.val)) 4096#32)).toInt.toNat = (16 * n.val + l.val) % 4096 := by
    decide +kernel
  exact h n l

/-- The runs of tokens with their places' vectors added. -/
theorem blk_apply (b : Fin 4) (n : Fin 256) (g : Fin 2) (e : Fin 2048) : val_main_v30 (F := Ideal) x0 x1 (ix4 b n g e)
    = x0 (ix3 b (Compress.tok n (Compress.place e).val) (Compress.lane g.val (Compress.part e).val g.isLt (Compress.part e).isLt))
      + x1 (ix3 0 (Compress.place e) (Compress.part e)) := by
  have h24 : ∀ (l : Fin 32) (d : Fin 64), val_main_v24 (F := Ideal) x0 (ix5 b n l g d)
      = x0 (ix3 b (Compress.tok n l.val) (Compress.lane g.val d.val g.isLt d.isLt)) := by
    intro l d
    unfold val_main_v24
    rw [gather_read]
    have ht : (⟨min (val_main_v23 (F := Ideal) (ix3 n l 0)).toInt.toNat 4095, by omega⟩ : Fin 4096) = Compress.tok n l.val := by
      apply Fin.ext
      show min (val_main_v23 (F := Ideal) (ix3 n l 0)).toInt.toNat 4095 = (16 * n.val + l.val) % 4096
      rw [token_apply]
      omega
    rw [ht]
    unfold val_main_v17
    pointwise
    exact congrArg (fun r => x0 (ix3 b (Compress.tok n l.val) r)) (Fin.ext (by show g.val * 64 + d.val = 64 * g.val + d.val; omega))
  unfold val_main_v30 val_main_v29 val_main_v28 val_main_v27 val_main_v26 val_main_v25 val_main_v1 val_main_v0
  pointwise [h24]

/-- The hidden entries. -/
theorem hid_apply (b : Fin 4) (n : Fin 256) (g : Fin 2) (h : Fin 128) : val_main_v31 (F := Ideal) x0 x1 x2 (ix4 b n g h)
    = Compress.hidden (fun s p => x0 (ix3 b s p)) (fun l d => x1 (ix3 0 l d)) (fun e h => x2 (ix3 0 e h)) n g h := by
  unfold val_main_v31 val_main_v3 val_main_v2
  pointwise [blk_apply]
  rfl

/-- The reference's result: the compressed row of each run. -/
theorem out_apply (b : Fin 4) (n : Fin 256) (j : Fin 128) : val_main_v35 (F := Ideal) x0 x1 x2 x3 (ix3 b n j)
    = Compress.row (fun s p => x0 (ix3 b s p)) (fun l d => x1 (ix3 0 l d)) (fun e h => x2 (ix3 0 e h)) (fun h d => x3 (ix3 0 h d)) n
        ⟨j.val / 64, by have := j.isLt; omega⟩ ⟨j.val % 64, Nat.mod_lt _ (by decide)⟩ := by
  unfold val_main_v35 val_main_v34 val_main_v33 val_main_v32 val_main_call0_v5 val_main_call0_v4 val_main_call0_cst_0 val_main_call0_v3 val_main_call0_v2 val_main_call0_cst val_main_call0_v1 val_main_call0_v0 val_main_v5 val_main_v4
  pointwise [hid_apply]
  unfold Compress.row Half.gate
  rfl

end Cert.CmpRefIdeal.Row
-- ==== Proof.lean ====
module

public import proofs.«01_k».proof.Proof.ScanState
public import proofs.«01_k».proof.Proof.ScanRef
public import proofs.«01_k».proof.Proof.FfnBlock
public import proofs.«01_k».proof.Proof.FfnRef
public import proofs.«01_k».proof.Proof.MixBlock
public import proofs.«01_k».proof.Proof.MixRef
public import proofs.«01_k».proof.Proof.FinBlock
public import proofs.«01_k».proof.Proof.FinRef
public import proofs.«01_k».proof.Proof.InpRun
public import proofs.«01_k».proof.Proof.InpRef
public import proofs.«01_k».proof.Proof.CmpBlock
public import proofs.«01_k».proof.Proof.CmpRef
public import proofs.«01_k».proof.Defs
public import proofs.«01_k».proof.Proof.Gen.Scan.Frame
public import proofs.«01_k».proof.Proof.Gen.ScanIdeal.Value
public import proofs.«01_k».proof.Proof.Gen.ScanRefIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Fin.Frame
public import proofs.«01_k».proof.Proof.Gen.FinIdeal.Value
public import proofs.«01_k».proof.Proof.Gen.FinRefIdeal.Run
public import proofs.«01_k».proof.Proof.Gen.FinRefIdeal.Read
public import proofs.«01_k».proof.Proof.Gen.Inp.Frame
public import proofs.«01_k».proof.Proof.Gen.InpIdeal.Frame
public import proofs.«01_k».proof.Proof.Gen.InpRefIdeal.Run
public import proofs.«01_k».proof.Proof.Gen.InpRefIdeal.Read
public import proofs.«01_k».proof.Proof.Gen.Cmp.Frame
public import proofs.«01_k».proof.Proof.Gen.CmpIdeal.Value
public import proofs.«01_k».proof.Proof.Gen.CmpRefIdeal.Run
public import proofs.«01_k».proof.Proof.Gen.CmpRefIdeal.Read
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference of the scan ends with its semaphores at zero and its arguments as they were. -/
theorem quiescent_ScanRefIdeal : quiescent_ScanRefIdeal := fun m ρ _ =>
  (θ_run Cert.ScanRefIdeal.defs _ _).mono (fun r h => ⟨fun c => (h c).2, sem_eq_zero_of_no_sems (by decide) r.2⟩)
    (Cert.ScanRefIdeal.Value.run (F := Ideal) m ρ)

/-- The reference of the first half-step ends with its semaphores at zero and its arguments as they were. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the mixers' projection and the second half-step of layer 0 ends with its semaphores at zero and its arguments as they were. -/
theorem quiescent_MixRefIdeal : quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The reference of the mixers' projection, the second half-step of layer 1 and the final norm ends with its semaphores at zero and its arguments as they were. -/
theorem quiescent_FinRefIdeal : quiescent_FinRefIdeal := fun m ρ _ =>
  (θ_run Cert.FinRefIdeal.defs _ _).mono (fun r h => ⟨fun c => (h c).2, sem_eq_zero_of_no_sems (by decide) r.2⟩)
    (Cert.FinRefIdeal.Value.run (F := Ideal) m ρ)

/-- The reference of the mixers' input projection ends with its semaphores at zero and its arguments as they were. -/
theorem quiescent_InpRefIdeal : quiescent_InpRefIdeal := fun m ρ _ =>
  (θ_run Cert.InpRefIdeal.defs _ _).mono (fun r h => ⟨fun c => (h c).2.2.2.2.2.2.2.2.2.2.2, sem_eq_zero_of_no_sems (by decide) r.2⟩)
    (Cert.InpRefIdeal.Value.run (F := Ideal) m ρ)

/-- Over the extended reals the scan kernel and its reference end with the same results. -/
theorem algebraic_ScanIdeal_ScanRefIdeal : algebraic_ScanIdeal_ScanRefIdeal := by
  intro m ρ m' ρ' _ hagree
  refine ⟨_, Cert.ScanIdeal.Value.run (F := Ideal) m ρ, ?_⟩
  refine (θ_run Cert.ScanRefIdeal.defs _ _).mono (fun _ h c => ⟨?_, (h c).2⟩) (Cert.ScanRefIdeal.Value.run (F := Ideal) m' ρ')
  rw [(h c).1]
  obtain ⟨h0, h1, h2, h3, h4, h5⟩ := hagree c
  have e0 : Cert.ScanRefIdeal.Loop.uOf m' c = Cert.ScanIdeal.Step.uOf m c := by funext b k r v; exact congrFun h0 _
  have e1 : Cert.ScanRefIdeal.Loop.wqOf m' c = Cert.ScanIdeal.Step.wqOf m c := by funext b k r v w; exact congrFun h1 _
  have e2 : Cert.ScanRefIdeal.Loop.akOf m' c = Cert.ScanIdeal.Step.akOf m c := by funext b k r v w; exact congrFun h2 _
  have e3 : Cert.ScanRefIdeal.Loop.egOf m' c = Cert.ScanIdeal.Step.egOf m c := by funext b k r v; exact congrFun h3 _
  have e4 : Cert.ScanRefIdeal.Loop.zOf m' c = Cert.ScanIdeal.Step.zOf m c := by funext b k r; exact congrFun h4 _
  have e5 : Cert.ScanRefIdeal.Loop.gOf m' c = Cert.ScanIdeal.Step.gOf m c := by funext v; exact congrFun h5 _
  funext (i : Cert.ScanIdeal.S4x4096x512.Idx)
  idx_vars i
  refine (Cert.ScanRefIdeal.Loop.result_apply m' c i0 i1 i2).trans ?_
  rw [e0, e1, e2, e3, e4, e5]
  exact (Cert.ScanIdeal.Step.G6_apply m c i0 i1 i2).symm

/-- Over the extended reals the first half-step kernel and its reference end with the same results. -/
theorem algebraic_FfnIdeal_FfnRefIdeal : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨h0, h1, h2, h3, h4, h5⟩ := hagree c
  refine Eq.trans ?_ (Cert.FfnIdeal.Block.arr_eq m c).symm
  rw [Cert.FfnRefIdeal.Read.val_main_v47_eq]
  funext (i : Cert.FfnIdeal.S4x4096x1024.Idx)
  idx_vars i
  rw [h0, h1, h2, h3, h4]
  exact Cert.FfnRefIdeal.Row.out_apply _ _ _ _ _ i0 i1 i2

/-- Over the extended reals the kernel of layer 0's second half-step and its reference end with the same results. -/
theorem algebraic_MixIdeal_MixRefIdeal : algebraic_MixIdeal_MixRefIdeal := by
  intro m ρ m' ρ' _ hagree
  refine ⟨_, Cert.MixIdeal.Value.run_blocks (F := Ideal) m ρ, ?_⟩
  refine (θ_run Cert.MixRefIdeal.defs _ _).mono (fun _ h c => ⟨?_, (h c).2⟩) (Cert.MixRefIdeal.Value.run (F := Ideal) m' ρ')
  rw [(h c).1]
  obtain ⟨h0, h1, h2, h3, h4, h5, h6, h7, h8⟩ := hagree c
  refine Eq.trans ?_ (Cert.MixIdeal.Block.arr_eq m c).symm
  rw [Cert.MixRefIdeal.Read.val_main_v59_eq]
  funext (i : Cert.MixIdeal.S4x4096x1024.Idx)
  idx_vars i
  rw [h0, h1, h2, h3, h4, h6, h7, h8]
  exact Cert.MixRefIdeal.Row.step_apply _ _ _ _ _ _ _ _ i0 i1 i2

/-- Over the extended reals the kernel of layer 1's last half-step and the final norm and its reference end with the same results. -/
theorem algebraic_FinIdeal_FinRefIdeal : algebraic_FinIdeal_FinRefIdeal := by
  intro m ρ m' ρ' _ hagree
  refine ⟨_, Cert.FinIdeal.Value.run_blocks (F := Ideal) m ρ, ?_⟩
  refine (θ_run Cert.FinRefIdeal.defs _ _).mono (fun _ h c => ⟨?_, (h c).2⟩) (Cert.FinRefIdeal.Value.run (F := Ideal) m' ρ')
  rw [(h c).1]
  obtain ⟨h0, h1, h2, h3, h4, h5, h6, h7, h8⟩ := hagree c
  refine Eq.trans ?_ (Cert.FinIdeal.Block.arr_eq m c).symm
  rw [Cert.FinRefIdeal.Read.val_main_v72_eq]
  funext (i : Cert.FinIdeal.S4x4096x1024.Idx)
  idx_vars i
  rw [h0, h1, h2, h3, h4, h5, h6, h7, h8]
  exact Cert.FinRefIdeal.Row.out_apply _ _ _ _ _ _ _ _ _ i0 i1 i2

/-- Over the extended reals the kernel of the mixers' input projection and its reference end with the same eleven results. -/
theorem algebraic_InpIdeal_InpRefIdeal : algebraic_InpIdeal_InpRefIdeal := by
  intro m ρ m' ρ' _ hagree
  refine ⟨_, _, _, _, _, _, _, _, _, _, _, Cert.InpIdeal.Run.run m ρ, ?_⟩
  refine (θ_run Cert.InpRefIdeal.defs _ _).mono (fun _ h c => ?_) (Cert.InpRefIdeal.Value.run (F := Ideal) m' ρ')
  obtain ⟨r0, r1, r2, r3, r4, r5, r6, r7, r8, r9, r10, hargs⟩ := h c
  obtain ⟨h0, h1, h2, h3, h4⟩ := hagree c
  replace h0 : StableHlo.launchContents m' c (Proc.devRef .tc Cert.InpRefIdeal.main_arg0)
      = m ((c.tc : Thread Cert.InpIdeal.nD Cert.InpIdeal.τ).loc Cert.InpIdeal.main_arg0) := h0
  replace h1 : StableHlo.launchContents m' c (Proc.devRef .tc Cert.InpRefIdeal.main_arg1)
      = m ((c.tc : Thread Cert.InpIdeal.nD Cert.InpIdeal.τ).loc Cert.InpIdeal.main_arg1) := h1
  replace h2 : StableHlo.launchContents m' c (Proc.devRef .tc Cert.InpRefIdeal.main_arg2)
      = m ((c.tc : Thread Cert.InpIdeal.nD Cert.InpIdeal.τ).loc Cert.InpIdeal.main_arg2) := h2
  replace h3 : StableHlo.launchContents m' c (Proc.devRef .tc Cert.InpRefIdeal.main_arg3)
      = m ((c.tc : Thread Cert.InpIdeal.nD Cert.InpIdeal.τ).loc Cert.InpIdeal.main_arg3) := h3
  replace h4 : StableHlo.launchContents m' c (Proc.devRef .tc Cert.InpRefIdeal.main_arg4)
      = m ((c.tc : Thread Cert.InpIdeal.nD Cert.InpIdeal.τ).loc Cert.InpIdeal.main_arg4) := h4
  refine ⟨r0.trans ((Cert.InpRefIdeal.Read.val_main_v49_eq _).trans ?_),
    r1.trans ((Cert.InpRefIdeal.Read.val_main_v50_eq _).trans ?_),
    r2.trans ((Cert.InpRefIdeal.Read.val_main_v64_eq _).trans ?_),
    r3.trans ((Cert.InpRefIdeal.Read.val_main_v131_eq _).trans ?_),
    r4.trans ((Cert.InpRefIdeal.Read.val_main_v132_eq _).trans ?_),
    r5.trans ((Cert.InpRefIdeal.Read.val_main_v150_eq _).trans ?_),
    r6.trans ((Cert.InpRefIdeal.Read.val_main_v55_eq _).trans ?_),
    r7.trans ((Cert.InpRefIdeal.Read.val_main_v151_eq _).trans ?_),
    r8.trans ((Cert.InpRefIdeal.Read.val_main_v152_eq _).trans ?_),
    r9.trans ((Cert.InpRefIdeal.Read.val_main_v171_eq _).trans ?_),
    r10.trans ((Cert.InpRefIdeal.Read.val_main_v172_eq _).trans ?_), hargs⟩ <;> clear r0 r1 r2 r3 r4 r5 r6 r7 r8 r9 r10 hargs h
  · funext (i : Cert.InpIdeal.S4x4096x1536.Idx)
    idx_vars i
    rw [h0, h1, h2, h3]
    exact (Cert.InpRefIdeal.Row.s49_apply _ _ _ _ i0 i1 i2).trans (by rw [Nat.zero_add]; rfl)
  · funext (i : Cert.InpIdeal.S4x4096x512.Idx)
    idx_vars i
    rw [h0, h1, h2, h3]
    exact Cert.InpRefIdeal.Row.s50_apply _ _ _ _ i0 i1 i2
  · funext (i : Cert.InpIdeal.S4x4096x128.Idx)
    idx_vars i
    rw [h0, h1, h2, h3]
    exact Cert.InpRefIdeal.Row.ba_apply _ _ _ _ i0 i1 i2
  · funext (i : Cert.InpIdeal.S4x32x4096.Idx)
    idx_vars i
    rw [h0, h1, h2, h3]
    exact Cert.InpRefIdeal.Row.bat_apply _ _ _ _ i0 i1 i2
  · funext (i : Cert.InpIdeal.S4x8x4096x128.Idx)
    idx_vars i
    rw [h0, h1, h2, h3, h4]
    exact Cert.InpRefIdeal.Row.query_apply _ _ _ _ _ i0 i1 i2 i3
  · funext (i : Cert.InpIdeal.S4x4096x128.Idx)
    idx_vars i
    rw [h0, h1, h2, h3, h4]
    exact Cert.InpRefIdeal.Row.key150_apply _ _ _ _ _ i0 i1 i2
  · funext (i : Cert.InpIdeal.S4x4096x128.Idx)
    idx_vars i
    rw [h0, h1, h2, h3]
    exact Cert.InpRefIdeal.Row.s55_apply _ _ _ _ i0 i1 i2
  · funext (i : Cert.InpIdeal.S4x2x4096x128.Idx)
    idx_vars i
    rw [h0, h1, h2, h3, h4]
    exact Cert.InpRefIdeal.Row.mark_key_apply _ _ _ _ _ i0 i1 i2 i3
  · funext (i : Cert.InpIdeal.S4x4096x128.Idx)
    idx_vars i
    rw [h0, h1, h2, h3]
    exact Cert.InpRefIdeal.Row.v152_apply _ _ _ _ i0 i1 i2
  · funext (i : Cert.InpIdeal.S4x4096x128.Idx)
    idx_vars i
    rw [h0, h1, h2, h3, h4]
    exact Cert.InpRefIdeal.Row.key171_apply _ _ _ _ _ i0 i1 i2
  · funext (i : Cert.InpIdeal.S4x4096x128.Idx)
    idx_vars i
    rw [h0, h1, h2, h3]
    exact Cert.InpRefIdeal.Row.v172_apply _ _ _ _ i0 i1 i2

/-- The reference of the compression ends with its semaphores at zero and its arguments as they were. -/
theorem quiescent_CmpRefIdeal : quiescent_CmpRefIdeal := fun m ρ _ =>
  (θ_run Cert.CmpRefIdeal.defs _ _).mono (fun r h => ⟨fun c => (h c).2, sem_eq_zero_of_no_sems (by decide) r.2⟩)
    (Cert.CmpRefIdeal.Value.run (F := Ideal) m ρ)

/-- Over the extended reals the kernel of the compression and its reference end with the same results. -/
theorem algebraic_CmpIdeal_CmpRefIdeal : algebraic_CmpIdeal_CmpRefIdeal := by
  intro m ρ m' ρ' _ hagree
  refine ⟨_, Cert.CmpIdeal.Value.run_blocks (F := Ideal) m ρ, ?_⟩
  refine (θ_run Cert.CmpRefIdeal.defs _ _).mono (fun _ h c => ⟨?_, (h c).2⟩) (Cert.CmpRefIdeal.Value.run (F := Ideal) m' ρ')
  rw [(h c).1]
  obtain ⟨h0, h1, h2, h3⟩ := hagree c
  refine Eq.trans ?_ (Cert.CmpIdeal.Block.arr_eq m c).symm
  rw [Cert.CmpRefIdeal.Read.val_main_v35_eq]
  funext (i : Cert.CmpIdeal.S4x256x128.Idx)
  idx_vars i
  rw [h0, h1, h2, h3]
  exact Cert.CmpRefIdeal.Row.out_apply _ _ _ _ i0 i1 i2

/-- All the claims. -/
theorem claim : Cert.Claim := ⟨Cert.Scan.Gen.facts, Cert.ScanIdeal.Gen.facts, Cert.ScanRefIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Fin.Gen.facts, Cert.FinIdeal.Gen.facts, Cert.FinRefIdeal.Gen.facts,
  Cert.Inp.Gen.facts, Cert.InpIdeal.Gen.facts, Cert.InpRefIdeal.Gen.facts, Cert.Cmp.Gen.facts, Cert.CmpIdeal.Gen.facts, Cert.CmpRefIdeal.Gen.facts,
  fun m ρ _ => Cert.Scan.Gen.frame m ρ, fun m ρ _ => Cert.ScanIdeal.Gen.frame m ρ, quiescent_ScanRefIdeal,
  fun m ρ _ => Cert.Ffn.Gen.frame m ρ, fun m ρ _ => Cert.FfnIdeal.Gen.frame m ρ, quiescent_FfnRefIdeal,
  fun m ρ _ => Cert.Mix.Gen.frame m ρ, fun m ρ _ => Cert.MixIdeal.Gen.frame m ρ, quiescent_MixRefIdeal,
  fun m ρ _ => Cert.Fin.Gen.frame m ρ, fun m ρ _ => Cert.FinIdeal.Gen.frame m ρ, quiescent_FinRefIdeal,
  fun m ρ _ => Cert.Inp.Gen.frame m ρ, fun m ρ _ => Cert.InpIdeal.Gen.frame m ρ, quiescent_InpRefIdeal,
  fun m ρ _ => Cert.Cmp.Gen.frame m ρ, fun m ρ _ => Cert.CmpIdeal.Gen.frame m ρ, quiescent_CmpRefIdeal,
  (trivial : preserves_Scan_ScanIdeal), algebraic_ScanIdeal_ScanRefIdeal,
  (trivial : preserves_Ffn_FfnIdeal), algebraic_FfnIdeal_FfnRefIdeal,
  (trivial : preserves_Mix_MixIdeal), algebraic_MixIdeal_MixRefIdeal,
  (trivial : preserves_Fin_FinIdeal), algebraic_FinIdeal_FinRefIdeal,
  (trivial : preserves_Inp_InpIdeal), algebraic_InpIdeal_InpRefIdeal,
  (trivial : preserves_Cmp_CmpIdeal), algebraic_CmpIdeal_CmpRefIdeal⟩

end Cert.Proof

end
